-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S16384x2048 : Shape := ⟨2, ![16384, 2048]⟩
abbrev S256x1024 : Shape := ⟨2, ![256, 1024]⟩
abbrev S256x2048 : Shape := ⟨2, ![256, 2048]⟩
abbrev S256x1 : Shape := ⟨2, ![256, 1]⟩
abbrev S256 : Shape := ⟨1, ![256]⟩
abbrev S256x8x128 : Shape := ⟨3, ![256, 8, 128]⟩
abbrev S256x128x8 : Shape := ⟨3, ![256, 128, 8]⟩

abbrev nBuf : Space → Nat
  | .hbm => 2
  | .vmem => 4
  | .smem => 0
  | _ => 0

abbrev bufTy : (tb : Table) → Fin (tcTables nBuf tb) → BufTy
  | .hbm, ⟨0, _⟩ => ⟨S16384x1024, .f32⟩
  | .hbm, ⟨1, _⟩ => ⟨S16384x2048, .f32⟩
  | .local _ .vmem, ⟨0, _⟩ => ⟨S256x1024, .f32⟩
  | .local _ .vmem, ⟨1, _⟩ => ⟨S256x1024, .f32⟩
  | .local _ .vmem, ⟨2, _⟩ => ⟨S256x2048, .f32⟩
  | .local _ .vmem, ⟨3, _⟩ => ⟨S256x2048, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16384x1024 : Shape := ⟨2, ![16384, 1024]⟩
abbrev S_ : Shape := ⟨0, ![]⟩
abbrev S1 : Shape := ⟨1, ![1]⟩
abbrev S2 : Shape := ⟨1, ![2]⟩
abbrev S2x1 : Shape := ⟨2, ![2, 1]⟩
abbrev S2x2 : Shape := ⟨2, ![2, 2]⟩
abbrev S1x2 : Shape := ⟨2, ![1, 2]⟩
abbrev S16384 : Shape := ⟨1, ![16384]⟩
abbrev S1024 : Shape := ⟨1, ![1024]⟩
abbrev S1x1024 : Shape := ⟨2, ![1, 1024]⟩
abbrev S16384x1 : Shape := ⟨2, ![16384, 1]⟩
abbrev S1x1 : Shape := ⟨2, ![1, 1]⟩
abbrev S16384x1024x1 : Shape := ⟨3, ![16384, 1024, 1]⟩
abbrev S1x1x1 : Shape := ⟨3, ![1, 1, 1]⟩
abbrev S16384x2048 : Shape := ⟨2, ![16384, 2048]⟩

abbrev nBuf : Space → Nat
  | .hbm => 1315
  | .vmem => 0
  | .smem => 0
  | _ => 0

abbrev hbmTy0_0 (i : Nat) : BufTy := match i % 128 with
  | 0 => ⟨S16384x1024, .f32⟩
  | 1 => ⟨S_, .i32⟩
  | 2 => ⟨S_, .i32⟩
  | 3 => ⟨S_, .i32⟩
  | 4 => ⟨S_, .i32⟩
  | 5 => ⟨S1, .i32⟩
  | 6 => ⟨S_, .i32⟩
  | 7 => ⟨S_, .i32⟩
  | 8 => ⟨S_, .i32⟩
  | 9 => ⟨S1, .i32⟩
  | 10 => ⟨S2, .i32⟩
  | 11 => ⟨S1, .i32⟩
  | 12 => ⟨S_, .i32⟩
  | 13 => ⟨S1, .i32⟩
  | 14 => ⟨S_, .i32⟩
  | 15 => ⟨S2, .i64⟩
  | 16 => ⟨S_, .i64⟩
  | 17 => ⟨S2, .i64⟩
  | 18 => ⟨S2, .i64⟩
  | 19 => ⟨S_, .i64⟩
  | 20 => ⟨S2, .i64⟩
  | 21 => ⟨S2, .i64⟩
  | 22 => ⟨S2, .i32⟩
  | 23 => ⟨S2, .i32⟩
  | 24 => ⟨S_, .i32⟩
  | 25 => ⟨S_, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S_, .i32⟩
  | 72 => ⟨S2, .i32⟩
  | 73 => ⟨S2, .i32⟩
  | 74 => ⟨S2, .i32⟩
  | 75 => ⟨S_, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S2, .i32⟩
  | 83 => ⟨S2, .i32⟩
  | 84 => ⟨S_, .i32⟩
  | 85 => ⟨S2, .i32⟩
  | 86 => ⟨S2, .i32⟩
  | 87 => ⟨S_, .i32⟩
  | 88 => ⟨S2, .i32⟩
  | 89 => ⟨S2, .i32⟩
  | 90 => ⟨S2, .i32⟩
  | 91 => ⟨S2, .i32⟩
  | 92 => ⟨S2, .i32⟩
  | 93 => ⟨S_, .i32⟩
  | 94 => ⟨S2, .i32⟩
  | 95 => ⟨S2, .i32⟩
  | 96 => ⟨S_, .i32⟩
  | 97 => ⟨S2, .i32⟩
  | 98 => ⟨S2, .i32⟩
  | 99 => ⟨S2, .i32⟩
  | 100 => ⟨S2, .i32⟩
  | 101 => ⟨S2, .i32⟩
  | 102 => ⟨S_, .i32⟩
  | 103 => ⟨S2, .i32⟩
  | 104 => ⟨S2, .i32⟩
  | 105 => ⟨S_, .i32⟩
  | 106 => ⟨S2, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S_, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2, .i32⟩
  | 125 => ⟨S2, .i32⟩
  | 126 => ⟨S2, .i32⟩
  | 127 => ⟨S_, .i32⟩
  | _ => ⟨S16384x1024, .f32⟩

abbrev hbmTy0_1 (i : Nat) : BufTy := match i % 128 with
  | 0 => ⟨S2, .i32⟩
  | 1 => ⟨S2, .i32⟩
  | 2 => ⟨S_, .i32⟩
  | 3 => ⟨S2, .i32⟩
  | 4 => ⟨S2, .i32⟩
  | 5 => ⟨S2, .i32⟩
  | 6 => ⟨S2, .i32⟩
  | 7 => ⟨S2, .i32⟩
  | 8 => ⟨S_, .i32⟩
  | 9 => ⟨S2, .i32⟩
  | 10 => ⟨S2, .i32⟩
  | 11 => ⟨S_, .i32⟩
  | 12 => ⟨S2, .i32⟩
  | 13 => ⟨S2, .i32⟩
  | 14 => ⟨S2, .i32⟩
  | 15 => ⟨S2, .i32⟩
  | 16 => ⟨S2, .i32⟩
  | 17 => ⟨S_, .i32⟩
  | 18 => ⟨S2, .i32⟩
  | 19 => ⟨S2, .i32⟩
  | 20 => ⟨S_, .i32⟩
  | 21 => ⟨S2, .i32⟩
  | 22 => ⟨S2, .i32⟩
  | 23 => ⟨S2, .i32⟩
  | 24 => ⟨S2, .i32⟩
  | 25 => ⟨S2, .i32⟩
  | 26 => ⟨S2, .i32⟩
  | 27 => ⟨S2, .i32⟩
  | 28 => ⟨S2, .i32⟩
  | 29 => ⟨S_, .i32⟩
  | 30 => ⟨S2, .i32⟩
  | 31 => ⟨S2, .i32⟩
  | 32 => ⟨S2, .i32⟩
  | 33 => ⟨S_, .i32⟩
  | 34 => ⟨S2, .i32⟩
  | 35 => ⟨S2, .i32⟩
  | 36 => ⟨S_, .i32⟩
  | 37 => ⟨S2, .i32⟩
  | 38 => ⟨S2, .i32⟩
  | 39 => ⟨S2, .i32⟩
  | 40 => ⟨S2, .i32⟩
  | 41 => ⟨S2, .i32⟩
  | 42 => ⟨S_, .i32⟩
  | 43 => ⟨S2, .i32⟩
  | 44 => ⟨S2, .i32⟩
  | 45 => ⟨S_, .i32⟩
  | 46 => ⟨S2, .i32⟩
  | 47 => ⟨S2, .i32⟩
  | 48 => ⟨S2, .i32⟩
  | 49 => ⟨S2, .i32⟩
  | 50 => ⟨S2, .i32⟩
  | 51 => ⟨S_, .i32⟩
  | 52 => ⟨S2, .i32⟩
  | 53 => ⟨S2, .i32⟩
  | 54 => ⟨S_, .i32⟩
  | 55 => ⟨S2, .i32⟩
  | 56 => ⟨S2, .i32⟩
  | 57 => ⟨S2, .i32⟩
  | 58 => ⟨S2, .i32⟩
  | 59 => ⟨S2, .i32⟩
  | 60 => ⟨S_, .i32⟩
  | 61 => ⟨S2, .i32⟩
  | 62 => ⟨S2, .i32⟩
  | 63 => ⟨S_, .i32⟩
  | 64 => ⟨S2, .i32⟩
  | 65 => ⟨S2, .i32⟩
  | 66 => ⟨S2, .i32⟩
  | 67 => ⟨S2, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S2, .i32⟩
  | 114 => ⟨S2, .i32⟩
  | 115 => ⟨S_, .i32⟩
  | 116 => ⟨S2, .i32⟩
  | 117 => ⟨S2, .i32⟩
  | 118 => ⟨S2x1, .i32⟩
  | 119 => ⟨S2x1, .i32⟩
  | 120 => ⟨S2x2, .i32⟩
  | 121 => ⟨S1x2, .i32⟩
  | 122 => ⟨S2, .i32⟩
  | 123 => ⟨S1x2, .i32⟩
  | 124 => ⟨S2, .i32⟩
  | 125 => ⟨S_, .i32⟩
  | 126 => ⟨S_, .i32⟩
  | 127 => ⟨S_, .i32⟩
  | _ => ⟨S16384x1024, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S1, .i32⟩
  | 16 => ⟨S1, .i32⟩
  | 17 => ⟨S1, .i32⟩
  | 18 => ⟨S_, .i32⟩
  | 19 => ⟨S1, .i32⟩
  | 20 => ⟨S_, .i32⟩
  | 21 => ⟨S2, .i64⟩
  | 22 => ⟨S_, .i64⟩
  | 23 => ⟨S2, .i64⟩
  | 24 => ⟨S2, .i64⟩
  | 25 => ⟨S_, .i64⟩
  | 26 => ⟨S2, .i64⟩
  | 27 => ⟨S2, .i64⟩
  | 28 => ⟨S2, .i32⟩
  | 29 => ⟨S2, .i32⟩
  | 30 => ⟨S_, .i32⟩
  | 31 => ⟨S_, .i32⟩
  | 32 => ⟨S_, .i32⟩
  | 33 => ⟨S2, .i32⟩
  | 34 => ⟨S2, .i32⟩
  | 35 => ⟨S2, .i32⟩
  | 36 => ⟨S2, .i32⟩
  | 37 => ⟨S2, .i32⟩
  | 38 => ⟨S_, .i32⟩
  | 39 => ⟨S2, .i32⟩
  | 40 => ⟨S2, .i32⟩
  | 41 => ⟨S_, .i32⟩
  | 42 => ⟨S2, .i32⟩
  | 43 => ⟨S2, .i32⟩
  | 44 => ⟨S2, .i32⟩
  | 45 => ⟨S2, .i32⟩
  | 46 => ⟨S2, .i32⟩
  | 47 => ⟨S_, .i32⟩
  | 48 => ⟨S2, .i32⟩
  | 49 => ⟨S2, .i32⟩
  | 50 => ⟨S_, .i32⟩
  | 51 => ⟨S2, .i32⟩
  | 52 => ⟨S2, .i32⟩
  | 53 => ⟨S2, .i32⟩
  | 54 => ⟨S2, .i32⟩
  | 55 => ⟨S2, .i32⟩
  | 56 => ⟨S_, .i32⟩
  | 57 => ⟨S2, .i32⟩
  | 58 => ⟨S2, .i32⟩
  | 59 => ⟨S_, .i32⟩
  | 60 => ⟨S2, .i32⟩
  | 61 => ⟨S2, .i32⟩
  | 62 => ⟨S2, .i32⟩
  | 63 => ⟨S2, .i32⟩
  | 64 => ⟨S2, .i32⟩
  | 65 => ⟨S_, .i32⟩
  | 66 => ⟨S2, .i32⟩
  | 67 => ⟨S2, .i32⟩
  | 68 => ⟨S_, .i32⟩
  | 69 => ⟨S2, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S2, .i32⟩
  | 124 => ⟨S_, .i32⟩
  | 125 => ⟨S2, .i32⟩
  | 126 => ⟨S2, .i32⟩
  | 127 => ⟨S_, .i32⟩
  | _ => ⟨S16384x1024, .f32⟩

abbrev hbmTy0_3 (i : Nat) : BufTy := match i % 128 with
  | 0 => ⟨S2, .i32⟩
  | 1 => ⟨S2, .i32⟩
  | 2 => ⟨S2, .i32⟩
  | 3 => ⟨S2, .i32⟩
  | 4 => ⟨S2, .i32⟩
  | 5 => ⟨S_, .i32⟩
  | 6 => ⟨S2, .i32⟩
  | 7 => ⟨S2, .i32⟩
  | 8 => ⟨S_, .i32⟩
  | 9 => ⟨S2, .i32⟩
  | 10 => ⟨S2, .i32⟩
  | 11 => ⟨S2, .i32⟩
  | 12 => ⟨S2, .i32⟩
  | 13 => ⟨S2, .i32⟩
  | 14 => ⟨S_, .i32⟩
  | 15 => ⟨S2, .i32⟩
  | 16 => ⟨S2, .i32⟩
  | 17 => ⟨S_, .i32⟩
  | 18 => ⟨S2, .i32⟩
  | 19 => ⟨S2, .i32⟩
  | 20 => ⟨S2, .i32⟩
  | 21 => ⟨S2, .i32⟩
  | 22 => ⟨S2, .i32⟩
  | 23 => ⟨S_, .i32⟩
  | 24 => ⟨S2, .i32⟩
  | 25 => ⟨S2, .i32⟩
  | 26 => ⟨S_, .i32⟩
  | 27 => ⟨S2, .i32⟩
  | 28 => ⟨S2, .i32⟩
  | 29 => ⟨S2, .i32⟩
  | 30 => ⟨S2, .i32⟩
  | 31 => ⟨S2, .i32⟩
  | 32 => ⟨S2, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S_, .i32⟩
  | 40 => ⟨S2, .i32⟩
  | 41 => ⟨S2, .i32⟩
  | 42 => ⟨S_, .i32⟩
  | 43 => ⟨S2, .i32⟩
  | 44 => ⟨S2, .i32⟩
  | 45 => ⟨S2, .i32⟩
  | 46 => ⟨S2, .i32⟩
  | 47 => ⟨S2, .i32⟩
  | 48 => ⟨S_, .i32⟩
  | 49 => ⟨S2, .i32⟩
  | 50 => ⟨S2, .i32⟩
  | 51 => ⟨S_, .i32⟩
  | 52 => ⟨S2, .i32⟩
  | 53 => ⟨S2, .i32⟩
  | 54 => ⟨S2, .i32⟩
  | 55 => ⟨S2, .i32⟩
  | 56 => ⟨S2, .i32⟩
  | 57 => ⟨S_, .i32⟩
  | 58 => ⟨S2, .i32⟩
  | 59 => ⟨S2, .i32⟩
  | 60 => ⟨S_, .i32⟩
  | 61 => ⟨S2, .i32⟩
  | 62 => ⟨S2, .i32⟩
  | 63 => ⟨S2, .i32⟩
  | 64 => ⟨S2, .i32⟩
  | 65 => ⟨S2, .i32⟩
  | 66 => ⟨S_, .i32⟩
  | 67 => ⟨S2, .i32⟩
  | 68 => ⟨S2, .i32⟩
  | 69 => ⟨S_, .i32⟩
  | 70 => ⟨S2, .i32⟩
  | 71 => ⟨S2, .i32⟩
  | 72 => ⟨S2, .i32⟩
  | 73 => ⟨S2, .i32⟩
  | 74 => ⟨S2, .i32⟩
  | 75 => ⟨S2, .i32⟩
  | 76 => ⟨S2, .i32⟩
  | 77 => ⟨S2, .i32⟩
  | 78 => ⟨S_, .i32⟩
  | 79 => ⟨S2, .i32⟩
  | 80 => ⟨S2, .i32⟩
  | 81 => ⟨S2, .i32⟩
  | 82 => ⟨S_, .i32⟩
  | 83 => ⟨S2, .i32⟩
  | 84 => ⟨S2, .i32⟩
  | 85 => ⟨S_, .i32⟩
  | 86 => ⟨S2, .i32⟩
  | 87 => ⟨S2, .i32⟩
  | 88 => ⟨S2, .i32⟩
  | 89 => ⟨S2, .i32⟩
  | 90 => ⟨S2, .i32⟩
  | 91 => ⟨S_, .i32⟩
  | 92 => ⟨S2, .i32⟩
  | 93 => ⟨S2, .i32⟩
  | 94 => ⟨S_, .i32⟩
  | 95 => ⟨S2, .i32⟩
  | 96 => ⟨S2, .i32⟩
  | 97 => ⟨S2, .i32⟩
  | 98 => ⟨S2, .i32⟩
  | 99 => ⟨S2, .i32⟩
  | 100 => ⟨S_, .i32⟩
  | 101 => ⟨S2, .i32⟩
  | 102 => ⟨S2, .i32⟩
  | 103 => ⟨S_, .i32⟩
  | 104 => ⟨S2, .i32⟩
  | 105 => ⟨S2, .i32⟩
  | 106 => ⟨S2, .i32⟩
  | 107 => ⟨S2, .i32⟩
  | 108 => ⟨S2, .i32⟩
  | 109 => ⟨S_, .i32⟩
  | 110 => ⟨S2, .i32⟩
  | 111 => ⟨S2, .i32⟩
  | 112 => ⟨S_, .i32⟩
  | 113 => ⟨S2, .i32⟩
  | 114 => ⟨S2, .i32⟩
  | 115 => ⟨S2, .i32⟩
  | 116 => ⟨S2, .i32⟩
  | 117 => ⟨S2, .i32⟩
  | 118 => ⟨S2, .i32⟩
  | 119 => ⟨S2, .i32⟩
  | 120 => ⟨S2, .i32⟩
  | 121 => ⟨S_, .i32⟩
  | 122 => ⟨S2, .i32⟩
  | 123 => ⟨S2, .i32⟩
  | 124 => ⟨S2x1, .i32⟩
  | 125 => ⟨S2x1, .i32⟩
  | 126 => ⟨S2x2, .i32⟩
  | 127 => ⟨S1x2, .i32⟩
  | _ => ⟨S16384x1024, .f32⟩

abbrev hbmTy0_4 (i : Nat) : BufTy := match i % 128 with
  | 0 => ⟨S2, .i32⟩
  | 1 => ⟨S1x2, .i32⟩
  | 2 => ⟨S2, .i32⟩
  | 3 => ⟨S1, .i32⟩
  | 4 => ⟨S_, .i32⟩
  | 5 => ⟨S1, .i32⟩
  | 6 => ⟨S_, .i32⟩
  | 7 => ⟨S16384, .i64⟩
  | 8 => ⟨S_, .i64⟩
  | 9 => ⟨S16384, .i64⟩
  | 10 => ⟨S16384, .i64⟩
  | 11 => ⟨S_, .i64⟩
  | 12 => ⟨S16384, .i64⟩
  | 13 => ⟨S16384, .i64⟩
  | 14 => ⟨S16384, .i32⟩
  | 15 => ⟨S16384, .i32⟩
  | 16 => ⟨S_, .i32⟩
  | 17 => ⟨S_, .i32⟩
  | 18 => ⟨S_, .i32⟩
  | 19 => ⟨S16384, .i32⟩
  | 20 => ⟨S16384, .i32⟩
  | 21 => ⟨S16384, .i32⟩
  | 22 => ⟨S16384, .i32⟩
  | 23 => ⟨S16384, .i32⟩
  | 24 => ⟨S_, .i32⟩
  | 25 => ⟨S16384, .i32⟩
  | 26 => ⟨S16384, .i32⟩
  | 27 => ⟨S_, .i32⟩
  | 28 => ⟨S16384, .i32⟩
  | 29 => ⟨S16384, .i32⟩
  | 30 => ⟨S16384, .i32⟩
  | 31 => ⟨S16384, .i32⟩
  | 32 => ⟨S16384, .i32⟩
  | 33 => ⟨S_, .i32⟩
  | 34 => ⟨S16384, .i32⟩
  | 35 => ⟨S16384, .i32⟩
  | 36 => ⟨S_, .i32⟩
  | 37 => ⟨S16384, .i32⟩
  | 38 => ⟨S16384, .i32⟩
  | 39 => ⟨S16384, .i32⟩
  | 40 => ⟨S16384, .i32⟩
  | 41 => ⟨S16384, .i32⟩
  | 42 => ⟨S_, .i32⟩
  | 43 => ⟨S16384, .i32⟩
  | 44 => ⟨S16384, .i32⟩
  | 45 => ⟨S_, .i32⟩
  | 46 => ⟨S16384, .i32⟩
  | 47 => ⟨S16384, .i32⟩
  | 48 => ⟨S16384, .i32⟩
  | 49 => ⟨S16384, .i32⟩
  | 50 => ⟨S16384, .i32⟩
  | 51 => ⟨S_, .i32⟩
  | 52 => ⟨S16384, .i32⟩
  | 53 => ⟨S16384, .i32⟩
  | 54 => ⟨S_, .i32⟩
  | 55 => ⟨S16384, .i32⟩
  | 56 => ⟨S16384, .i32⟩
  | 57 => ⟨S16384, .i32⟩
  | 58 => ⟨S16384, .i32⟩
  | 59 => ⟨S16384, .i32⟩
  | 60 => ⟨S16384, .i32⟩
  | 61 => ⟨S16384, .i32⟩
  | 62 => ⟨S16384, .i32⟩
  | 63 => ⟨S_, .i32⟩
  | 64 => ⟨S16384, .i32⟩
  | 65 => ⟨S16384, .i32⟩
  | 66 => ⟨S16384, .i32⟩
  | 67 => ⟨S_, .i32⟩
  | 68 => ⟨S16384, .i32⟩
  | 69 => ⟨S16384, .i32⟩
  | 70 => ⟨S_, .i32⟩
  | 71 => ⟨S16384, .i32⟩
  | 72 => ⟨S16384, .i32⟩
  | 73 => ⟨S16384, .i32⟩
  | 74 => ⟨S16384, .i32⟩
  | 75 => ⟨S16384, .i32⟩
  | 76 => ⟨S_, .i32⟩
  | 77 => ⟨S16384, .i32⟩
  | 78 => ⟨S16384, .i32⟩
  | 79 => ⟨S_, .i32⟩
  | 80 => ⟨S16384, .i32⟩
  | 81 => ⟨S16384, .i32⟩
  | 82 => ⟨S16384, .i32⟩
  | 83 => ⟨S16384, .i32⟩
  | 84 => ⟨S16384, .i32⟩
  | 85 => ⟨S_, .i32⟩
  | 86 => ⟨S16384, .i32⟩
  | 87 => ⟨S16384, .i32⟩
  | 88 => ⟨S_, .i32⟩
  | 89 => ⟨S16384, .i32⟩
  | 90 => ⟨S16384, .i32⟩
  | 91 => ⟨S16384, .i32⟩
  | 92 => ⟨S16384, .i32⟩
  | 93 => ⟨S16384, .i32⟩
  | 94 => ⟨S_, .i32⟩
  | 95 => ⟨S16384, .i32⟩
  | 96 => ⟨S16384, .i32⟩
  | 97 => ⟨S_, .i32⟩
  | 98 => ⟨S16384, .i32⟩
  | 99 => ⟨S16384, .i32⟩
  | 100 => ⟨S16384, .i32⟩
  | 101 => ⟨S16384, .i32⟩
  | 102 => ⟨S16384, .i32⟩
  | 103 => ⟨S16384, .i32⟩
  | 104 => ⟨S16384, .i32⟩
  | 105 => ⟨S16384, .i32⟩
  | 106 => ⟨S_, .i32⟩
  | 107 => ⟨S16384, .i32⟩
  | 108 => ⟨S16384, .i32⟩
  | 109 => ⟨S16384, .i32⟩
  | 110 => ⟨S_, .i32⟩
  | 111 => ⟨S16384, .i32⟩
  | 112 => ⟨S16384, .i32⟩
  | 113 => ⟨S_, .i32⟩
  | 114 => ⟨S16384, .i32⟩
  | 115 => ⟨S16384, .i32⟩
  | 116 => ⟨S16384, .i32⟩
  | 117 => ⟨S16384, .i32⟩
  | 118 => ⟨S16384, .i32⟩
  | 119 => ⟨S_, .i32⟩
  | 120 => ⟨S16384, .i32⟩
  | 121 => ⟨S16384, .i32⟩
  | 122 => ⟨S_, .i32⟩
  | 123 => ⟨S16384, .i32⟩
  | 124 => ⟨S16384, .i32⟩
  | 125 => ⟨S16384, .i32⟩
  | 126 => ⟨S16384, .i32⟩
  | 127 => ⟨S16384, .i32⟩
  | _ => ⟨S16384x1024, .f32⟩

abbrev hbmTy0_5 (i : Nat) : BufTy := match i % 128 with
  | 0 => ⟨S_, .i32⟩
  | 1 => ⟨S16384, .i32⟩
  | 2 => ⟨S16384, .i32⟩
  | 3 => ⟨S_, .i32⟩
  | 4 => ⟨S16384, .i32⟩
  | 5 => ⟨S16384, .i32⟩
  | 6 => ⟨S16384, .i32⟩
  | 7 => ⟨S16384, .i32⟩
  | 8 => ⟨S16384, .i32⟩
  | 9 => ⟨S_, .i32⟩
  | 10 => ⟨S16384, .i32⟩
  | 11 => ⟨S16384, .i32⟩
  | 12 => ⟨S_, .i32⟩
  | 13 => ⟨S16384, .i32⟩
  | 14 => ⟨S16384, .i32⟩
  | 15 => ⟨S16384, .i32⟩
  | 16 => ⟨S16384, .i32⟩
  | 17 => ⟨S16384, .i32⟩
  | 18 => ⟨S16384, .i32⟩
  | 19 => ⟨S16384, .i32⟩
  | 20 => ⟨S16384, .i32⟩
  | 21 => ⟨S_, .i32⟩
  | 22 => ⟨S16384, .i32⟩
  | 23 => ⟨S16384, .i32⟩
  | 24 => ⟨S16384, .i32⟩
  | 25 => ⟨S_, .i32⟩
  | 26 => ⟨S16384, .i32⟩
  | 27 => ⟨S16384, .i32⟩
  | 28 => ⟨S_, .i32⟩
  | 29 => ⟨S16384, .i32⟩
  | 30 => ⟨S16384, .i32⟩
  | 31 => ⟨S16384, .i32⟩
  | 32 => ⟨S16384, .i32⟩
  | 33 => ⟨S16384, .i32⟩
  | 34 => ⟨S_, .i32⟩
  | 35 => ⟨S16384, .i32⟩
  | 36 => ⟨S16384, .i32⟩
  | 37 => ⟨S_, .i32⟩
  | 38 => ⟨S16384, .i32⟩
  | 39 => ⟨S16384, .i32⟩
  | 40 => ⟨S16384, .i32⟩
  | 41 => ⟨S16384, .i32⟩
  | 42 => ⟨S16384, .i32⟩
  | 43 => ⟨S_, .i32⟩
  | 44 => ⟨S16384, .i32⟩
  | 45 => ⟨S16384, .i32⟩
  | 46 => ⟨S_, .i32⟩
  | 47 => ⟨S16384, .i32⟩
  | 48 => ⟨S16384, .i32⟩
  | 49 => ⟨S16384, .i32⟩
  | 50 => ⟨S16384, .i32⟩
  | 51 => ⟨S16384, .i32⟩
  | 52 => ⟨S_, .i32⟩
  | 53 => ⟨S16384, .i32⟩
  | 54 => ⟨S16384, .i32⟩
  | 55 => ⟨S_, .i32⟩
  | 56 => ⟨S16384, .i32⟩
  | 57 => ⟨S16384, .i32⟩
  | 58 => ⟨S16384, .i32⟩
  | 59 => ⟨S16384, .i32⟩
  | 60 => ⟨S16384, .i32⟩
  | 61 => ⟨S16384, .i32⟩
  | 62 => ⟨S16384, .i32⟩
  | 63 => ⟨S16384, .i32⟩
  | 64 => ⟨S_, .i32⟩
  | 65 => ⟨S16384, .i32⟩
  | 66 => ⟨S16384, .i32⟩
  | 67 => ⟨S16384, .i32⟩
  | 68 => ⟨S_, .i32⟩
  | 69 => ⟨S16384, .i32⟩
  | 70 => ⟨S16384, .i32⟩
  | 71 => ⟨S_, .i32⟩
  | 72 => ⟨S16384, .i32⟩
  | 73 => ⟨S16384, .i32⟩
  | 74 => ⟨S16384, .i32⟩
  | 75 => ⟨S16384, .i32⟩
  | 76 => ⟨S16384, .i32⟩
  | 77 => ⟨S_, .i32⟩
  | 78 => ⟨S16384, .i32⟩
  | 79 => ⟨S16384, .i32⟩
  | 80 => ⟨S_, .i32⟩
  | 81 => ⟨S16384, .i32⟩
  | 82 => ⟨S16384, .i32⟩
  | 83 => ⟨S16384, .i32⟩
  | 84 => ⟨S16384, .i32⟩
  | 85 => ⟨S16384, .i32⟩
  | 86 => ⟨S_, .i32⟩
  | 87 => ⟨S16384, .i32⟩
  | 88 => ⟨S16384, .i32⟩
  | 89 => ⟨S_, .i32⟩
  | 90 => ⟨S16384, .i32⟩
  | 91 => ⟨S16384, .i32⟩
  | 92 => ⟨S16384, .i32⟩
  | 93 => ⟨S16384, .i32⟩
  | 94 => ⟨S16384, .i32⟩
  | 95 => ⟨S_, .i32⟩
  | 96 => ⟨S16384, .i32⟩
  | 97 => ⟨S16384, .i32⟩
  | 98 => ⟨S_, .i32⟩
  | 99 => ⟨S16384, .i32⟩
  | 100 => ⟨S16384, .i32⟩
  | 101 => ⟨S16384, .i32⟩
  | 102 => ⟨S16384, .i32⟩
  | 103 => ⟨S16384, .i32⟩
  | 104 => ⟨S16384, .i32⟩
  | 105 => ⟨S16384, .i32⟩
  | 106 => ⟨S16384, .i32⟩
  | 107 => ⟨S_, .i32⟩
  | 108 => ⟨S16384, .i32⟩
  | 109 => ⟨S16384, .i32⟩
  | 110 => ⟨S16384, .i32⟩
  | 111 => ⟨S1, .i32⟩
  | 112 => ⟨S_, .i32⟩
  | 113 => ⟨S1, .i32⟩
  | 114 => ⟨S_, .i32⟩
  | 115 => ⟨S16384, .i64⟩
  | 116 => ⟨S_, .i64⟩
  | 117 => ⟨S16384, .i64⟩
  | 118 => ⟨S16384, .i64⟩
  | 119 => ⟨S_, .i64⟩
  | 120 => ⟨S16384, .i64⟩
  | 121 => ⟨S16384, .i64⟩
  | 122 => ⟨S16384, .i32⟩
  | 123 => ⟨S16384, .i32⟩
  | 124 => ⟨S_, .i32⟩
  | 125 => ⟨S_, .i32⟩
  | 126 => ⟨S_, .i32⟩
  | 127 => ⟨S16384, .i32⟩
  | _ => ⟨S16384x1024, .f32⟩

abbrev hbmTy0_6 (i : Nat) : BufTy := match i % 128 with
  | 0 => ⟨S16384, .i32⟩
  | 1 => ⟨S16384, .i32⟩
  | 2 => ⟨S16384, .i32⟩
  | 3 => ⟨S16384, .i32⟩
  | 4 => ⟨S_, .i32⟩
  | 5 => ⟨S16384, .i32⟩
  | 6 => ⟨S16384, .i32⟩
  | 7 => ⟨S_, .i32⟩
  | 8 => ⟨S16384, .i32⟩
  | 9 => ⟨S16384, .i32⟩
  | 10 => ⟨S16384, .i32⟩
  | 11 => ⟨S16384, .i32⟩
  | 12 => ⟨S16384, .i32⟩
  | 13 => ⟨S_, .i32⟩
  | 14 => ⟨S16384, .i32⟩
  | 15 => ⟨S16384, .i32⟩
  | 16 => ⟨S_, .i32⟩
  | 17 => ⟨S16384, .i32⟩
  | 18 => ⟨S16384, .i32⟩
  | 19 => ⟨S16384, .i32⟩
  | 20 => ⟨S16384, .i32⟩
  | 21 => ⟨S16384, .i32⟩
  | 22 => ⟨S_, .i32⟩
  | 23 => ⟨S16384, .i32⟩
  | 24 => ⟨S16384, .i32⟩
  | 25 => ⟨S_, .i32⟩
  | 26 => ⟨S16384, .i32⟩
  | 27 => ⟨S16384, .i32⟩
  | 28 => ⟨S16384, .i32⟩
  | 29 => ⟨S16384, .i32⟩
  | 30 => ⟨S16384, .i32⟩
  | 31 => ⟨S_, .i32⟩
  | 32 => ⟨S16384, .i32⟩
  | 33 => ⟨S16384, .i32⟩
  | 34 => ⟨S_, .i32⟩
  | 35 => ⟨S16384, .i32⟩
  | 36 => ⟨S16384, .i32⟩
  | 37 => ⟨S16384, .i32⟩
  | 38 => ⟨S16384, .i32⟩
  | 39 => ⟨S16384, .i32⟩
  | 40 => ⟨S16384, .i32⟩
  | 41 => ⟨S16384, .i32⟩
  | 42 => ⟨S16384, .i32⟩
  | 43 => ⟨S_, .i32⟩
  | 44 => ⟨S16384, .i32⟩
  | 45 => ⟨S16384, .i32⟩
  | 46 => ⟨S16384, .i32⟩
  | 47 => ⟨S_, .i32⟩
  | 48 => ⟨S16384, .i32⟩
  | 49 => ⟨S16384, .i32⟩
  | 50 => ⟨S_, .i32⟩
  | 51 => ⟨S16384, .i32⟩
  | 52 => ⟨S16384, .i32⟩
  | 53 => ⟨S16384, .i32⟩
  | 54 => ⟨S16384, .i32⟩
  | 55 => ⟨S16384, .i32⟩
  | 56 => ⟨S_, .i32⟩
  | 57 => ⟨S16384, .i32⟩
  | 58 => ⟨S16384, .i32⟩
  | 59 => ⟨S_, .i32⟩
  | 60 => ⟨S16384, .i32⟩
  | 61 => ⟨S16384, .i32⟩
  | 62 => ⟨S16384, .i32⟩
  | 63 => ⟨S16384, .i32⟩
  | 64 => ⟨S16384, .i32⟩
  | 65 => ⟨S_, .i32⟩
  | 66 => ⟨S16384, .i32⟩
  | 67 => ⟨S16384, .i32⟩
  | 68 => ⟨S_, .i32⟩
  | 69 => ⟨S16384, .i32⟩
  | 70 => ⟨S16384, .i32⟩
  | 71 => ⟨S16384, .i32⟩
  | 72 => ⟨S16384, .i32⟩
  | 73 => ⟨S16384, .i32⟩
  | 74 => ⟨S_, .i32⟩
  | 75 => ⟨S16384, .i32⟩
  | 76 => ⟨S16384, .i32⟩
  | 77 => ⟨S_, .i32⟩
  | 78 => ⟨S16384, .i32⟩
  | 79 => ⟨S16384, .i32⟩
  | 80 => ⟨S16384, .i32⟩
  | 81 => ⟨S16384, .i32⟩
  | 82 => ⟨S16384, .i32⟩
  | 83 => ⟨S16384, .i32⟩
  | 84 => ⟨S16384, .i32⟩
  | 85 => ⟨S16384, .i32⟩
  | 86 => ⟨S_, .i32⟩
  | 87 => ⟨S16384, .i32⟩
  | 88 => ⟨S16384, .i32⟩
  | 89 => ⟨S16384, .i32⟩
  | 90 => ⟨S_, .i32⟩
  | 91 => ⟨S16384, .i32⟩
  | 92 => ⟨S16384, .i32⟩
  | 93 => ⟨S_, .i32⟩
  | 94 => ⟨S16384, .i32⟩
  | 95 => ⟨S16384, .i32⟩
  | 96 => ⟨S16384, .i32⟩
  | 97 => ⟨S16384, .i32⟩
  | 98 => ⟨S16384, .i32⟩
  | 99 => ⟨S_, .i32⟩
  | 100 => ⟨S16384, .i32⟩
  | 101 => ⟨S16384, .i32⟩
  | 102 => ⟨S_, .i32⟩
  | 103 => ⟨S16384, .i32⟩
  | 104 => ⟨S16384, .i32⟩
  | 105 => ⟨S16384, .i32⟩
  | 106 => ⟨S16384, .i32⟩
  | 107 => ⟨S16384, .i32⟩
  | 108 => ⟨S_, .i32⟩
  | 109 => ⟨S16384, .i32⟩
  | 110 => ⟨S16384, .i32⟩
  | 111 => ⟨S_, .i32⟩
  | 112 => ⟨S16384, .i32⟩
  | 113 => ⟨S16384, .i32⟩
  | 114 => ⟨S16384, .i32⟩
  | 115 => ⟨S16384, .i32⟩
  | 116 => ⟨S16384, .i32⟩
  | 117 => ⟨S_, .i32⟩
  | 118 => ⟨S16384, .i32⟩
  | 119 => ⟨S16384, .i32⟩
  | 120 => ⟨S_, .i32⟩
  | 121 => ⟨S16384, .i32⟩
  | 122 => ⟨S16384, .i32⟩
  | 123 => ⟨S16384, .i32⟩
  | 124 => ⟨S16384, .i32⟩
  | 125 => ⟨S16384, .i32⟩
  | 126 => ⟨S16384, .i32⟩
  | 127 => ⟨S16384, .i32⟩
  | _ => ⟨S16384x1024, .f32⟩

abbrev hbmTy0_7 (i : Nat) : BufTy := match i % 128 with
  | 0 => ⟨S16384, .i32⟩
  | 1 => ⟨S_, .i32⟩
  | 2 => ⟨S16384, .i32⟩
  | 3 => ⟨S16384, .i32⟩
  | 4 => ⟨S16384, .i32⟩
  | 5 => ⟨S_, .i32⟩
  | 6 => ⟨S16384, .i32⟩
  | 7 => ⟨S16384, .i32⟩
  | 8 => ⟨S_, .i32⟩
  | 9 => ⟨S16384, .i32⟩
  | 10 => ⟨S16384, .i32⟩
  | 11 => ⟨S16384, .i32⟩
  | 12 => ⟨S16384, .i32⟩
  | 13 => ⟨S16384, .i32⟩
  | 14 => ⟨S_, .i32⟩
  | 15 => ⟨S16384, .i32⟩
  | 16 => ⟨S16384, .i32⟩
  | 17 => ⟨S_, .i32⟩
  | 18 => ⟨S16384, .i32⟩
  | 19 => ⟨S16384, .i32⟩
  | 20 => ⟨S16384, .i32⟩
  | 21 => ⟨S16384, .i32⟩
  | 22 => ⟨S16384, .i32⟩
  | 23 => ⟨S_, .i32⟩
  | 24 => ⟨S16384, .i32⟩
  | 25 => ⟨S16384, .i32⟩
  | 26 => ⟨S_, .i32⟩
  | 27 => ⟨S16384, .i32⟩
  | 28 => ⟨S16384, .i32⟩
  | 29 => ⟨S16384, .i32⟩
  | 30 => ⟨S16384, .i32⟩
  | 31 => ⟨S16384, .i32⟩
  | 32 => ⟨S_, .i32⟩
  | 33 => ⟨S16384, .i32⟩
  | 34 => ⟨S16384, .i32⟩
  | 35 => ⟨S_, .i32⟩
  | 36 => ⟨S16384, .i32⟩
  | 37 => ⟨S16384, .i32⟩
  | 38 => ⟨S16384, .i32⟩
  | 39 => ⟨S16384, .i32⟩
  | 40 => ⟨S16384, .i32⟩
  | 41 => ⟨S16384, .i32⟩
  | 42 => ⟨S16384, .i32⟩
  | 43 => ⟨S16384, .i32⟩
  | 44 => ⟨S_, .i32⟩
  | 45 => ⟨S16384, .i32⟩
  | 46 => ⟨S16384, .i32⟩
  | 47 => ⟨S16384, .i32⟩
  | 48 => ⟨S_, .i32⟩
  | 49 => ⟨S16384, .i32⟩
  | 50 => ⟨S16384, .i32⟩
  | 51 => ⟨S_, .i32⟩
  | 52 => ⟨S16384, .i32⟩
  | 53 => ⟨S16384, .i32⟩
  | 54 => ⟨S16384, .i32⟩
  | 55 => ⟨S16384, .i32⟩
  | 56 => ⟨S16384, .i32⟩
  | 57 => ⟨S_, .i32⟩
  | 58 => ⟨S16384, .i32⟩
  | 59 => ⟨S16384, .i32⟩
  | 60 => ⟨S_, .i32⟩
  | 61 => ⟨S16384, .i32⟩
  | 62 => ⟨S16384, .i32⟩
  | 63 => ⟨S16384, .i32⟩
  | 64 => ⟨S16384, .i32⟩
  | 65 => ⟨S16384, .i32⟩
  | 66 => ⟨S_, .i32⟩
  | 67 => ⟨S16384, .i32⟩
  | 68 => ⟨S16384, .i32⟩
  | 69 => ⟨S_, .i32⟩
  | 70 => ⟨S16384, .i32⟩
  | 71 => ⟨S16384, .i32⟩
  | 72 => ⟨S16384, .i32⟩
  | 73 => ⟨S16384, .i32⟩
  | 74 => ⟨S16384, .i32⟩
  | 75 => ⟨S_, .i32⟩
  | 76 => ⟨S16384, .i32⟩
  | 77 => ⟨S16384, .i32⟩
  | 78 => ⟨S_, .i32⟩
  | 79 => ⟨S16384, .i32⟩
  | 80 => ⟨S16384, .i32⟩
  | 81 => ⟨S16384, .i32⟩
  | 82 => ⟨S16384, .i32⟩
  | 83 => ⟨S16384, .i32⟩
  | 84 => ⟨S16384, .i32⟩
  | 85 => ⟨S16384, .i32⟩
  | 86 => ⟨S16384, .i32⟩
  | 87 => ⟨S_, .i32⟩
  | 88 => ⟨S16384, .i32⟩
  | 89 => ⟨S16384, .i32⟩
  | 90 => ⟨S16384, .i32⟩
  | 91 => ⟨S1, .i32⟩
  | 92 => ⟨S1, .i32⟩
  | 93 => ⟨S1, .i1⟩
  | 94 => ⟨S_, .i32⟩
  | 95 => ⟨S1, .i32⟩
  | 96 => ⟨S1, .i32⟩
  | 97 => ⟨S1, .i1⟩
  | 98 => ⟨S1, .i1⟩
  | 99 => ⟨S1, .i1⟩
  | 100 => ⟨S_, .i32⟩
  | 101 => ⟨S1, .i32⟩
  | 102 => ⟨S1, .i32⟩
  | 103 => ⟨S1, .i32⟩
  | 104 => ⟨S_, .i32⟩
  | 105 => ⟨S1, .i32⟩
  | 106 => ⟨S1, .i32⟩
  | 107 => ⟨S1, .i32⟩
  | 108 => ⟨S1, .i32⟩
  | 109 => ⟨S16384, .i32⟩
  | 110 => ⟨S16384, .i32⟩
  | 111 => ⟨S16384, .i32⟩
  | 112 => ⟨S16384, .i32⟩
  | 113 => ⟨S16384, .i32⟩
  | 114 => ⟨S16384, .i32⟩
  | 115 => ⟨S16384, .i32⟩
  | 116 => ⟨S16384, .i32⟩
  | 117 => ⟨S16384, .i32⟩
  | 118 => ⟨S16384, .i32⟩
  | 119 => ⟨S16384, .i32⟩
  | 120 => ⟨S16384, .i32⟩
  | 121 => ⟨S1024, .i32⟩
  | 122 => ⟨S1x1024, .i32⟩
  | 123 => ⟨S16384x1, .i32⟩
  | 124 => ⟨S16384x1024, .i32⟩
  | 125 => ⟨S16384x1024, .i32⟩
  | 126 => ⟨S16384x1024, .i1⟩
  | 127 => ⟨S_, .f32⟩
  | _ => ⟨S16384x1024, .f32⟩

abbrev hbmTy0_8 (i : Nat) : BufTy := match i % 128 with
  | 0 => ⟨S_, .f32⟩
  | 1 => ⟨S_, .f32⟩
  | 2 => ⟨S_, .f32⟩
  | 3 => ⟨S1x1, .f32⟩
  | 4 => ⟨S1x1, .f32⟩
  | 5 => ⟨S1, .i32⟩
  | 6 => ⟨S_, .i32⟩
  | 7 => ⟨S1, .i32⟩
  | 8 => ⟨S_, .i32⟩
  | 9 => ⟨S16384x1024, .i64⟩
  | 10 => ⟨S16384x1024, .i64⟩
  | 11 => ⟨S_, .i64⟩
  | 12 => ⟨S16384x1024, .i64⟩
  | 13 => ⟨S16384x1024, .i64⟩
  | 14 => ⟨S_, .i64⟩
  | 15 => ⟨S16384x1024, .i64⟩
  | 16 => ⟨S16384x1024, .i64⟩
  | 17 => ⟨S16384x1024, .i64⟩
  | 18 => ⟨S_, .i64⟩
  | 19 => ⟨S16384x1024, .i64⟩
  | 20 => ⟨S16384x1024, .i64⟩
  | 21 => ⟨S16384x1024, .i32⟩
  | 22 => ⟨S16384x1024, .i32⟩
  | 23 => ⟨S_, .i32⟩
  | 24 => ⟨S_, .i32⟩
  | 25 => ⟨S_, .i32⟩
  | 26 => ⟨S16384x1024, .i32⟩
  | 27 => ⟨S16384x1024, .i32⟩
  | 28 => ⟨S16384x1024, .i32⟩
  | 29 => ⟨S16384x1024, .i32⟩
  | 30 => ⟨S16384x1024, .i32⟩
  | 31 => ⟨S_, .i32⟩
  | 32 => ⟨S16384x1024, .i32⟩
  | 33 => ⟨S16384x1024, .i32⟩
  | 34 => ⟨S_, .i32⟩
  | 35 => ⟨S16384x1024, .i32⟩
  | 36 => ⟨S16384x1024, .i32⟩
  | 37 => ⟨S16384x1024, .i32⟩
  | 38 => ⟨S16384x1024, .i32⟩
  | 39 => ⟨S16384x1024, .i32⟩
  | 40 => ⟨S_, .i32⟩
  | 41 => ⟨S16384x1024, .i32⟩
  | 42 => ⟨S16384x1024, .i32⟩
  | 43 => ⟨S_, .i32⟩
  | 44 => ⟨S16384x1024, .i32⟩
  | 45 => ⟨S16384x1024, .i32⟩
  | 46 => ⟨S16384x1024, .i32⟩
  | 47 => ⟨S16384x1024, .i32⟩
  | 48 => ⟨S16384x1024, .i32⟩
  | 49 => ⟨S_, .i32⟩
  | 50 => ⟨S16384x1024, .i32⟩
  | 51 => ⟨S16384x1024, .i32⟩
  | 52 => ⟨S_, .i32⟩
  | 53 => ⟨S16384x1024, .i32⟩
  | 54 => ⟨S16384x1024, .i32⟩
  | 55 => ⟨S16384x1024, .i32⟩
  | 56 => ⟨S16384x1024, .i32⟩
  | 57 => ⟨S16384x1024, .i32⟩
  | 58 => ⟨S_, .i32⟩
  | 59 => ⟨S16384x1024, .i32⟩
  | 60 => ⟨S16384x1024, .i32⟩
  | 61 => ⟨S_, .i32⟩
  | 62 => ⟨S16384x1024, .i32⟩
  | 63 => ⟨S16384x1024, .i32⟩
  | 64 => ⟨S16384x1024, .i32⟩
  | 65 => ⟨S16384x1024, .i32⟩
  | 66 => ⟨S16384x1024, .i32⟩
  | 67 => ⟨S16384x1024, .i32⟩
  | 68 => ⟨S16384x1024, .i32⟩
  | 69 => ⟨S16384x1024, .i32⟩
  | 70 => ⟨S_, .i32⟩
  | 71 => ⟨S16384x1024, .i32⟩
  | 72 => ⟨S16384x1024, .i32⟩
  | 73 => ⟨S16384x1024, .i32⟩
  | 74 => ⟨S_, .i32⟩
  | 75 => ⟨S16384x1024, .i32⟩
  | 76 => ⟨S16384x1024, .i32⟩
  | 77 => ⟨S_, .i32⟩
  | 78 => ⟨S16384x1024, .i32⟩
  | 79 => ⟨S16384x1024, .i32⟩
  | 80 => ⟨S16384x1024, .i32⟩
  | 81 => ⟨S16384x1024, .i32⟩
  | 82 => ⟨S16384x1024, .i32⟩
  | 83 => ⟨S_, .i32⟩
  | 84 => ⟨S16384x1024, .i32⟩
  | 85 => ⟨S16384x1024, .i32⟩
  | 86 => ⟨S_, .i32⟩
  | 87 => ⟨S16384x1024, .i32⟩
  | 88 => ⟨S16384x1024, .i32⟩
  | 89 => ⟨S16384x1024, .i32⟩
  | 90 => ⟨S16384x1024, .i32⟩
  | 91 => ⟨S16384x1024, .i32⟩
  | 92 => ⟨S_, .i32⟩
  | 93 => ⟨S16384x1024, .i32⟩
  | 94 => ⟨S16384x1024, .i32⟩
  | 95 => ⟨S_, .i32⟩
  | 96 => ⟨S16384x1024, .i32⟩
  | 97 => ⟨S16384x1024, .i32⟩
  | 98 => ⟨S16384x1024, .i32⟩
  | 99 => ⟨S16384x1024, .i32⟩
  | 100 => ⟨S16384x1024, .i32⟩
  | 101 => ⟨S_, .i32⟩
  | 102 => ⟨S16384x1024, .i32⟩
  | 103 => ⟨S16384x1024, .i32⟩
  | 104 => ⟨S_, .i32⟩
  | 105 => ⟨S16384x1024, .i32⟩
  | 106 => ⟨S16384x1024, .i32⟩
  | 107 => ⟨S16384x1024, .i32⟩
  | 108 => ⟨S16384x1024, .i32⟩
  | 109 => ⟨S16384x1024, .i32⟩
  | 110 => ⟨S16384x1024, .i32⟩
  | 111 => ⟨S16384x1024, .i32⟩
  | 112 => ⟨S16384x1024, .i32⟩
  | 113 => ⟨S_, .i32⟩
  | 114 => ⟨S16384x1024, .i32⟩
  | 115 => ⟨S16384x1024, .i32⟩
  | 116 => ⟨S16384x1024, .i32⟩
  | 117 => ⟨S_, .i32⟩
  | 118 => ⟨S16384x1024, .i32⟩
  | 119 => ⟨S16384x1024, .i32⟩
  | 120 => ⟨S_, .i32⟩
  | 121 => ⟨S16384x1024, .i32⟩
  | 122 => ⟨S16384x1024, .i32⟩
  | 123 => ⟨S16384x1024, .i32⟩
  | 124 => ⟨S16384x1024, .i32⟩
  | 125 => ⟨S16384x1024, .i32⟩
  | 126 => ⟨S_, .i32⟩
  | 127 => ⟨S16384x1024, .i32⟩
  | _ => ⟨S16384x1024, .f32⟩

abbrev hbmTy0_9 (i : Nat) : BufTy := match i % 128 with
  | 0 => ⟨S16384x1024, .i32⟩
  | 1 => ⟨S_, .i32⟩
  | 2 => ⟨S16384x1024, .i32⟩
  | 3 => ⟨S16384x1024, .i32⟩
  | 4 => ⟨S16384x1024, .i32⟩
  | 5 => ⟨S16384x1024, .i32⟩
  | 6 => ⟨S16384x1024, .i32⟩
  | 7 => ⟨S_, .i32⟩
  | 8 => ⟨S16384x1024, .i32⟩
  | 9 => ⟨S16384x1024, .i32⟩
  | 10 => ⟨S_, .i32⟩
  | 11 => ⟨S16384x1024, .i32⟩
  | 12 => ⟨S16384x1024, .i32⟩
  | 13 => ⟨S16384x1024, .i32⟩
  | 14 => ⟨S16384x1024, .i32⟩
  | 15 => ⟨S16384x1024, .i32⟩
  | 16 => ⟨S_, .i32⟩
  | 17 => ⟨S16384x1024, .i32⟩
  | 18 => ⟨S16384x1024, .i32⟩
  | 19 => ⟨S_, .i32⟩
  | 20 => ⟨S16384x1024, .i32⟩
  | 21 => ⟨S16384x1024, .i32⟩
  | 22 => ⟨S16384x1024, .i32⟩
  | 23 => ⟨S16384x1024, .i32⟩
  | 24 => ⟨S16384x1024, .i32⟩
  | 25 => ⟨S16384x1024, .i32⟩
  | 26 => ⟨S16384x1024, .i32⟩
  | 27 => ⟨S16384x1024, .i32⟩
  | 28 => ⟨S_, .i32⟩
  | 29 => ⟨S16384x1024, .i32⟩
  | 30 => ⟨S16384x1024, .i32⟩
  | 31 => ⟨S16384x1024, .i32⟩
  | 32 => ⟨S_, .i32⟩
  | 33 => ⟨S16384x1024, .i32⟩
  | 34 => ⟨S16384x1024, .i32⟩
  | 35 => ⟨S_, .i32⟩
  | 36 => ⟨S16384x1024, .i32⟩
  | 37 => ⟨S16384x1024, .i32⟩
  | 38 => ⟨S16384x1024, .i32⟩
  | 39 => ⟨S16384x1024, .i32⟩
  | 40 => ⟨S16384x1024, .i32⟩
  | 41 => ⟨S_, .i32⟩
  | 42 => ⟨S16384x1024, .i32⟩
  | 43 => ⟨S16384x1024, .i32⟩
  | 44 => ⟨S_, .i32⟩
  | 45 => ⟨S16384x1024, .i32⟩
  | 46 => ⟨S16384x1024, .i32⟩
  | 47 => ⟨S16384x1024, .i32⟩
  | 48 => ⟨S16384x1024, .i32⟩
  | 49 => ⟨S16384x1024, .i32⟩
  | 50 => ⟨S_, .i32⟩
  | 51 => ⟨S16384x1024, .i32⟩
  | 52 => ⟨S16384x1024, .i32⟩
  | 53 => ⟨S_, .i32⟩
  | 54 => ⟨S16384x1024, .i32⟩
  | 55 => ⟨S16384x1024, .i32⟩
  | 56 => ⟨S16384x1024, .i32⟩
  | 57 => ⟨S16384x1024, .i32⟩
  | 58 => ⟨S16384x1024, .i32⟩
  | 59 => ⟨S_, .i32⟩
  | 60 => ⟨S16384x1024, .i32⟩
  | 61 => ⟨S16384x1024, .i32⟩
  | 62 => ⟨S_, .i32⟩
  | 63 => ⟨S16384x1024, .i32⟩
  | 64 => ⟨S16384x1024, .i32⟩
  | 65 => ⟨S16384x1024, .i32⟩
  | 66 => ⟨S16384x1024, .i32⟩
  | 67 => ⟨S16384x1024, .i32⟩
  | 68 => ⟨S16384x1024, .i32⟩
  | 69 => ⟨S16384x1024, .i32⟩
  | 70 => ⟨S16384x1024, .i32⟩
  | 71 => ⟨S_, .i32⟩
  | 72 => ⟨S16384x1024, .i32⟩
  | 73 => ⟨S16384x1024, .i32⟩
  | 74 => ⟨S16384x1024, .i32⟩
  | 75 => ⟨S_, .i32⟩
  | 76 => ⟨S16384x1024, .i32⟩
  | 77 => ⟨S16384x1024, .i32⟩
  | 78 => ⟨S_, .i32⟩
  | 79 => ⟨S16384x1024, .i32⟩
  | 80 => ⟨S16384x1024, .i32⟩
  | 81 => ⟨S16384x1024, .i32⟩
  | 82 => ⟨S16384x1024, .i32⟩
  | 83 => ⟨S16384x1024, .i32⟩
  | 84 => ⟨S_, .i32⟩
  | 85 => ⟨S16384x1024, .i32⟩
  | 86 => ⟨S16384x1024, .i32⟩
  | 87 => ⟨S_, .i32⟩
  | 88 => ⟨S16384x1024, .i32⟩
  | 89 => ⟨S16384x1024, .i32⟩
  | 90 => ⟨S16384x1024, .i32⟩
  | 91 => ⟨S16384x1024, .i32⟩
  | 92 => ⟨S16384x1024, .i32⟩
  | 93 => ⟨S_, .i32⟩
  | 94 => ⟨S16384x1024, .i32⟩
  | 95 => ⟨S16384x1024, .i32⟩
  | 96 => ⟨S_, .i32⟩
  | 97 => ⟨S16384x1024, .i32⟩
  | 98 => ⟨S16384x1024, .i32⟩
  | 99 => ⟨S16384x1024, .i32⟩
  | 100 => ⟨S16384x1024, .i32⟩
  | 101 => ⟨S16384x1024, .i32⟩
  | 102 => ⟨S_, .i32⟩
  | 103 => ⟨S16384x1024, .i32⟩
  | 104 => ⟨S16384x1024, .i32⟩
  | 105 => ⟨S_, .i32⟩
  | 106 => ⟨S16384x1024, .i32⟩
  | 107 => ⟨S16384x1024, .i32⟩
  | 108 => ⟨S16384x1024, .i32⟩
  | 109 => ⟨S16384x1024, .i32⟩
  | 110 => ⟨S16384x1024, .i32⟩
  | 111 => ⟨S16384x1024, .i32⟩
  | 112 => ⟨S16384x1024, .i32⟩
  | 113 => ⟨S16384x1024, .i32⟩
  | 114 => ⟨S_, .i32⟩
  | 115 => ⟨S16384x1024, .i32⟩
  | 116 => ⟨S16384x1024, .i32⟩
  | 117 => ⟨S16384x1024, .i32⟩
  | 118 => ⟨S_, .i32⟩
  | 119 => ⟨S16384x1024, .i32⟩
  | 120 => ⟨S16384x1024, .i32⟩
  | 121 => ⟨S_, .i32⟩
  | 122 => ⟨S16384x1024, .i32⟩
  | 123 => ⟨S16384x1024, .i32⟩
  | 124 => ⟨S16384x1024, .f32⟩
  | 125 => ⟨S_, .f32⟩
  | 126 => ⟨S16384x1024, .f32⟩
  | 127 => ⟨S16384x1024, .f32⟩
  | _ => ⟨S16384x1024, .f32⟩

abbrev hbmTy0_10 (i : Nat) : BufTy := match i % 128 with
  | 0 => ⟨S1x1, .f32⟩
  | 1 => ⟨S16384x1024, .f32⟩
  | 2 => ⟨S16384x1024, .f32⟩
  | 3 => ⟨S16384x1024, .f32⟩
  | 4 => ⟨S16384x1024, .f32⟩
  | 5 => ⟨S16384x1024, .f32⟩
  | 6 => ⟨S16384x1024, .f32⟩
  | 7 => ⟨S16384x1024, .i32⟩
  | 8 => ⟨S16384x1024, .f32⟩
  | 9 => ⟨S16384x1024, .i32⟩
  | 10 => ⟨S_, .i32⟩
  | 11 => ⟨S16384x1024, .i32⟩
  | 12 => ⟨S16384x1024, .i1⟩
  | 13 => ⟨S_, .i32⟩
  | 14 => ⟨S16384x1024, .i32⟩
  | 15 => ⟨S16384x1024, .i32⟩
  | 16 => ⟨S16384x1024, .i32⟩
  | 17 => ⟨S16384x1024x1, .i32⟩
  | 18 => ⟨S1, .i32⟩
  | 19 => ⟨S_, .i32⟩
  | 20 => ⟨S16384x1024x1, .i32⟩
  | 21 => ⟨S16384x1024x1, .i1⟩
  | 22 => ⟨S1x1x1, .i32⟩
  | 23 => ⟨S16384x1024x1, .i32⟩
  | 24 => ⟨S16384x1024x1, .i1⟩
  | 25 => ⟨S16384x1024x1, .i1⟩
  | 26 => ⟨S_, .i1⟩
  | 27 => ⟨S16384x1024, .i1⟩
  | 28 => ⟨S16384x1024, .i1⟩
  | 29 => ⟨S_, .i1⟩
  | 30 => ⟨S16384x1024, .i1⟩
  | 31 => ⟨S16384x1024, .i1⟩
  | 32 => ⟨S16384x1024, .f32⟩
  | 33 => ⟨S16384x1024, .f32⟩
  | 34 => ⟨S16384x2048, .f32⟩
  | _ => ⟨S16384x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c : Ref sig .tc := ⟨.hbm, 16, rfl⟩
abbrev main_call0_v5 : Ref sig .tc := ⟨.hbm, 17, rfl⟩
abbrev main_call0_v6 : Ref sig .tc := ⟨.hbm, 18, rfl⟩
abbrev main_call0_c_0 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_call0_v0 : Ref sig .tc := ⟨.hbm, 24, rfl⟩
abbrev main_call0_call0_c : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_c_0 : Ref sig .tc := ⟨.hbm, 32, rfl⟩
abbrev main_call0_call0_v7 : Ref sig .tc := ⟨.hbm, 33, rfl⟩
abbrev main_call0_call0_v8 : Ref sig .tc := ⟨.hbm, 34, rfl⟩
abbrev main_call0_call0_c_1 : Ref sig .tc := ⟨.hbm, 35, rfl⟩
abbrev main_call0_call0_v9 : Ref sig .tc := ⟨.hbm, 36, rfl⟩
abbrev main_call0_call0_v10 : Ref sig .tc := ⟨.hbm, 37, rfl⟩
abbrev main_call0_call0_v11 : Ref sig .tc := ⟨.hbm, 38, rfl⟩
abbrev main_call0_call0_v12 : Ref sig .tc := ⟨.hbm, 39, rfl⟩
abbrev main_call0_call0_v13 : Ref sig .tc := ⟨.hbm, 40, rfl⟩
abbrev main_call0_call0_c_2 : Ref sig .tc := ⟨.hbm, 41, rfl⟩
abbrev main_call0_call0_v14 : Ref sig .tc := ⟨.hbm, 42, rfl⟩
abbrev main_call0_call0_v15 : Ref sig .tc := ⟨.hbm, 43, rfl⟩
abbrev main_call0_call0_c_3 : Ref sig .tc := ⟨.hbm, 44, rfl⟩
abbrev main_call0_call0_v16 : Ref sig .tc := ⟨.hbm, 45, rfl⟩
abbrev main_call0_call0_v17 : Ref sig .tc := ⟨.hbm, 46, rfl⟩
abbrev main_call0_call0_v18 : Ref sig .tc := ⟨.hbm, 47, rfl⟩
abbrev main_call0_call0_v19 : Ref sig .tc := ⟨.hbm, 48, rfl⟩
abbrev main_call0_call0_v20 : Ref sig .tc := ⟨.hbm, 49, rfl⟩
abbrev main_call0_call0_c_4 : Ref sig .tc := ⟨.hbm, 50, rfl⟩
abbrev main_call0_call0_v21 : Ref sig .tc := ⟨.hbm, 51, rfl⟩
abbrev main_call0_call0_v22 : Ref sig .tc := ⟨.hbm, 52, rfl⟩
abbrev main_call0_call0_c_5 : Ref sig .tc := ⟨.hbm, 53, rfl⟩
abbrev main_call0_call0_v23 : Ref sig .tc := ⟨.hbm, 54, rfl⟩
abbrev main_call0_call0_v24 : Ref sig .tc := ⟨.hbm, 55, rfl⟩
abbrev main_call0_call0_v25 : Ref sig .tc := ⟨.hbm, 56, rfl⟩
abbrev main_call0_call0_v26 : Ref sig .tc := ⟨.hbm, 57, rfl⟩
abbrev main_call0_call0_v27 : Ref sig .tc := ⟨.hbm, 58, rfl⟩
abbrev main_call0_call0_c_6 : Ref sig .tc := ⟨.hbm, 59, rfl⟩
abbrev main_call0_call0_v28 : Ref sig .tc := ⟨.hbm, 60, rfl⟩
abbrev main_call0_call0_v29 : Ref sig .tc := ⟨.hbm, 61, rfl⟩
abbrev main_call0_call0_c_7 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_v32 : Ref sig .tc := ⟨.hbm, 65, rfl⟩
abbrev main_call0_call0_v33 : Ref sig .tc := ⟨.hbm, 66, rfl⟩
abbrev main_call0_call0_v34 : Ref sig .tc := ⟨.hbm, 67, rfl⟩
abbrev main_call0_call0_v35 : Ref sig .tc := ⟨.hbm, 68, rfl⟩
abbrev main_call0_call0_v36 : Ref sig .tc := ⟨.hbm, 69, rfl⟩
abbrev main_call0_call0_v37 : Ref sig .tc := ⟨.hbm, 70, rfl⟩
abbrev main_call0_call0_c_8 : Ref sig .tc := ⟨.hbm, 71, rfl⟩
abbrev main_call0_call0_v38 : Ref sig .tc := ⟨.hbm, 72, rfl⟩
abbrev main_call0_call0_v39 : Ref sig .tc := ⟨.hbm, 73, rfl⟩
abbrev main_call0_call0_v40 : Ref sig .tc := ⟨.hbm, 74, rfl⟩
abbrev main_call0_call0_c_9 : Ref sig .tc := ⟨.hbm, 75, rfl⟩
abbrev main_call0_call0_v41 : Ref sig .tc := ⟨.hbm, 76, rfl⟩
abbrev main_call0_call0_v42 : Ref sig .tc := ⟨.hbm, 77, rfl⟩
abbrev main_call0_call0_c_10 : Ref sig .tc := ⟨.hbm, 78, rfl⟩
abbrev main_call0_call0_v43 : Ref sig .tc := ⟨.hbm, 79, rfl⟩
abbrev main_call0_call0_v44 : Ref sig .tc := ⟨.hbm, 80, rfl⟩
abbrev main_call0_call0_v45 : Ref sig .tc := ⟨.hbm, 81, rfl⟩
abbrev main_call0_call0_v46 : Ref sig .tc := ⟨.hbm, 82, rfl⟩
abbrev main_call0_call0_v47 : Ref sig .tc := ⟨.hbm, 83, rfl⟩
abbrev main_call0_call0_c_11 : Ref sig .tc := ⟨.hbm, 84, rfl⟩
abbrev main_call0_call0_v48 : Ref sig .tc := ⟨.hbm, 85, rfl⟩
abbrev main_call0_call0_v49 : Ref sig .tc := ⟨.hbm, 86, rfl⟩
abbrev main_call0_call0_c_12 : Ref sig .tc := ⟨.hbm, 87, rfl⟩
abbrev main_call0_call0_v50 : Ref sig .tc := ⟨.hbm, 88, rfl⟩
abbrev main_call0_call0_v51 : Ref sig .tc := ⟨.hbm, 89, rfl⟩
abbrev main_call0_call0_v52 : Ref sig .tc := ⟨.hbm, 90, rfl⟩
abbrev main_call0_call0_v53 : Ref sig .tc := ⟨.hbm, 91, rfl⟩
abbrev main_call0_call0_v54 : Ref sig .tc := ⟨.hbm, 92, rfl⟩
abbrev main_call0_call0_c_13 : Ref sig .tc := ⟨.hbm, 93, rfl⟩
abbrev main_call0_call0_v55 : Ref sig .tc := ⟨.hbm, 94, rfl⟩
abbrev main_call0_call0_v56 : Ref sig .tc := ⟨.hbm, 95, rfl⟩
abbrev main_call0_call0_c_14 : Ref sig .tc := ⟨.hbm, 96, rfl⟩
abbrev main_call0_call0_v57 : Ref sig .tc := ⟨.hbm, 97, rfl⟩
abbrev main_call0_call0_v58 : Ref sig .tc := ⟨.hbm, 98, rfl⟩
abbrev main_call0_call0_v59 : Ref sig .tc := ⟨.hbm, 99, rfl⟩
abbrev main_call0_call0_v60 : Ref sig .tc := ⟨.hbm, 100, rfl⟩
abbrev main_call0_call0_v61 : Ref sig .tc := ⟨.hbm, 101, rfl⟩
abbrev main_call0_call0_c_15 : Ref sig .tc := ⟨.hbm, 102, rfl⟩
abbrev main_call0_call0_v62 : Ref sig .tc := ⟨.hbm, 103, rfl⟩
abbrev main_call0_call0_v63 : Ref sig .tc := ⟨.hbm, 104, rfl⟩
abbrev main_call0_call0_c_16 : Ref sig .tc := ⟨.hbm, 105, rfl⟩
abbrev main_call0_call0_v64 : Ref sig .tc := ⟨.hbm, 106, rfl⟩
abbrev main_call0_call0_v65 : Ref sig .tc := ⟨.hbm, 107, rfl⟩
abbrev main_call0_call0_v66 : Ref sig .tc := ⟨.hbm, 108, rfl⟩
abbrev main_call0_call0_v67 : Ref sig .tc := ⟨.hbm, 109, rfl⟩
abbrev main_call0_call0_v68 : Ref sig .tc := ⟨.hbm, 110, rfl⟩
abbrev main_call0_call0_v69 : Ref sig .tc := ⟨.hbm, 111, rfl⟩
abbrev main_call0_call0_v70 : Ref sig .tc := ⟨.hbm, 112, rfl⟩
abbrev main_call0_call0_v71 : Ref sig .tc := ⟨.hbm, 113, rfl⟩
abbrev main_call0_call0_c_17 : Ref sig .tc := ⟨.hbm, 114, rfl⟩
abbrev main_call0_call0_v72 : Ref sig .tc := ⟨.hbm, 115, rfl⟩
abbrev main_call0_call0_v73 : Ref sig .tc := ⟨.hbm, 116, rfl⟩
abbrev main_call0_call0_v74 : Ref sig .tc := ⟨.hbm, 117, rfl⟩
abbrev main_call0_call0_c_18 : Ref sig .tc := ⟨.hbm, 118, rfl⟩
abbrev main_call0_call0_v75 : Ref sig .tc := ⟨.hbm, 119, rfl⟩
abbrev main_call0_call0_v76 : Ref sig .tc := ⟨.hbm, 120, rfl⟩
abbrev main_call0_call0_c_19 : Ref sig .tc := ⟨.hbm, 121, rfl⟩
abbrev main_call0_call0_v77 : Ref sig .tc := ⟨.hbm, 122, rfl⟩
abbrev main_call0_call0_v78 : Ref sig .tc := ⟨.hbm, 123, rfl⟩
abbrev main_call0_call0_v79 : Ref sig .tc := ⟨.hbm, 124, rfl⟩
abbrev main_call0_call0_v80 : Ref sig .tc := ⟨.hbm, 125, rfl⟩
abbrev main_call0_call0_v81 : Ref sig .tc := ⟨.hbm, 126, rfl⟩
abbrev main_call0_call0_c_20 : Ref sig .tc := ⟨.hbm, 127, rfl⟩
abbrev main_call0_call0_v82 : Ref sig .tc := ⟨.hbm, 128, rfl⟩
abbrev main_call0_call0_v83 : Ref sig .tc := ⟨.hbm, 129, rfl⟩
abbrev main_call0_call0_c_21 : Ref sig .tc := ⟨.hbm, 130, rfl⟩
abbrev main_call0_call0_v84 : Ref sig .tc := ⟨.hbm, 131, rfl⟩
abbrev main_call0_call0_v85 : Ref sig .tc := ⟨.hbm, 132, rfl⟩
abbrev main_call0_call0_v86 : Ref sig .tc := ⟨.hbm, 133, rfl⟩
abbrev main_call0_call0_v87 : Ref sig .tc := ⟨.hbm, 134, rfl⟩
abbrev main_call0_call0_v88 : Ref sig .tc := ⟨.hbm, 135, rfl⟩
abbrev main_call0_call0_c_22 : Ref sig .tc := ⟨.hbm, 136, rfl⟩
abbrev main_call0_call0_v89 : Ref sig .tc := ⟨.hbm, 137, rfl⟩
abbrev main_call0_call0_v90 : Ref sig .tc := ⟨.hbm, 138, rfl⟩
abbrev main_call0_call0_c_23 : Ref sig .tc := ⟨.hbm, 139, rfl⟩
abbrev main_call0_call0_v91 : Ref sig .tc := ⟨.hbm, 140, rfl⟩
abbrev main_call0_call0_v92 : Ref sig .tc := ⟨.hbm, 141, rfl⟩
abbrev main_call0_call0_v93 : Ref sig .tc := ⟨.hbm, 142, rfl⟩
abbrev main_call0_call0_v94 : Ref sig .tc := ⟨.hbm, 143, rfl⟩
abbrev main_call0_call0_v95 : Ref sig .tc := ⟨.hbm, 144, rfl⟩
abbrev main_call0_call0_c_24 : Ref sig .tc := ⟨.hbm, 145, rfl⟩
abbrev main_call0_call0_v96 : Ref sig .tc := ⟨.hbm, 146, rfl⟩
abbrev main_call0_call0_v97 : Ref sig .tc := ⟨.hbm, 147, rfl⟩
abbrev main_call0_call0_c_25 : Ref sig .tc := ⟨.hbm, 148, rfl⟩
abbrev main_call0_call0_v98 : Ref sig .tc := ⟨.hbm, 149, rfl⟩
abbrev main_call0_call0_v99 : Ref sig .tc := ⟨.hbm, 150, rfl⟩
abbrev main_call0_call0_v100 : Ref sig .tc := ⟨.hbm, 151, rfl⟩
abbrev main_call0_call0_v101 : Ref sig .tc := ⟨.hbm, 152, rfl⟩
abbrev main_call0_call0_v102 : Ref sig .tc := ⟨.hbm, 153, rfl⟩
abbrev main_call0_call0_v103 : Ref sig .tc := ⟨.hbm, 154, rfl⟩
abbrev main_call0_call0_v104 : Ref sig .tc := ⟨.hbm, 155, rfl⟩
abbrev main_call0_call0_v105 : Ref sig .tc := ⟨.hbm, 156, rfl⟩
abbrev main_call0_call0_c_26 : Ref sig .tc := ⟨.hbm, 157, rfl⟩
abbrev main_call0_call0_v106 : Ref sig .tc := ⟨.hbm, 158, rfl⟩
abbrev main_call0_call0_v107 : Ref sig .tc := ⟨.hbm, 159, rfl⟩
abbrev main_call0_call0_v108 : Ref sig .tc := ⟨.hbm, 160, rfl⟩
abbrev main_call0_call0_c_27 : Ref sig .tc := ⟨.hbm, 161, rfl⟩
abbrev main_call0_call0_v109 : Ref sig .tc := ⟨.hbm, 162, rfl⟩
abbrev main_call0_call0_v110 : Ref sig .tc := ⟨.hbm, 163, rfl⟩
abbrev main_call0_call0_c_28 : Ref sig .tc := ⟨.hbm, 164, rfl⟩
abbrev main_call0_call0_v111 : Ref sig .tc := ⟨.hbm, 165, rfl⟩
abbrev main_call0_call0_v112 : Ref sig .tc := ⟨.hbm, 166, rfl⟩
abbrev main_call0_call0_v113 : Ref sig .tc := ⟨.hbm, 167, rfl⟩
abbrev main_call0_call0_v114 : Ref sig .tc := ⟨.hbm, 168, rfl⟩
abbrev main_call0_call0_v115 : Ref sig .tc := ⟨.hbm, 169, rfl⟩
abbrev main_call0_call0_c_29 : Ref sig .tc := ⟨.hbm, 170, rfl⟩
abbrev main_call0_call0_v116 : Ref sig .tc := ⟨.hbm, 171, rfl⟩
abbrev main_call0_call0_v117 : Ref sig .tc := ⟨.hbm, 172, rfl⟩
abbrev main_call0_call0_c_30 : Ref sig .tc := ⟨.hbm, 173, rfl⟩
abbrev main_call0_call0_v118 : Ref sig .tc := ⟨.hbm, 174, rfl⟩
abbrev main_call0_call0_v119 : Ref sig .tc := ⟨.hbm, 175, rfl⟩
abbrev main_call0_call0_v120 : Ref sig .tc := ⟨.hbm, 176, rfl⟩
abbrev main_call0_call0_v121 : Ref sig .tc := ⟨.hbm, 177, rfl⟩
abbrev main_call0_call0_v122 : Ref sig .tc := ⟨.hbm, 178, rfl⟩
abbrev main_call0_call0_c_31 : Ref sig .tc := ⟨.hbm, 179, rfl⟩
abbrev main_call0_call0_v123 : Ref sig .tc := ⟨.hbm, 180, rfl⟩
abbrev main_call0_call0_v124 : Ref sig .tc := ⟨.hbm, 181, rfl⟩
abbrev main_call0_call0_c_32 : Ref sig .tc := ⟨.hbm, 182, rfl⟩
abbrev main_call0_call0_v125 : Ref sig .tc := ⟨.hbm, 183, rfl⟩
abbrev main_call0_call0_v126 : Ref sig .tc := ⟨.hbm, 184, rfl⟩
abbrev main_call0_call0_v127 : Ref sig .tc := ⟨.hbm, 185, rfl⟩
abbrev main_call0_call0_v128 : Ref sig .tc := ⟨.hbm, 186, rfl⟩
abbrev main_call0_call0_v129 : Ref sig .tc := ⟨.hbm, 187, rfl⟩
abbrev main_call0_call0_c_33 : Ref sig .tc := ⟨.hbm, 188, rfl⟩
abbrev main_call0_call0_v130 : Ref sig .tc := ⟨.hbm, 189, rfl⟩
abbrev main_call0_call0_v131 : Ref sig .tc := ⟨.hbm, 190, rfl⟩
abbrev main_call0_call0_c_34 : Ref sig .tc := ⟨.hbm, 191, rfl⟩
abbrev main_call0_call0_v132 : Ref sig .tc := ⟨.hbm, 192, rfl⟩
abbrev main_call0_call0_v133 : Ref sig .tc := ⟨.hbm, 193, rfl⟩
abbrev main_call0_call0_v134 : Ref sig .tc := ⟨.hbm, 194, rfl⟩
abbrev main_call0_call0_v135 : Ref sig .tc := ⟨.hbm, 195, rfl⟩
abbrev main_call0_call0_v136 : Ref sig .tc := ⟨.hbm, 196, rfl⟩
abbrev main_call0_call0_v137 : Ref sig .tc := ⟨.hbm, 197, rfl⟩
abbrev main_call0_call0_v138 : Ref sig .tc := ⟨.hbm, 198, rfl⟩
abbrev main_call0_call0_v139 : Ref sig .tc := ⟨.hbm, 199, rfl⟩
abbrev main_call0_call0_c_35 : Ref sig .tc := ⟨.hbm, 200, rfl⟩
abbrev main_call0_call0_v140 : Ref sig .tc := ⟨.hbm, 201, rfl⟩
abbrev main_call0_call0_v141 : Ref sig .tc := ⟨.hbm, 202, rfl⟩
abbrev main_call0_call0_v142 : Ref sig .tc := ⟨.hbm, 203, rfl⟩
abbrev main_call0_call0_c_36 : Ref sig .tc := ⟨.hbm, 204, rfl⟩
abbrev main_call0_call0_v143 : Ref sig .tc := ⟨.hbm, 205, rfl⟩
abbrev main_call0_call0_v144 : Ref sig .tc := ⟨.hbm, 206, rfl⟩
abbrev main_call0_call0_c_37 : Ref sig .tc := ⟨.hbm, 207, rfl⟩
abbrev main_call0_call0_v145 : Ref sig .tc := ⟨.hbm, 208, rfl⟩
abbrev main_call0_call0_v146 : Ref sig .tc := ⟨.hbm, 209, rfl⟩
abbrev main_call0_call0_v147 : Ref sig .tc := ⟨.hbm, 210, rfl⟩
abbrev main_call0_call0_v148 : Ref sig .tc := ⟨.hbm, 211, rfl⟩
abbrev main_call0_call0_v149 : Ref sig .tc := ⟨.hbm, 212, rfl⟩
abbrev main_call0_call0_c_38 : Ref sig .tc := ⟨.hbm, 213, rfl⟩
abbrev main_call0_call0_v150 : Ref sig .tc := ⟨.hbm, 214, rfl⟩
abbrev main_call0_call0_v151 : Ref sig .tc := ⟨.hbm, 215, rfl⟩
abbrev main_call0_call0_c_39 : Ref sig .tc := ⟨.hbm, 216, rfl⟩
abbrev main_call0_call0_v152 : Ref sig .tc := ⟨.hbm, 217, rfl⟩
abbrev main_call0_call0_v153 : Ref sig .tc := ⟨.hbm, 218, rfl⟩
abbrev main_call0_call0_v154 : Ref sig .tc := ⟨.hbm, 219, rfl⟩
abbrev main_call0_call0_v155 : Ref sig .tc := ⟨.hbm, 220, rfl⟩
abbrev main_call0_call0_v156 : Ref sig .tc := ⟨.hbm, 221, rfl⟩
abbrev main_call0_call0_c_40 : Ref sig .tc := ⟨.hbm, 222, rfl⟩
abbrev main_call0_call0_v157 : Ref sig .tc := ⟨.hbm, 223, rfl⟩
abbrev main_call0_call0_v158 : Ref sig .tc := ⟨.hbm, 224, rfl⟩
abbrev main_call0_call0_c_41 : Ref sig .tc := ⟨.hbm, 225, rfl⟩
abbrev main_call0_call0_v159 : Ref sig .tc := ⟨.hbm, 226, rfl⟩
abbrev main_call0_call0_v160 : Ref sig .tc := ⟨.hbm, 227, rfl⟩
abbrev main_call0_call0_v161 : Ref sig .tc := ⟨.hbm, 228, rfl⟩
abbrev main_call0_call0_v162 : Ref sig .tc := ⟨.hbm, 229, rfl⟩
abbrev main_call0_call0_v163 : Ref sig .tc := ⟨.hbm, 230, rfl⟩
abbrev main_call0_call0_c_42 : Ref sig .tc := ⟨.hbm, 231, rfl⟩
abbrev main_call0_call0_v164 : Ref sig .tc := ⟨.hbm, 232, rfl⟩
abbrev main_call0_call0_v165 : Ref sig .tc := ⟨.hbm, 233, rfl⟩
abbrev main_call0_call0_c_43 : Ref sig .tc := ⟨.hbm, 234, rfl⟩
abbrev main_call0_call0_v166 : Ref sig .tc := ⟨.hbm, 235, rfl⟩
abbrev main_call0_call0_v167 : Ref sig .tc := ⟨.hbm, 236, rfl⟩
abbrev main_call0_call0_v168 : Ref sig .tc := ⟨.hbm, 237, rfl⟩
abbrev main_call0_call0_v169 : Ref sig .tc := ⟨.hbm, 238, rfl⟩
abbrev main_call0_call0_v170 : Ref sig .tc := ⟨.hbm, 239, rfl⟩
abbrev main_call0_v11_0 : Ref sig .tc := ⟨.hbm, 240, rfl⟩
abbrev main_call0_call0_v172 : Ref sig .tc := ⟨.hbm, 241, rfl⟩
abbrev main_call0_call0_v173 : Ref sig .tc := ⟨.hbm, 242, rfl⟩
abbrev main_call0_call0_c_44 : Ref sig .tc := ⟨.hbm, 243, rfl⟩
abbrev main_call0_call0_v174 : Ref sig .tc := ⟨.hbm, 244, rfl⟩
abbrev main_call0_v11_1 : Ref sig .tc := ⟨.hbm, 245, rfl⟩
abbrev main_call0_v12 : Ref sig .tc := ⟨.hbm, 246, rfl⟩
abbrev main_call0_v13 : Ref sig .tc := ⟨.hbm, 247, rfl⟩
abbrev main_v7 : Ref sig .tc := ⟨.hbm, 248, rfl⟩
abbrev main_v8 : Ref sig .tc := ⟨.hbm, 249, rfl⟩
abbrev main_v9 : Ref sig .tc := ⟨.hbm, 250, rfl⟩
abbrev main_v10 : Ref sig .tc := ⟨.hbm, 251, rfl⟩
abbrev main_v11 : Ref sig .tc := ⟨.hbm, 252, rfl⟩
abbrev main_c_2 : Ref sig .tc := ⟨.hbm, 253, rfl⟩
abbrev main_c_3 : Ref sig .tc := ⟨.hbm, 254, rfl⟩
abbrev main_call1_c : Ref sig .tc := ⟨.hbm, 255, rfl⟩
abbrev main_call1_c_0 : Ref sig .tc := ⟨.hbm, 256, rfl⟩
abbrev main_call1_c_1 : Ref sig .tc := ⟨.hbm, 257, rfl⟩
abbrev main_call1_call0_v0 : Ref sig .tc := ⟨.hbm, 258, rfl⟩
abbrev main_call1_v0 : Ref sig .tc := ⟨.hbm, 259, rfl⟩
abbrev main_call1_v1 : Ref sig .tc := ⟨.hbm, 260, rfl⟩
abbrev main_call1_c_2 : Ref sig .tc := ⟨.hbm, 261, rfl⟩
abbrev main_call1_c_3 : Ref sig .tc := ⟨.hbm, 262, rfl⟩
abbrev main_call1_call1_v0 : Ref sig .tc := ⟨.hbm, 263, rfl⟩
abbrev main_call1_v2 : Ref sig .tc := ⟨.hbm, 264, rfl⟩
abbrev main_call1_v3 : Ref sig .tc := ⟨.hbm, 265, rfl⟩
abbrev main_call1_c_4 : Ref sig .tc := ⟨.hbm, 266, rfl⟩
abbrev main_call1_c_5 : Ref sig .tc := ⟨.hbm, 267, rfl⟩
abbrev main_call1_call2_v0 : Ref sig .tc := ⟨.hbm, 268, rfl⟩
abbrev main_call1_v4 : Ref sig .tc := ⟨.hbm, 269, rfl⟩
abbrev main_call1_v5 : Ref sig .tc := ⟨.hbm, 270, rfl⟩
abbrev main_call1_v6 : Ref sig .tc := ⟨.hbm, 271, rfl⟩
abbrev main_call1_v7 : Ref sig .tc := ⟨.hbm, 272, rfl⟩
abbrev main_call1_call3_v0 : Ref sig .tc := ⟨.hbm, 273, rfl⟩
abbrev main_call1_call3_v1 : Ref sig .tc := ⟨.hbm, 274, rfl⟩
abbrev main_call1_call3_v2 : Ref sig .tc := ⟨.hbm, 275, rfl⟩
abbrev main_call1_call3_v3 : Ref sig .tc := ⟨.hbm, 276, rfl⟩
abbrev main_call1_call3_v4 : Ref sig .tc := ⟨.hbm, 277, rfl⟩
abbrev main_call1_call3_c : Ref sig .tc := ⟨.hbm, 278, rfl⟩
abbrev main_call1_call3_v5 : Ref sig .tc := ⟨.hbm, 279, rfl⟩
abbrev main_call1_call3_v6 : Ref sig .tc := ⟨.hbm, 280, rfl⟩
abbrev main_call1_call3_c_0 : Ref sig .tc := ⟨.hbm, 281, rfl⟩
abbrev main_call1_call3_v7 : Ref sig .tc := ⟨.hbm, 282, rfl⟩
abbrev main_call1_call3_v8 : Ref sig .tc := ⟨.hbm, 283, rfl⟩
abbrev main_call1_call3_v9 : Ref sig .tc := ⟨.hbm, 284, rfl⟩
abbrev main_call1_call3_v10 : Ref sig .tc := ⟨.hbm, 285, rfl⟩
abbrev main_call1_call3_call0_v0 : Ref sig .tc := ⟨.hbm, 286, rfl⟩
abbrev main_call1_call3_call0_c : Ref sig .tc := ⟨.hbm, 287, rfl⟩
abbrev main_call1_call3_call0_v1 : Ref sig .tc := ⟨.hbm, 288, rfl⟩
abbrev main_call1_call3_call0_v2 : Ref sig .tc := ⟨.hbm, 289, rfl⟩
abbrev main_call1_call3_call0_v3 : Ref sig .tc := ⟨.hbm, 290, rfl⟩
abbrev main_call1_call3_call0_v4 : Ref sig .tc := ⟨.hbm, 291, rfl⟩
abbrev main_call1_call3_call0_v5 : Ref sig .tc := ⟨.hbm, 292, rfl⟩
abbrev main_call1_call3_call0_v6 : Ref sig .tc := ⟨.hbm, 293, rfl⟩
abbrev main_call1_call3_call0_c_0 : Ref sig .tc := ⟨.hbm, 294, rfl⟩
abbrev main_call1_call3_call0_v7 : Ref sig .tc := ⟨.hbm, 295, rfl⟩
abbrev main_call1_call3_call0_v8 : Ref sig .tc := ⟨.hbm, 296, rfl⟩
abbrev main_call1_call3_call0_c_1 : Ref sig .tc := ⟨.hbm, 297, rfl⟩
abbrev main_call1_call3_call0_v9 : Ref sig .tc := ⟨.hbm, 298, rfl⟩
abbrev main_call1_call3_call0_v10 : Ref sig .tc := ⟨.hbm, 299, rfl⟩
abbrev main_call1_call3_call0_v11 : Ref sig .tc := ⟨.hbm, 300, rfl⟩
abbrev main_call1_call3_call0_v12 : Ref sig .tc := ⟨.hbm, 301, rfl⟩
abbrev main_call1_call3_call0_v13 : Ref sig .tc := ⟨.hbm, 302, rfl⟩
abbrev main_call1_call3_call0_c_2 : Ref sig .tc := ⟨.hbm, 303, rfl⟩
abbrev main_call1_call3_call0_v14 : Ref sig .tc := ⟨.hbm, 304, rfl⟩
abbrev main_call1_call3_call0_v15 : Ref sig .tc := ⟨.hbm, 305, rfl⟩
abbrev main_call1_call3_call0_c_3 : Ref sig .tc := ⟨.hbm, 306, rfl⟩
abbrev main_call1_call3_call0_v16 : Ref sig .tc := ⟨.hbm, 307, rfl⟩
abbrev main_call1_call3_call0_v17 : Ref sig .tc := ⟨.hbm, 308, rfl⟩
abbrev main_call1_call3_call0_v18 : Ref sig .tc := ⟨.hbm, 309, rfl⟩
abbrev main_call1_call3_call0_v19 : Ref sig .tc := ⟨.hbm, 310, rfl⟩
abbrev main_call1_call3_call0_v20 : Ref sig .tc := ⟨.hbm, 311, rfl⟩
abbrev main_call1_call3_call0_c_4 : Ref sig .tc := ⟨.hbm, 312, rfl⟩
abbrev main_call1_call3_call0_v21 : Ref sig .tc := ⟨.hbm, 313, rfl⟩
abbrev main_call1_call3_call0_v22 : Ref sig .tc := ⟨.hbm, 314, rfl⟩
abbrev main_call1_call3_call0_c_5 : Ref sig .tc := ⟨.hbm, 315, rfl⟩
abbrev main_call1_call3_call0_v23 : Ref sig .tc := ⟨.hbm, 316, rfl⟩
abbrev main_call1_call3_call0_v24 : Ref sig .tc := ⟨.hbm, 317, rfl⟩
abbrev main_call1_call3_call0_v25 : Ref sig .tc := ⟨.hbm, 318, rfl⟩
abbrev main_call1_call3_call0_v26 : Ref sig .tc := ⟨.hbm, 319, rfl⟩
abbrev main_call1_call3_call0_v27 : Ref sig .tc := ⟨.hbm, 320, rfl⟩
abbrev main_call1_call3_call0_c_6 : Ref sig .tc := ⟨.hbm, 321, rfl⟩
abbrev main_call1_call3_call0_v28 : Ref sig .tc := ⟨.hbm, 322, rfl⟩
abbrev main_call1_call3_call0_v29 : Ref sig .tc := ⟨.hbm, 323, rfl⟩
abbrev main_call1_call3_call0_c_7 : Ref sig .tc := ⟨.hbm, 324, rfl⟩
abbrev main_call1_call3_call0_v30 : Ref sig .tc := ⟨.hbm, 325, rfl⟩
abbrev main_call1_call3_call0_v31 : Ref sig .tc := ⟨.hbm, 326, rfl⟩
abbrev main_call1_call3_call0_v32 : Ref sig .tc := ⟨.hbm, 327, rfl⟩
abbrev main_call1_call3_call0_v33 : Ref sig .tc := ⟨.hbm, 328, rfl⟩
abbrev main_call1_call3_call0_v34 : Ref sig .tc := ⟨.hbm, 329, rfl⟩
abbrev main_call1_call3_call0_v35 : Ref sig .tc := ⟨.hbm, 330, rfl⟩
abbrev main_call1_call3_call0_v36 : Ref sig .tc := ⟨.hbm, 331, rfl⟩
abbrev main_call1_call3_call0_v37 : Ref sig .tc := ⟨.hbm, 332, rfl⟩
abbrev main_call1_call3_call0_c_8 : Ref sig .tc := ⟨.hbm, 333, rfl⟩
abbrev main_call1_call3_call0_v38 : Ref sig .tc := ⟨.hbm, 334, rfl⟩
abbrev main_call1_call3_call0_v39 : Ref sig .tc := ⟨.hbm, 335, rfl⟩
abbrev main_call1_call3_call0_v40 : Ref sig .tc := ⟨.hbm, 336, rfl⟩
abbrev main_call1_call3_call0_c_9 : Ref sig .tc := ⟨.hbm, 337, rfl⟩
abbrev main_call1_call3_call0_v41 : Ref sig .tc := ⟨.hbm, 338, rfl⟩
abbrev main_call1_call3_call0_v42 : Ref sig .tc := ⟨.hbm, 339, rfl⟩
abbrev main_call1_call3_call0_c_10 : Ref sig .tc := ⟨.hbm, 340, rfl⟩
abbrev main_call1_call3_call0_v43 : Ref sig .tc := ⟨.hbm, 341, rfl⟩
abbrev main_call1_call3_call0_v44 : Ref sig .tc := ⟨.hbm, 342, rfl⟩
abbrev main_call1_call3_call0_v45 : Ref sig .tc := ⟨.hbm, 343, rfl⟩
abbrev main_call1_call3_call0_v46 : Ref sig .tc := ⟨.hbm, 344, rfl⟩
abbrev main_call1_call3_call0_v47 : Ref sig .tc := ⟨.hbm, 345, rfl⟩
abbrev main_call1_call3_call0_c_11 : Ref sig .tc := ⟨.hbm, 346, rfl⟩
abbrev main_call1_call3_call0_v48 : Ref sig .tc := ⟨.hbm, 347, rfl⟩
abbrev main_call1_call3_call0_v49 : Ref sig .tc := ⟨.hbm, 348, rfl⟩
abbrev main_call1_call3_call0_c_12 : Ref sig .tc := ⟨.hbm, 349, rfl⟩
abbrev main_call1_call3_call0_v50 : Ref sig .tc := ⟨.hbm, 350, rfl⟩
abbrev main_call1_call3_call0_v51 : Ref sig .tc := ⟨.hbm, 351, rfl⟩
abbrev main_call1_call3_call0_v52 : Ref sig .tc := ⟨.hbm, 352, rfl⟩
abbrev main_call1_call3_call0_v53 : Ref sig .tc := ⟨.hbm, 353, rfl⟩
abbrev main_call1_call3_call0_v54 : Ref sig .tc := ⟨.hbm, 354, rfl⟩
abbrev main_call1_call3_call0_c_13 : Ref sig .tc := ⟨.hbm, 355, rfl⟩
abbrev main_call1_call3_call0_v55 : Ref sig .tc := ⟨.hbm, 356, rfl⟩
abbrev main_call1_call3_call0_v56 : Ref sig .tc := ⟨.hbm, 357, rfl⟩
abbrev main_call1_call3_call0_c_14 : Ref sig .tc := ⟨.hbm, 358, rfl⟩
abbrev main_call1_call3_call0_v57 : Ref sig .tc := ⟨.hbm, 359, rfl⟩
abbrev main_call1_call3_call0_v58 : Ref sig .tc := ⟨.hbm, 360, rfl⟩
abbrev main_call1_call3_call0_v59 : Ref sig .tc := ⟨.hbm, 361, rfl⟩
abbrev main_call1_call3_call0_v60 : Ref sig .tc := ⟨.hbm, 362, rfl⟩
abbrev main_call1_call3_call0_v61 : Ref sig .tc := ⟨.hbm, 363, rfl⟩
abbrev main_call1_call3_call0_c_15 : Ref sig .tc := ⟨.hbm, 364, rfl⟩
abbrev main_call1_call3_call0_v62 : Ref sig .tc := ⟨.hbm, 365, rfl⟩
abbrev main_call1_call3_call0_v63 : Ref sig .tc := ⟨.hbm, 366, rfl⟩
abbrev main_call1_call3_call0_c_16 : Ref sig .tc := ⟨.hbm, 367, rfl⟩
abbrev main_call1_call3_call0_v64 : Ref sig .tc := ⟨.hbm, 368, rfl⟩
abbrev main_call1_call3_call0_v65 : Ref sig .tc := ⟨.hbm, 369, rfl⟩
abbrev main_call1_call3_call0_v66 : Ref sig .tc := ⟨.hbm, 370, rfl⟩
abbrev main_call1_call3_call0_v67 : Ref sig .tc := ⟨.hbm, 371, rfl⟩
abbrev main_call1_call3_call0_v68 : Ref sig .tc := ⟨.hbm, 372, rfl⟩
abbrev main_call1_call3_call0_v69 : Ref sig .tc := ⟨.hbm, 373, rfl⟩
abbrev main_call1_call3_call0_v70 : Ref sig .tc := ⟨.hbm, 374, rfl⟩
abbrev main_call1_call3_call0_v71 : Ref sig .tc := ⟨.hbm, 375, rfl⟩
abbrev main_call1_call3_call0_c_17 : Ref sig .tc := ⟨.hbm, 376, rfl⟩
abbrev main_call1_call3_call0_v72 : Ref sig .tc := ⟨.hbm, 377, rfl⟩
abbrev main_call1_call3_call0_v73 : Ref sig .tc := ⟨.hbm, 378, rfl⟩
abbrev main_call1_call3_call0_v74 : Ref sig .tc := ⟨.hbm, 379, rfl⟩
abbrev main_call1_call3_call0_c_18 : Ref sig .tc := ⟨.hbm, 380, rfl⟩
abbrev main_call1_call3_call0_v75 : Ref sig .tc := ⟨.hbm, 381, rfl⟩
abbrev main_call1_call3_call0_v76 : Ref sig .tc := ⟨.hbm, 382, rfl⟩
abbrev main_call1_call3_call0_c_19 : Ref sig .tc := ⟨.hbm, 383, rfl⟩
abbrev main_call1_call3_call0_v77 : Ref sig .tc := ⟨.hbm, 384, rfl⟩
abbrev main_call1_call3_call0_v78 : Ref sig .tc := ⟨.hbm, 385, rfl⟩
abbrev main_call1_call3_call0_v79 : Ref sig .tc := ⟨.hbm, 386, rfl⟩
abbrev main_call1_call3_call0_v80 : Ref sig .tc := ⟨.hbm, 387, rfl⟩
abbrev main_call1_call3_call0_v81 : Ref sig .tc := ⟨.hbm, 388, rfl⟩
abbrev main_call1_call3_call0_c_20 : Ref sig .tc := ⟨.hbm, 389, rfl⟩
abbrev main_call1_call3_call0_v82 : Ref sig .tc := ⟨.hbm, 390, rfl⟩
abbrev main_call1_call3_call0_v83 : Ref sig .tc := ⟨.hbm, 391, rfl⟩
abbrev main_call1_call3_call0_c_21 : Ref sig .tc := ⟨.hbm, 392, rfl⟩
abbrev main_call1_call3_call0_v84 : Ref sig .tc := ⟨.hbm, 393, rfl⟩
abbrev main_call1_call3_call0_v85 : Ref sig .tc := ⟨.hbm, 394, rfl⟩
abbrev main_call1_call3_call0_v86 : Ref sig .tc := ⟨.hbm, 395, rfl⟩
abbrev main_call1_call3_call0_v87 : Ref sig .tc := ⟨.hbm, 396, rfl⟩
abbrev main_call1_call3_call0_v88 : Ref sig .tc := ⟨.hbm, 397, rfl⟩
abbrev main_call1_call3_call0_c_22 : Ref sig .tc := ⟨.hbm, 398, rfl⟩
abbrev main_call1_call3_call0_v89 : Ref sig .tc := ⟨.hbm, 399, rfl⟩
abbrev main_call1_call3_call0_v90 : Ref sig .tc := ⟨.hbm, 400, rfl⟩
abbrev main_call1_call3_call0_c_23 : Ref sig .tc := ⟨.hbm, 401, rfl⟩
abbrev main_call1_call3_call0_v91 : Ref sig .tc := ⟨.hbm, 402, rfl⟩
abbrev main_call1_call3_call0_v92 : Ref sig .tc := ⟨.hbm, 403, rfl⟩
abbrev main_call1_call3_call0_v93 : Ref sig .tc := ⟨.hbm, 404, rfl⟩
abbrev main_call1_call3_call0_v94 : Ref sig .tc := ⟨.hbm, 405, rfl⟩
abbrev main_call1_call3_call0_v95 : Ref sig .tc := ⟨.hbm, 406, rfl⟩
abbrev main_call1_call3_call0_c_24 : Ref sig .tc := ⟨.hbm, 407, rfl⟩
abbrev main_call1_call3_call0_v96 : Ref sig .tc := ⟨.hbm, 408, rfl⟩
abbrev main_call1_call3_call0_v97 : Ref sig .tc := ⟨.hbm, 409, rfl⟩
abbrev main_call1_call3_call0_c_25 : Ref sig .tc := ⟨.hbm, 410, rfl⟩
abbrev main_call1_call3_call0_v98 : Ref sig .tc := ⟨.hbm, 411, rfl⟩
abbrev main_call1_call3_call0_v99 : Ref sig .tc := ⟨.hbm, 412, rfl⟩
abbrev main_call1_call3_call0_v100 : Ref sig .tc := ⟨.hbm, 413, rfl⟩
abbrev main_call1_call3_call0_v101 : Ref sig .tc := ⟨.hbm, 414, rfl⟩
abbrev main_call1_call3_call0_v102 : Ref sig .tc := ⟨.hbm, 415, rfl⟩
abbrev main_call1_call3_call0_v103 : Ref sig .tc := ⟨.hbm, 416, rfl⟩
abbrev main_call1_call3_call0_v104 : Ref sig .tc := ⟨.hbm, 417, rfl⟩
abbrev main_call1_call3_call0_v105 : Ref sig .tc := ⟨.hbm, 418, rfl⟩
abbrev main_call1_call3_call0_c_26 : Ref sig .tc := ⟨.hbm, 419, rfl⟩
abbrev main_call1_call3_call0_v106 : Ref sig .tc := ⟨.hbm, 420, rfl⟩
abbrev main_call1_call3_call0_v107 : Ref sig .tc := ⟨.hbm, 421, rfl⟩
abbrev main_call1_call3_call0_v108 : Ref sig .tc := ⟨.hbm, 422, rfl⟩
abbrev main_call1_call3_call0_c_27 : Ref sig .tc := ⟨.hbm, 423, rfl⟩
abbrev main_call1_call3_call0_v109 : Ref sig .tc := ⟨.hbm, 424, rfl⟩
abbrev main_call1_call3_call0_v110 : Ref sig .tc := ⟨.hbm, 425, rfl⟩
abbrev main_call1_call3_call0_c_28 : Ref sig .tc := ⟨.hbm, 426, rfl⟩
abbrev main_call1_call3_call0_v111 : Ref sig .tc := ⟨.hbm, 427, rfl⟩
abbrev main_call1_call3_call0_v112 : Ref sig .tc := ⟨.hbm, 428, rfl⟩
abbrev main_call1_call3_call0_v113 : Ref sig .tc := ⟨.hbm, 429, rfl⟩
abbrev main_call1_call3_call0_v114 : Ref sig .tc := ⟨.hbm, 430, rfl⟩
abbrev main_call1_call3_call0_v115 : Ref sig .tc := ⟨.hbm, 431, rfl⟩
abbrev main_call1_call3_call0_c_29 : Ref sig .tc := ⟨.hbm, 432, rfl⟩
abbrev main_call1_call3_call0_v116 : Ref sig .tc := ⟨.hbm, 433, rfl⟩
abbrev main_call1_call3_call0_v117 : Ref sig .tc := ⟨.hbm, 434, rfl⟩
abbrev main_call1_call3_call0_c_30 : Ref sig .tc := ⟨.hbm, 435, rfl⟩
abbrev main_call1_call3_call0_v118 : Ref sig .tc := ⟨.hbm, 436, rfl⟩
abbrev main_call1_call3_call0_v119 : Ref sig .tc := ⟨.hbm, 437, rfl⟩
abbrev main_call1_call3_call0_v120 : Ref sig .tc := ⟨.hbm, 438, rfl⟩
abbrev main_call1_call3_call0_v121 : Ref sig .tc := ⟨.hbm, 439, rfl⟩
abbrev main_call1_call3_call0_v122 : Ref sig .tc := ⟨.hbm, 440, rfl⟩
abbrev main_call1_call3_call0_c_31 : Ref sig .tc := ⟨.hbm, 441, rfl⟩
abbrev main_call1_call3_call0_v123 : Ref sig .tc := ⟨.hbm, 442, rfl⟩
abbrev main_call1_call3_call0_v124 : Ref sig .tc := ⟨.hbm, 443, rfl⟩
abbrev main_call1_call3_call0_c_32 : Ref sig .tc := ⟨.hbm, 444, rfl⟩
abbrev main_call1_call3_call0_v125 : Ref sig .tc := ⟨.hbm, 445, rfl⟩
abbrev main_call1_call3_call0_v126 : Ref sig .tc := ⟨.hbm, 446, rfl⟩
abbrev main_call1_call3_call0_v127 : Ref sig .tc := ⟨.hbm, 447, rfl⟩
abbrev main_call1_call3_call0_v128 : Ref sig .tc := ⟨.hbm, 448, rfl⟩
abbrev main_call1_call3_call0_v129 : Ref sig .tc := ⟨.hbm, 449, rfl⟩
abbrev main_call1_call3_call0_c_33 : Ref sig .tc := ⟨.hbm, 450, rfl⟩
abbrev main_call1_call3_call0_v130 : Ref sig .tc := ⟨.hbm, 451, rfl⟩
abbrev main_call1_call3_call0_v131 : Ref sig .tc := ⟨.hbm, 452, rfl⟩
abbrev main_call1_call3_call0_c_34 : Ref sig .tc := ⟨.hbm, 453, rfl⟩
abbrev main_call1_call3_call0_v132 : Ref sig .tc := ⟨.hbm, 454, rfl⟩
abbrev main_call1_call3_call0_v133 : Ref sig .tc := ⟨.hbm, 455, rfl⟩
abbrev main_call1_call3_call0_v134 : Ref sig .tc := ⟨.hbm, 456, rfl⟩
abbrev main_call1_call3_call0_v135 : Ref sig .tc := ⟨.hbm, 457, rfl⟩
abbrev main_call1_call3_call0_v136 : Ref sig .tc := ⟨.hbm, 458, rfl⟩
abbrev main_call1_call3_call0_v137 : Ref sig .tc := ⟨.hbm, 459, rfl⟩
abbrev main_call1_call3_call0_v138 : Ref sig .tc := ⟨.hbm, 460, rfl⟩
abbrev main_call1_call3_call0_v139 : Ref sig .tc := ⟨.hbm, 461, rfl⟩
abbrev main_call1_call3_call0_c_35 : Ref sig .tc := ⟨.hbm, 462, rfl⟩
abbrev main_call1_call3_call0_v140 : Ref sig .tc := ⟨.hbm, 463, rfl⟩
abbrev main_call1_call3_call0_v141 : Ref sig .tc := ⟨.hbm, 464, rfl⟩
abbrev main_call1_call3_call0_v142 : Ref sig .tc := ⟨.hbm, 465, rfl⟩
abbrev main_call1_call3_call0_c_36 : Ref sig .tc := ⟨.hbm, 466, rfl⟩
abbrev main_call1_call3_call0_v143 : Ref sig .tc := ⟨.hbm, 467, rfl⟩
abbrev main_call1_call3_call0_v144 : Ref sig .tc := ⟨.hbm, 468, rfl⟩
abbrev main_call1_call3_call0_c_37 : Ref sig .tc := ⟨.hbm, 469, rfl⟩
abbrev main_call1_call3_call0_v145 : Ref sig .tc := ⟨.hbm, 470, rfl⟩
abbrev main_call1_call3_call0_v146 : Ref sig .tc := ⟨.hbm, 471, rfl⟩
abbrev main_call1_call3_call0_v147 : Ref sig .tc := ⟨.hbm, 472, rfl⟩
abbrev main_call1_call3_call0_v148 : Ref sig .tc := ⟨.hbm, 473, rfl⟩
abbrev main_call1_call3_call0_v149 : Ref sig .tc := ⟨.hbm, 474, rfl⟩
abbrev main_call1_call3_call0_c_38 : Ref sig .tc := ⟨.hbm, 475, rfl⟩
abbrev main_call1_call3_call0_v150 : Ref sig .tc := ⟨.hbm, 476, rfl⟩
abbrev main_call1_call3_call0_v151 : Ref sig .tc := ⟨.hbm, 477, rfl⟩
abbrev main_call1_call3_call0_c_39 : Ref sig .tc := ⟨.hbm, 478, rfl⟩
abbrev main_call1_call3_call0_v152 : Ref sig .tc := ⟨.hbm, 479, rfl⟩
abbrev main_call1_call3_call0_v153 : Ref sig .tc := ⟨.hbm, 480, rfl⟩
abbrev main_call1_call3_call0_v154 : Ref sig .tc := ⟨.hbm, 481, rfl⟩
abbrev main_call1_call3_call0_v155 : Ref sig .tc := ⟨.hbm, 482, rfl⟩
abbrev main_call1_call3_call0_v156 : Ref sig .tc := ⟨.hbm, 483, rfl⟩
abbrev main_call1_call3_call0_c_40 : Ref sig .tc := ⟨.hbm, 484, rfl⟩
abbrev main_call1_call3_call0_v157 : Ref sig .tc := ⟨.hbm, 485, rfl⟩
abbrev main_call1_call3_call0_v158 : Ref sig .tc := ⟨.hbm, 486, rfl⟩
abbrev main_call1_call3_call0_c_41 : Ref sig .tc := ⟨.hbm, 487, rfl⟩
abbrev main_call1_call3_call0_v159 : Ref sig .tc := ⟨.hbm, 488, rfl⟩
abbrev main_call1_call3_call0_v160 : Ref sig .tc := ⟨.hbm, 489, rfl⟩
abbrev main_call1_call3_call0_v161 : Ref sig .tc := ⟨.hbm, 490, rfl⟩
abbrev main_call1_call3_call0_v162 : Ref sig .tc := ⟨.hbm, 491, rfl⟩
abbrev main_call1_call3_call0_v163 : Ref sig .tc := ⟨.hbm, 492, rfl⟩
abbrev main_call1_call3_call0_c_42 : Ref sig .tc := ⟨.hbm, 493, rfl⟩
abbrev main_call1_call3_call0_v164 : Ref sig .tc := ⟨.hbm, 494, rfl⟩
abbrev main_call1_call3_call0_v165 : Ref sig .tc := ⟨.hbm, 495, rfl⟩
abbrev main_call1_call3_call0_c_43 : Ref sig .tc := ⟨.hbm, 496, rfl⟩
abbrev main_call1_call3_call0_v166 : Ref sig .tc := ⟨.hbm, 497, rfl⟩
abbrev main_call1_call3_call0_v167 : Ref sig .tc := ⟨.hbm, 498, rfl⟩
abbrev main_call1_call3_call0_v168 : Ref sig .tc := ⟨.hbm, 499, rfl⟩
abbrev main_call1_call3_call0_v169 : Ref sig .tc := ⟨.hbm, 500, rfl⟩
abbrev main_call1_call3_call0_v170 : Ref sig .tc := ⟨.hbm, 501, rfl⟩
abbrev main_call1_call3_v11_0 : Ref sig .tc := ⟨.hbm, 502, rfl⟩
abbrev main_call1_call3_call0_v172 : Ref sig .tc := ⟨.hbm, 503, rfl⟩
abbrev main_call1_call3_call0_v173 : Ref sig .tc := ⟨.hbm, 504, rfl⟩
abbrev main_call1_call3_call0_c_44 : Ref sig .tc := ⟨.hbm, 505, rfl⟩
abbrev main_call1_call3_call0_v174 : Ref sig .tc := ⟨.hbm, 506, rfl⟩
abbrev main_call1_call3_v11_1 : Ref sig .tc := ⟨.hbm, 507, rfl⟩
abbrev main_call1_call3_v12 : Ref sig .tc := ⟨.hbm, 508, rfl⟩
abbrev main_call1_call3_v13 : Ref sig .tc := ⟨.hbm, 509, rfl⟩
abbrev main_call1_v8 : Ref sig .tc := ⟨.hbm, 510, rfl⟩
abbrev main_call1_v9 : Ref sig .tc := ⟨.hbm, 511, rfl⟩
abbrev main_call1_v10 : Ref sig .tc := ⟨.hbm, 512, rfl⟩
abbrev main_call1_v11 : Ref sig .tc := ⟨.hbm, 513, rfl⟩
abbrev main_call1_v12 : Ref sig .tc := ⟨.hbm, 514, rfl⟩
abbrev main_call1_v13 : Ref sig .tc := ⟨.hbm, 515, rfl⟩
abbrev main_call1_v14 : Ref sig .tc := ⟨.hbm, 516, rfl⟩
abbrev main_call1_v15 : Ref sig .tc := ⟨.hbm, 517, rfl⟩
abbrev main_call1_v16 : Ref sig .tc := ⟨.hbm, 518, rfl⟩
abbrev main_call1_v17 : Ref sig .tc := ⟨.hbm, 519, rfl⟩
abbrev main_call1_c_6 : Ref sig .tc := ⟨.hbm, 520, rfl⟩
abbrev main_call1_v18 : Ref sig .tc := ⟨.hbm, 521, rfl⟩
abbrev main_call1_v19 : Ref sig .tc := ⟨.hbm, 522, rfl⟩
abbrev main_call1_c_7 : Ref sig .tc := ⟨.hbm, 523, rfl⟩
abbrev main_call1_v20 : Ref sig .tc := ⟨.hbm, 524, rfl⟩
abbrev main_call1_v21 : Ref sig .tc := ⟨.hbm, 525, rfl⟩
abbrev main_call1_v22 : Ref sig .tc := ⟨.hbm, 526, rfl⟩
abbrev main_call1_v23 : Ref sig .tc := ⟨.hbm, 527, rfl⟩
abbrev main_call1_call4_v0 : Ref sig .tc := ⟨.hbm, 528, rfl⟩
abbrev main_call1_call4_c : Ref sig .tc := ⟨.hbm, 529, rfl⟩
abbrev main_call1_call4_v1 : Ref sig .tc := ⟨.hbm, 530, rfl⟩
abbrev main_call1_call4_v2 : Ref sig .tc := ⟨.hbm, 531, rfl⟩
abbrev main_call1_call4_v3 : Ref sig .tc := ⟨.hbm, 532, rfl⟩
abbrev main_call1_call4_v4 : Ref sig .tc := ⟨.hbm, 533, rfl⟩
abbrev main_call1_call4_v5 : Ref sig .tc := ⟨.hbm, 534, rfl⟩
abbrev main_call1_call4_v6 : Ref sig .tc := ⟨.hbm, 535, rfl⟩
abbrev main_call1_call4_c_0 : Ref sig .tc := ⟨.hbm, 536, rfl⟩
abbrev main_call1_call4_v7 : Ref sig .tc := ⟨.hbm, 537, rfl⟩
abbrev main_call1_call4_v8 : Ref sig .tc := ⟨.hbm, 538, rfl⟩
abbrev main_call1_call4_c_1 : Ref sig .tc := ⟨.hbm, 539, rfl⟩
abbrev main_call1_call4_v9 : Ref sig .tc := ⟨.hbm, 540, rfl⟩
abbrev main_call1_call4_v10 : Ref sig .tc := ⟨.hbm, 541, rfl⟩
abbrev main_call1_call4_v11 : Ref sig .tc := ⟨.hbm, 542, rfl⟩
abbrev main_call1_call4_v12 : Ref sig .tc := ⟨.hbm, 543, rfl⟩
abbrev main_call1_call4_v13 : Ref sig .tc := ⟨.hbm, 544, rfl⟩
abbrev main_call1_call4_c_2 : Ref sig .tc := ⟨.hbm, 545, rfl⟩
abbrev main_call1_call4_v14 : Ref sig .tc := ⟨.hbm, 546, rfl⟩
abbrev main_call1_call4_v15 : Ref sig .tc := ⟨.hbm, 547, rfl⟩
abbrev main_call1_call4_c_3 : Ref sig .tc := ⟨.hbm, 548, rfl⟩
abbrev main_call1_call4_v16 : Ref sig .tc := ⟨.hbm, 549, rfl⟩
abbrev main_call1_call4_v17 : Ref sig .tc := ⟨.hbm, 550, rfl⟩
abbrev main_call1_call4_v18 : Ref sig .tc := ⟨.hbm, 551, rfl⟩
abbrev main_call1_call4_v19 : Ref sig .tc := ⟨.hbm, 552, rfl⟩
abbrev main_call1_call4_v20 : Ref sig .tc := ⟨.hbm, 553, rfl⟩
abbrev main_call1_call4_c_4 : Ref sig .tc := ⟨.hbm, 554, rfl⟩
abbrev main_call1_call4_v21 : Ref sig .tc := ⟨.hbm, 555, rfl⟩
abbrev main_call1_call4_v22 : Ref sig .tc := ⟨.hbm, 556, rfl⟩
abbrev main_call1_call4_c_5 : Ref sig .tc := ⟨.hbm, 557, rfl⟩
abbrev main_call1_call4_v23 : Ref sig .tc := ⟨.hbm, 558, rfl⟩
abbrev main_call1_call4_v24 : Ref sig .tc := ⟨.hbm, 559, rfl⟩
abbrev main_call1_call4_v25 : Ref sig .tc := ⟨.hbm, 560, rfl⟩
abbrev main_call1_call4_v26 : Ref sig .tc := ⟨.hbm, 561, rfl⟩
abbrev main_call1_call4_v27 : Ref sig .tc := ⟨.hbm, 562, rfl⟩
abbrev main_call1_call4_c_6 : Ref sig .tc := ⟨.hbm, 563, rfl⟩
abbrev main_call1_call4_v28 : Ref sig .tc := ⟨.hbm, 564, rfl⟩
abbrev main_call1_call4_v29 : Ref sig .tc := ⟨.hbm, 565, rfl⟩
abbrev main_call1_call4_c_7 : Ref sig .tc := ⟨.hbm, 566, rfl⟩
abbrev main_call1_call4_v30 : Ref sig .tc := ⟨.hbm, 567, rfl⟩
abbrev main_call1_call4_v31 : Ref sig .tc := ⟨.hbm, 568, rfl⟩
abbrev main_call1_call4_v32 : Ref sig .tc := ⟨.hbm, 569, rfl⟩
abbrev main_call1_call4_v33 : Ref sig .tc := ⟨.hbm, 570, rfl⟩
abbrev main_call1_call4_v34 : Ref sig .tc := ⟨.hbm, 571, rfl⟩
abbrev main_call1_call4_v35 : Ref sig .tc := ⟨.hbm, 572, rfl⟩
abbrev main_call1_call4_v36 : Ref sig .tc := ⟨.hbm, 573, rfl⟩
abbrev main_call1_call4_v37 : Ref sig .tc := ⟨.hbm, 574, rfl⟩
abbrev main_call1_call4_c_8 : Ref sig .tc := ⟨.hbm, 575, rfl⟩
abbrev main_call1_call4_v38 : Ref sig .tc := ⟨.hbm, 576, rfl⟩
abbrev main_call1_call4_v39 : Ref sig .tc := ⟨.hbm, 577, rfl⟩
abbrev main_call1_call4_v40 : Ref sig .tc := ⟨.hbm, 578, rfl⟩
abbrev main_call1_call4_c_9 : Ref sig .tc := ⟨.hbm, 579, rfl⟩
abbrev main_call1_call4_v41 : Ref sig .tc := ⟨.hbm, 580, rfl⟩
abbrev main_call1_call4_v42 : Ref sig .tc := ⟨.hbm, 581, rfl⟩
abbrev main_call1_call4_c_10 : Ref sig .tc := ⟨.hbm, 582, rfl⟩
abbrev main_call1_call4_v43 : Ref sig .tc := ⟨.hbm, 583, rfl⟩
abbrev main_call1_call4_v44 : Ref sig .tc := ⟨.hbm, 584, rfl⟩
abbrev main_call1_call4_v45 : Ref sig .tc := ⟨.hbm, 585, rfl⟩
abbrev main_call1_call4_v46 : Ref sig .tc := ⟨.hbm, 586, rfl⟩
abbrev main_call1_call4_v47 : Ref sig .tc := ⟨.hbm, 587, rfl⟩
abbrev main_call1_call4_c_11 : Ref sig .tc := ⟨.hbm, 588, rfl⟩
abbrev main_call1_call4_v48 : Ref sig .tc := ⟨.hbm, 589, rfl⟩
abbrev main_call1_call4_v49 : Ref sig .tc := ⟨.hbm, 590, rfl⟩
abbrev main_call1_call4_c_12 : Ref sig .tc := ⟨.hbm, 591, rfl⟩
abbrev main_call1_call4_v50 : Ref sig .tc := ⟨.hbm, 592, rfl⟩
abbrev main_call1_call4_v51 : Ref sig .tc := ⟨.hbm, 593, rfl⟩
abbrev main_call1_call4_v52 : Ref sig .tc := ⟨.hbm, 594, rfl⟩
abbrev main_call1_call4_v53 : Ref sig .tc := ⟨.hbm, 595, rfl⟩
abbrev main_call1_call4_v54 : Ref sig .tc := ⟨.hbm, 596, rfl⟩
abbrev main_call1_call4_c_13 : Ref sig .tc := ⟨.hbm, 597, rfl⟩
abbrev main_call1_call4_v55 : Ref sig .tc := ⟨.hbm, 598, rfl⟩
abbrev main_call1_call4_v56 : Ref sig .tc := ⟨.hbm, 599, rfl⟩
abbrev main_call1_call4_c_14 : Ref sig .tc := ⟨.hbm, 600, rfl⟩
abbrev main_call1_call4_v57 : Ref sig .tc := ⟨.hbm, 601, rfl⟩
abbrev main_call1_call4_v58 : Ref sig .tc := ⟨.hbm, 602, rfl⟩
abbrev main_call1_call4_v59 : Ref sig .tc := ⟨.hbm, 603, rfl⟩
abbrev main_call1_call4_v60 : Ref sig .tc := ⟨.hbm, 604, rfl⟩
abbrev main_call1_call4_v61 : Ref sig .tc := ⟨.hbm, 605, rfl⟩
abbrev main_call1_call4_c_15 : Ref sig .tc := ⟨.hbm, 606, rfl⟩
abbrev main_call1_call4_v62 : Ref sig .tc := ⟨.hbm, 607, rfl⟩
abbrev main_call1_call4_v63 : Ref sig .tc := ⟨.hbm, 608, rfl⟩
abbrev main_call1_call4_c_16 : Ref sig .tc := ⟨.hbm, 609, rfl⟩
abbrev main_call1_call4_v64 : Ref sig .tc := ⟨.hbm, 610, rfl⟩
abbrev main_call1_call4_v65 : Ref sig .tc := ⟨.hbm, 611, rfl⟩
abbrev main_call1_call4_v66 : Ref sig .tc := ⟨.hbm, 612, rfl⟩
abbrev main_call1_call4_v67 : Ref sig .tc := ⟨.hbm, 613, rfl⟩
abbrev main_call1_call4_v68 : Ref sig .tc := ⟨.hbm, 614, rfl⟩
abbrev main_call1_call4_v69 : Ref sig .tc := ⟨.hbm, 615, rfl⟩
abbrev main_call1_call4_v70 : Ref sig .tc := ⟨.hbm, 616, rfl⟩
abbrev main_call1_call4_v71 : Ref sig .tc := ⟨.hbm, 617, rfl⟩
abbrev main_call1_call4_c_17 : Ref sig .tc := ⟨.hbm, 618, rfl⟩
abbrev main_call1_call4_v72 : Ref sig .tc := ⟨.hbm, 619, rfl⟩
abbrev main_call1_call4_v73 : Ref sig .tc := ⟨.hbm, 620, rfl⟩
abbrev main_call1_call4_v74 : Ref sig .tc := ⟨.hbm, 621, rfl⟩
abbrev main_call1_call4_c_18 : Ref sig .tc := ⟨.hbm, 622, rfl⟩
abbrev main_call1_call4_v75 : Ref sig .tc := ⟨.hbm, 623, rfl⟩
abbrev main_call1_call4_v76 : Ref sig .tc := ⟨.hbm, 624, rfl⟩
abbrev main_call1_call4_c_19 : Ref sig .tc := ⟨.hbm, 625, rfl⟩
abbrev main_call1_call4_v77 : Ref sig .tc := ⟨.hbm, 626, rfl⟩
abbrev main_call1_call4_v78 : Ref sig .tc := ⟨.hbm, 627, rfl⟩
abbrev main_call1_call4_v79 : Ref sig .tc := ⟨.hbm, 628, rfl⟩
abbrev main_call1_call4_v80 : Ref sig .tc := ⟨.hbm, 629, rfl⟩
abbrev main_call1_call4_v81 : Ref sig .tc := ⟨.hbm, 630, rfl⟩
abbrev main_call1_call4_c_20 : Ref sig .tc := ⟨.hbm, 631, rfl⟩
abbrev main_call1_call4_v82 : Ref sig .tc := ⟨.hbm, 632, rfl⟩
abbrev main_call1_call4_v83 : Ref sig .tc := ⟨.hbm, 633, rfl⟩
abbrev main_call1_call4_c_21 : Ref sig .tc := ⟨.hbm, 634, rfl⟩
abbrev main_call1_call4_v84 : Ref sig .tc := ⟨.hbm, 635, rfl⟩
abbrev main_call1_call4_v85 : Ref sig .tc := ⟨.hbm, 636, rfl⟩
abbrev main_call1_call4_v86 : Ref sig .tc := ⟨.hbm, 637, rfl⟩
abbrev main_call1_call4_v87 : Ref sig .tc := ⟨.hbm, 638, rfl⟩
abbrev main_call1_call4_v88 : Ref sig .tc := ⟨.hbm, 639, rfl⟩
abbrev main_call1_call4_c_22 : Ref sig .tc := ⟨.hbm, 640, rfl⟩
abbrev main_call1_call4_v89 : Ref sig .tc := ⟨.hbm, 641, rfl⟩
abbrev main_call1_call4_v90 : Ref sig .tc := ⟨.hbm, 642, rfl⟩
abbrev main_call1_call4_c_23 : Ref sig .tc := ⟨.hbm, 643, rfl⟩
abbrev main_call1_call4_v91 : Ref sig .tc := ⟨.hbm, 644, rfl⟩
abbrev main_call1_call4_v92 : Ref sig .tc := ⟨.hbm, 645, rfl⟩
abbrev main_call1_call4_v93 : Ref sig .tc := ⟨.hbm, 646, rfl⟩
abbrev main_call1_call4_v94 : Ref sig .tc := ⟨.hbm, 647, rfl⟩
abbrev main_call1_call4_v95 : Ref sig .tc := ⟨.hbm, 648, rfl⟩
abbrev main_call1_call4_c_24 : Ref sig .tc := ⟨.hbm, 649, rfl⟩
abbrev main_call1_call4_v96 : Ref sig .tc := ⟨.hbm, 650, rfl⟩
abbrev main_call1_call4_v97 : Ref sig .tc := ⟨.hbm, 651, rfl⟩
abbrev main_call1_call4_c_25 : Ref sig .tc := ⟨.hbm, 652, rfl⟩
abbrev main_call1_call4_v98 : Ref sig .tc := ⟨.hbm, 653, rfl⟩
abbrev main_call1_call4_v99 : Ref sig .tc := ⟨.hbm, 654, rfl⟩
abbrev main_call1_call4_v100 : Ref sig .tc := ⟨.hbm, 655, rfl⟩
abbrev main_call1_call4_v101 : Ref sig .tc := ⟨.hbm, 656, rfl⟩
abbrev main_call1_call4_v102 : Ref sig .tc := ⟨.hbm, 657, rfl⟩
abbrev main_call1_call4_v103 : Ref sig .tc := ⟨.hbm, 658, rfl⟩
abbrev main_call1_call4_v104 : Ref sig .tc := ⟨.hbm, 659, rfl⟩
abbrev main_call1_call4_v105 : Ref sig .tc := ⟨.hbm, 660, rfl⟩
abbrev main_call1_call4_c_26 : Ref sig .tc := ⟨.hbm, 661, rfl⟩
abbrev main_call1_call4_v106 : Ref sig .tc := ⟨.hbm, 662, rfl⟩
abbrev main_call1_call4_v107 : Ref sig .tc := ⟨.hbm, 663, rfl⟩
abbrev main_call1_call4_v108 : Ref sig .tc := ⟨.hbm, 664, rfl⟩
abbrev main_call1_call4_c_27 : Ref sig .tc := ⟨.hbm, 665, rfl⟩
abbrev main_call1_call4_v109 : Ref sig .tc := ⟨.hbm, 666, rfl⟩
abbrev main_call1_call4_v110 : Ref sig .tc := ⟨.hbm, 667, rfl⟩
abbrev main_call1_call4_c_28 : Ref sig .tc := ⟨.hbm, 668, rfl⟩
abbrev main_call1_call4_v111 : Ref sig .tc := ⟨.hbm, 669, rfl⟩
abbrev main_call1_call4_v112 : Ref sig .tc := ⟨.hbm, 670, rfl⟩
abbrev main_call1_call4_v113 : Ref sig .tc := ⟨.hbm, 671, rfl⟩
abbrev main_call1_call4_v114 : Ref sig .tc := ⟨.hbm, 672, rfl⟩
abbrev main_call1_call4_v115 : Ref sig .tc := ⟨.hbm, 673, rfl⟩
abbrev main_call1_call4_c_29 : Ref sig .tc := ⟨.hbm, 674, rfl⟩
abbrev main_call1_call4_v116 : Ref sig .tc := ⟨.hbm, 675, rfl⟩
abbrev main_call1_call4_v117 : Ref sig .tc := ⟨.hbm, 676, rfl⟩
abbrev main_call1_call4_c_30 : Ref sig .tc := ⟨.hbm, 677, rfl⟩
abbrev main_call1_call4_v118 : Ref sig .tc := ⟨.hbm, 678, rfl⟩
abbrev main_call1_call4_v119 : Ref sig .tc := ⟨.hbm, 679, rfl⟩
abbrev main_call1_call4_v120 : Ref sig .tc := ⟨.hbm, 680, rfl⟩
abbrev main_call1_call4_v121 : Ref sig .tc := ⟨.hbm, 681, rfl⟩
abbrev main_call1_call4_v122 : Ref sig .tc := ⟨.hbm, 682, rfl⟩
abbrev main_call1_call4_c_31 : Ref sig .tc := ⟨.hbm, 683, rfl⟩
abbrev main_call1_call4_v123 : Ref sig .tc := ⟨.hbm, 684, rfl⟩
abbrev main_call1_call4_v124 : Ref sig .tc := ⟨.hbm, 685, rfl⟩
abbrev main_call1_call4_c_32 : Ref sig .tc := ⟨.hbm, 686, rfl⟩
abbrev main_call1_call4_v125 : Ref sig .tc := ⟨.hbm, 687, rfl⟩
abbrev main_call1_call4_v126 : Ref sig .tc := ⟨.hbm, 688, rfl⟩
abbrev main_call1_call4_v127 : Ref sig .tc := ⟨.hbm, 689, rfl⟩
abbrev main_call1_call4_v128 : Ref sig .tc := ⟨.hbm, 690, rfl⟩
abbrev main_call1_call4_v129 : Ref sig .tc := ⟨.hbm, 691, rfl⟩
abbrev main_call1_call4_c_33 : Ref sig .tc := ⟨.hbm, 692, rfl⟩
abbrev main_call1_call4_v130 : Ref sig .tc := ⟨.hbm, 693, rfl⟩
abbrev main_call1_call4_v131 : Ref sig .tc := ⟨.hbm, 694, rfl⟩
abbrev main_call1_call4_c_34 : Ref sig .tc := ⟨.hbm, 695, rfl⟩
abbrev main_call1_call4_v132 : Ref sig .tc := ⟨.hbm, 696, rfl⟩
abbrev main_call1_call4_v133 : Ref sig .tc := ⟨.hbm, 697, rfl⟩
abbrev main_call1_call4_v134 : Ref sig .tc := ⟨.hbm, 698, rfl⟩
abbrev main_call1_call4_v135 : Ref sig .tc := ⟨.hbm, 699, rfl⟩
abbrev main_call1_call4_v136 : Ref sig .tc := ⟨.hbm, 700, rfl⟩
abbrev main_call1_call4_v137 : Ref sig .tc := ⟨.hbm, 701, rfl⟩
abbrev main_call1_call4_v138 : Ref sig .tc := ⟨.hbm, 702, rfl⟩
abbrev main_call1_call4_v139 : Ref sig .tc := ⟨.hbm, 703, rfl⟩
abbrev main_call1_call4_c_35 : Ref sig .tc := ⟨.hbm, 704, rfl⟩
abbrev main_call1_call4_v140 : Ref sig .tc := ⟨.hbm, 705, rfl⟩
abbrev main_call1_call4_v141 : Ref sig .tc := ⟨.hbm, 706, rfl⟩
abbrev main_call1_call4_v142 : Ref sig .tc := ⟨.hbm, 707, rfl⟩
abbrev main_call1_call4_c_36 : Ref sig .tc := ⟨.hbm, 708, rfl⟩
abbrev main_call1_call4_v143 : Ref sig .tc := ⟨.hbm, 709, rfl⟩
abbrev main_call1_call4_v144 : Ref sig .tc := ⟨.hbm, 710, rfl⟩
abbrev main_call1_call4_c_37 : Ref sig .tc := ⟨.hbm, 711, rfl⟩
abbrev main_call1_call4_v145 : Ref sig .tc := ⟨.hbm, 712, rfl⟩
abbrev main_call1_call4_v146 : Ref sig .tc := ⟨.hbm, 713, rfl⟩
abbrev main_call1_call4_v147 : Ref sig .tc := ⟨.hbm, 714, rfl⟩
abbrev main_call1_call4_v148 : Ref sig .tc := ⟨.hbm, 715, rfl⟩
abbrev main_call1_call4_v149 : Ref sig .tc := ⟨.hbm, 716, rfl⟩
abbrev main_call1_call4_c_38 : Ref sig .tc := ⟨.hbm, 717, rfl⟩
abbrev main_call1_call4_v150 : Ref sig .tc := ⟨.hbm, 718, rfl⟩
abbrev main_call1_call4_v151 : Ref sig .tc := ⟨.hbm, 719, rfl⟩
abbrev main_call1_call4_c_39 : Ref sig .tc := ⟨.hbm, 720, rfl⟩
abbrev main_call1_call4_v152 : Ref sig .tc := ⟨.hbm, 721, rfl⟩
abbrev main_call1_call4_v153 : Ref sig .tc := ⟨.hbm, 722, rfl⟩
abbrev main_call1_call4_v154 : Ref sig .tc := ⟨.hbm, 723, rfl⟩
abbrev main_call1_call4_v155 : Ref sig .tc := ⟨.hbm, 724, rfl⟩
abbrev main_call1_call4_v156 : Ref sig .tc := ⟨.hbm, 725, rfl⟩
abbrev main_call1_call4_c_40 : Ref sig .tc := ⟨.hbm, 726, rfl⟩
abbrev main_call1_call4_v157 : Ref sig .tc := ⟨.hbm, 727, rfl⟩
abbrev main_call1_call4_v158 : Ref sig .tc := ⟨.hbm, 728, rfl⟩
abbrev main_call1_call4_c_41 : Ref sig .tc := ⟨.hbm, 729, rfl⟩
abbrev main_call1_call4_v159 : Ref sig .tc := ⟨.hbm, 730, rfl⟩
abbrev main_call1_call4_v160 : Ref sig .tc := ⟨.hbm, 731, rfl⟩
abbrev main_call1_call4_v161 : Ref sig .tc := ⟨.hbm, 732, rfl⟩
abbrev main_call1_call4_v162 : Ref sig .tc := ⟨.hbm, 733, rfl⟩
abbrev main_call1_call4_v163 : Ref sig .tc := ⟨.hbm, 734, rfl⟩
abbrev main_call1_call4_c_42 : Ref sig .tc := ⟨.hbm, 735, rfl⟩
abbrev main_call1_call4_v164 : Ref sig .tc := ⟨.hbm, 736, rfl⟩
abbrev main_call1_call4_v165 : Ref sig .tc := ⟨.hbm, 737, rfl⟩
abbrev main_call1_call4_c_43 : Ref sig .tc := ⟨.hbm, 738, rfl⟩
abbrev main_call1_call4_v166 : Ref sig .tc := ⟨.hbm, 739, rfl⟩
abbrev main_call1_call4_v167 : Ref sig .tc := ⟨.hbm, 740, rfl⟩
abbrev main_call1_call4_v168 : Ref sig .tc := ⟨.hbm, 741, rfl⟩
abbrev main_call1_call4_v169 : Ref sig .tc := ⟨.hbm, 742, rfl⟩
abbrev main_call1_call4_v170 : Ref sig .tc := ⟨.hbm, 743, rfl⟩
abbrev main_call1_v24_0 : Ref sig .tc := ⟨.hbm, 744, rfl⟩
abbrev main_call1_call4_v172 : Ref sig .tc := ⟨.hbm, 745, rfl⟩
abbrev main_call1_call4_v173 : Ref sig .tc := ⟨.hbm, 746, rfl⟩
abbrev main_call1_call4_c_44 : Ref sig .tc := ⟨.hbm, 747, rfl⟩
abbrev main_call1_call4_v174 : Ref sig .tc := ⟨.hbm, 748, rfl⟩
abbrev main_call1_v24_1 : Ref sig .tc := ⟨.hbm, 749, rfl⟩
abbrev main_call1_v25 : Ref sig .tc := ⟨.hbm, 750, rfl⟩
abbrev main_call1_v26 : Ref sig .tc := ⟨.hbm, 751, rfl⟩
abbrev main_call1_v27 : Ref sig .tc := ⟨.hbm, 752, rfl⟩
abbrev main_call1_v28 : Ref sig .tc := ⟨.hbm, 753, rfl⟩
abbrev main_call1_v29 : Ref sig .tc := ⟨.hbm, 754, rfl⟩
abbrev main_call1_v30 : Ref sig .tc := ⟨.hbm, 755, rfl⟩
abbrev main_call1_c_8 : Ref sig .tc := ⟨.hbm, 756, rfl⟩
abbrev main_call1_v31 : Ref sig .tc := ⟨.hbm, 757, rfl⟩
abbrev main_call1_v32 : Ref sig .tc := ⟨.hbm, 758, rfl⟩
abbrev main_call1_c_9 : Ref sig .tc := ⟨.hbm, 759, rfl⟩
abbrev main_call1_v33 : Ref sig .tc := ⟨.hbm, 760, rfl⟩
abbrev main_call1_v34 : Ref sig .tc := ⟨.hbm, 761, rfl⟩
abbrev main_call1_v35 : Ref sig .tc := ⟨.hbm, 762, rfl⟩
abbrev main_call1_v36 : Ref sig .tc := ⟨.hbm, 763, rfl⟩
abbrev main_call1_call5_v0 : Ref sig .tc := ⟨.hbm, 764, rfl⟩
abbrev main_call1_call5_c : Ref sig .tc := ⟨.hbm, 765, rfl⟩
abbrev main_call1_call5_v1 : Ref sig .tc := ⟨.hbm, 766, rfl⟩
abbrev main_call1_call5_v2 : Ref sig .tc := ⟨.hbm, 767, rfl⟩
abbrev main_call1_call5_v3 : Ref sig .tc := ⟨.hbm, 768, rfl⟩
abbrev main_call1_call5_v4 : Ref sig .tc := ⟨.hbm, 769, rfl⟩
abbrev main_call1_call5_v5 : Ref sig .tc := ⟨.hbm, 770, rfl⟩
abbrev main_call1_call5_v6 : Ref sig .tc := ⟨.hbm, 771, rfl⟩
abbrev main_call1_call5_c_0 : Ref sig .tc := ⟨.hbm, 772, rfl⟩
abbrev main_call1_call5_v7 : Ref sig .tc := ⟨.hbm, 773, rfl⟩
abbrev main_call1_call5_v8 : Ref sig .tc := ⟨.hbm, 774, rfl⟩
abbrev main_call1_call5_c_1 : Ref sig .tc := ⟨.hbm, 775, rfl⟩
abbrev main_call1_call5_v9 : Ref sig .tc := ⟨.hbm, 776, rfl⟩
abbrev main_call1_call5_v10 : Ref sig .tc := ⟨.hbm, 777, rfl⟩
abbrev main_call1_call5_v11 : Ref sig .tc := ⟨.hbm, 778, rfl⟩
abbrev main_call1_call5_v12 : Ref sig .tc := ⟨.hbm, 779, rfl⟩
abbrev main_call1_call5_v13 : Ref sig .tc := ⟨.hbm, 780, rfl⟩
abbrev main_call1_call5_c_2 : Ref sig .tc := ⟨.hbm, 781, rfl⟩
abbrev main_call1_call5_v14 : Ref sig .tc := ⟨.hbm, 782, rfl⟩
abbrev main_call1_call5_v15 : Ref sig .tc := ⟨.hbm, 783, rfl⟩
abbrev main_call1_call5_c_3 : Ref sig .tc := ⟨.hbm, 784, rfl⟩
abbrev main_call1_call5_v16 : Ref sig .tc := ⟨.hbm, 785, rfl⟩
abbrev main_call1_call5_v17 : Ref sig .tc := ⟨.hbm, 786, rfl⟩
abbrev main_call1_call5_v18 : Ref sig .tc := ⟨.hbm, 787, rfl⟩
abbrev main_call1_call5_v19 : Ref sig .tc := ⟨.hbm, 788, rfl⟩
abbrev main_call1_call5_v20 : Ref sig .tc := ⟨.hbm, 789, rfl⟩
abbrev main_call1_call5_c_4 : Ref sig .tc := ⟨.hbm, 790, rfl⟩
abbrev main_call1_call5_v21 : Ref sig .tc := ⟨.hbm, 791, rfl⟩
abbrev main_call1_call5_v22 : Ref sig .tc := ⟨.hbm, 792, rfl⟩
abbrev main_call1_call5_c_5 : Ref sig .tc := ⟨.hbm, 793, rfl⟩
abbrev main_call1_call5_v23 : Ref sig .tc := ⟨.hbm, 794, rfl⟩
abbrev main_call1_call5_v24 : Ref sig .tc := ⟨.hbm, 795, rfl⟩
abbrev main_call1_call5_v25 : Ref sig .tc := ⟨.hbm, 796, rfl⟩
abbrev main_call1_call5_v26 : Ref sig .tc := ⟨.hbm, 797, rfl⟩
abbrev main_call1_call5_v27 : Ref sig .tc := ⟨.hbm, 798, rfl⟩
abbrev main_call1_call5_c_6 : Ref sig .tc := ⟨.hbm, 799, rfl⟩
abbrev main_call1_call5_v28 : Ref sig .tc := ⟨.hbm, 800, rfl⟩
abbrev main_call1_call5_v29 : Ref sig .tc := ⟨.hbm, 801, rfl⟩
abbrev main_call1_call5_c_7 : Ref sig .tc := ⟨.hbm, 802, rfl⟩
abbrev main_call1_call5_v30 : Ref sig .tc := ⟨.hbm, 803, rfl⟩
abbrev main_call1_call5_v31 : Ref sig .tc := ⟨.hbm, 804, rfl⟩
abbrev main_call1_call5_v32 : Ref sig .tc := ⟨.hbm, 805, rfl⟩
abbrev main_call1_call5_v33 : Ref sig .tc := ⟨.hbm, 806, rfl⟩
abbrev main_call1_call5_v34 : Ref sig .tc := ⟨.hbm, 807, rfl⟩
abbrev main_call1_call5_v35 : Ref sig .tc := ⟨.hbm, 808, rfl⟩
abbrev main_call1_call5_v36 : Ref sig .tc := ⟨.hbm, 809, rfl⟩
abbrev main_call1_call5_v37 : Ref sig .tc := ⟨.hbm, 810, rfl⟩
abbrev main_call1_call5_c_8 : Ref sig .tc := ⟨.hbm, 811, rfl⟩
abbrev main_call1_call5_v38 : Ref sig .tc := ⟨.hbm, 812, rfl⟩
abbrev main_call1_call5_v39 : Ref sig .tc := ⟨.hbm, 813, rfl⟩
abbrev main_call1_call5_v40 : Ref sig .tc := ⟨.hbm, 814, rfl⟩
abbrev main_call1_call5_c_9 : Ref sig .tc := ⟨.hbm, 815, rfl⟩
abbrev main_call1_call5_v41 : Ref sig .tc := ⟨.hbm, 816, rfl⟩
abbrev main_call1_call5_v42 : Ref sig .tc := ⟨.hbm, 817, rfl⟩
abbrev main_call1_call5_c_10 : Ref sig .tc := ⟨.hbm, 818, rfl⟩
abbrev main_call1_call5_v43 : Ref sig .tc := ⟨.hbm, 819, rfl⟩
abbrev main_call1_call5_v44 : Ref sig .tc := ⟨.hbm, 820, rfl⟩
abbrev main_call1_call5_v45 : Ref sig .tc := ⟨.hbm, 821, rfl⟩
abbrev main_call1_call5_v46 : Ref sig .tc := ⟨.hbm, 822, rfl⟩
abbrev main_call1_call5_v47 : Ref sig .tc := ⟨.hbm, 823, rfl⟩
abbrev main_call1_call5_c_11 : Ref sig .tc := ⟨.hbm, 824, rfl⟩
abbrev main_call1_call5_v48 : Ref sig .tc := ⟨.hbm, 825, rfl⟩
abbrev main_call1_call5_v49 : Ref sig .tc := ⟨.hbm, 826, rfl⟩
abbrev main_call1_call5_c_12 : Ref sig .tc := ⟨.hbm, 827, rfl⟩
abbrev main_call1_call5_v50 : Ref sig .tc := ⟨.hbm, 828, rfl⟩
abbrev main_call1_call5_v51 : Ref sig .tc := ⟨.hbm, 829, rfl⟩
abbrev main_call1_call5_v52 : Ref sig .tc := ⟨.hbm, 830, rfl⟩
abbrev main_call1_call5_v53 : Ref sig .tc := ⟨.hbm, 831, rfl⟩
abbrev main_call1_call5_v54 : Ref sig .tc := ⟨.hbm, 832, rfl⟩
abbrev main_call1_call5_c_13 : Ref sig .tc := ⟨.hbm, 833, rfl⟩
abbrev main_call1_call5_v55 : Ref sig .tc := ⟨.hbm, 834, rfl⟩
abbrev main_call1_call5_v56 : Ref sig .tc := ⟨.hbm, 835, rfl⟩
abbrev main_call1_call5_c_14 : Ref sig .tc := ⟨.hbm, 836, rfl⟩
abbrev main_call1_call5_v57 : Ref sig .tc := ⟨.hbm, 837, rfl⟩
abbrev main_call1_call5_v58 : Ref sig .tc := ⟨.hbm, 838, rfl⟩
abbrev main_call1_call5_v59 : Ref sig .tc := ⟨.hbm, 839, rfl⟩
abbrev main_call1_call5_v60 : Ref sig .tc := ⟨.hbm, 840, rfl⟩
abbrev main_call1_call5_v61 : Ref sig .tc := ⟨.hbm, 841, rfl⟩
abbrev main_call1_call5_c_15 : Ref sig .tc := ⟨.hbm, 842, rfl⟩
abbrev main_call1_call5_v62 : Ref sig .tc := ⟨.hbm, 843, rfl⟩
abbrev main_call1_call5_v63 : Ref sig .tc := ⟨.hbm, 844, rfl⟩
abbrev main_call1_call5_c_16 : Ref sig .tc := ⟨.hbm, 845, rfl⟩
abbrev main_call1_call5_v64 : Ref sig .tc := ⟨.hbm, 846, rfl⟩
abbrev main_call1_call5_v65 : Ref sig .tc := ⟨.hbm, 847, rfl⟩
abbrev main_call1_call5_v66 : Ref sig .tc := ⟨.hbm, 848, rfl⟩
abbrev main_call1_call5_v67 : Ref sig .tc := ⟨.hbm, 849, rfl⟩
abbrev main_call1_call5_v68 : Ref sig .tc := ⟨.hbm, 850, rfl⟩
abbrev main_call1_call5_v69 : Ref sig .tc := ⟨.hbm, 851, rfl⟩
abbrev main_call1_call5_v70 : Ref sig .tc := ⟨.hbm, 852, rfl⟩
abbrev main_call1_call5_v71 : Ref sig .tc := ⟨.hbm, 853, rfl⟩
abbrev main_call1_call5_c_17 : Ref sig .tc := ⟨.hbm, 854, rfl⟩
abbrev main_call1_call5_v72 : Ref sig .tc := ⟨.hbm, 855, rfl⟩
abbrev main_call1_call5_v73 : Ref sig .tc := ⟨.hbm, 856, rfl⟩
abbrev main_call1_call5_v74 : Ref sig .tc := ⟨.hbm, 857, rfl⟩
abbrev main_call1_call5_c_18 : Ref sig .tc := ⟨.hbm, 858, rfl⟩
abbrev main_call1_call5_v75 : Ref sig .tc := ⟨.hbm, 859, rfl⟩
abbrev main_call1_call5_v76 : Ref sig .tc := ⟨.hbm, 860, rfl⟩
abbrev main_call1_call5_c_19 : Ref sig .tc := ⟨.hbm, 861, rfl⟩
abbrev main_call1_call5_v77 : Ref sig .tc := ⟨.hbm, 862, rfl⟩
abbrev main_call1_call5_v78 : Ref sig .tc := ⟨.hbm, 863, rfl⟩
abbrev main_call1_call5_v79 : Ref sig .tc := ⟨.hbm, 864, rfl⟩
abbrev main_call1_call5_v80 : Ref sig .tc := ⟨.hbm, 865, rfl⟩
abbrev main_call1_call5_v81 : Ref sig .tc := ⟨.hbm, 866, rfl⟩
abbrev main_call1_call5_c_20 : Ref sig .tc := ⟨.hbm, 867, rfl⟩
abbrev main_call1_call5_v82 : Ref sig .tc := ⟨.hbm, 868, rfl⟩
abbrev main_call1_call5_v83 : Ref sig .tc := ⟨.hbm, 869, rfl⟩
abbrev main_call1_call5_c_21 : Ref sig .tc := ⟨.hbm, 870, rfl⟩
abbrev main_call1_call5_v84 : Ref sig .tc := ⟨.hbm, 871, rfl⟩
abbrev main_call1_call5_v85 : Ref sig .tc := ⟨.hbm, 872, rfl⟩
abbrev main_call1_call5_v86 : Ref sig .tc := ⟨.hbm, 873, rfl⟩
abbrev main_call1_call5_v87 : Ref sig .tc := ⟨.hbm, 874, rfl⟩
abbrev main_call1_call5_v88 : Ref sig .tc := ⟨.hbm, 875, rfl⟩
abbrev main_call1_call5_c_22 : Ref sig .tc := ⟨.hbm, 876, rfl⟩
abbrev main_call1_call5_v89 : Ref sig .tc := ⟨.hbm, 877, rfl⟩
abbrev main_call1_call5_v90 : Ref sig .tc := ⟨.hbm, 878, rfl⟩
abbrev main_call1_call5_c_23 : Ref sig .tc := ⟨.hbm, 879, rfl⟩
abbrev main_call1_call5_v91 : Ref sig .tc := ⟨.hbm, 880, rfl⟩
abbrev main_call1_call5_v92 : Ref sig .tc := ⟨.hbm, 881, rfl⟩
abbrev main_call1_call5_v93 : Ref sig .tc := ⟨.hbm, 882, rfl⟩
abbrev main_call1_call5_v94 : Ref sig .tc := ⟨.hbm, 883, rfl⟩
abbrev main_call1_call5_v95 : Ref sig .tc := ⟨.hbm, 884, rfl⟩
abbrev main_call1_call5_c_24 : Ref sig .tc := ⟨.hbm, 885, rfl⟩
abbrev main_call1_call5_v96 : Ref sig .tc := ⟨.hbm, 886, rfl⟩
abbrev main_call1_call5_v97 : Ref sig .tc := ⟨.hbm, 887, rfl⟩
abbrev main_call1_call5_c_25 : Ref sig .tc := ⟨.hbm, 888, rfl⟩
abbrev main_call1_call5_v98 : Ref sig .tc := ⟨.hbm, 889, rfl⟩
abbrev main_call1_call5_v99 : Ref sig .tc := ⟨.hbm, 890, rfl⟩
abbrev main_call1_call5_v100 : Ref sig .tc := ⟨.hbm, 891, rfl⟩
abbrev main_call1_call5_v101 : Ref sig .tc := ⟨.hbm, 892, rfl⟩
abbrev main_call1_call5_v102 : Ref sig .tc := ⟨.hbm, 893, rfl⟩
abbrev main_call1_call5_v103 : Ref sig .tc := ⟨.hbm, 894, rfl⟩
abbrev main_call1_call5_v104 : Ref sig .tc := ⟨.hbm, 895, rfl⟩
abbrev main_call1_call5_v105 : Ref sig .tc := ⟨.hbm, 896, rfl⟩
abbrev main_call1_call5_c_26 : Ref sig .tc := ⟨.hbm, 897, rfl⟩
abbrev main_call1_call5_v106 : Ref sig .tc := ⟨.hbm, 898, rfl⟩
abbrev main_call1_call5_v107 : Ref sig .tc := ⟨.hbm, 899, rfl⟩
abbrev main_call1_call5_v108 : Ref sig .tc := ⟨.hbm, 900, rfl⟩
abbrev main_call1_call5_c_27 : Ref sig .tc := ⟨.hbm, 901, rfl⟩
abbrev main_call1_call5_v109 : Ref sig .tc := ⟨.hbm, 902, rfl⟩
abbrev main_call1_call5_v110 : Ref sig .tc := ⟨.hbm, 903, rfl⟩
abbrev main_call1_call5_c_28 : Ref sig .tc := ⟨.hbm, 904, rfl⟩
abbrev main_call1_call5_v111 : Ref sig .tc := ⟨.hbm, 905, rfl⟩
abbrev main_call1_call5_v112 : Ref sig .tc := ⟨.hbm, 906, rfl⟩
abbrev main_call1_call5_v113 : Ref sig .tc := ⟨.hbm, 907, rfl⟩
abbrev main_call1_call5_v114 : Ref sig .tc := ⟨.hbm, 908, rfl⟩
abbrev main_call1_call5_v115 : Ref sig .tc := ⟨.hbm, 909, rfl⟩
abbrev main_call1_call5_c_29 : Ref sig .tc := ⟨.hbm, 910, rfl⟩
abbrev main_call1_call5_v116 : Ref sig .tc := ⟨.hbm, 911, rfl⟩
abbrev main_call1_call5_v117 : Ref sig .tc := ⟨.hbm, 912, rfl⟩
abbrev main_call1_call5_c_30 : Ref sig .tc := ⟨.hbm, 913, rfl⟩
abbrev main_call1_call5_v118 : Ref sig .tc := ⟨.hbm, 914, rfl⟩
abbrev main_call1_call5_v119 : Ref sig .tc := ⟨.hbm, 915, rfl⟩
abbrev main_call1_call5_v120 : Ref sig .tc := ⟨.hbm, 916, rfl⟩
abbrev main_call1_call5_v121 : Ref sig .tc := ⟨.hbm, 917, rfl⟩
abbrev main_call1_call5_v122 : Ref sig .tc := ⟨.hbm, 918, rfl⟩
abbrev main_call1_call5_c_31 : Ref sig .tc := ⟨.hbm, 919, rfl⟩
abbrev main_call1_call5_v123 : Ref sig .tc := ⟨.hbm, 920, rfl⟩
abbrev main_call1_call5_v124 : Ref sig .tc := ⟨.hbm, 921, rfl⟩
abbrev main_call1_call5_c_32 : Ref sig .tc := ⟨.hbm, 922, rfl⟩
abbrev main_call1_call5_v125 : Ref sig .tc := ⟨.hbm, 923, rfl⟩
abbrev main_call1_call5_v126 : Ref sig .tc := ⟨.hbm, 924, rfl⟩
abbrev main_call1_call5_v127 : Ref sig .tc := ⟨.hbm, 925, rfl⟩
abbrev main_call1_call5_v128 : Ref sig .tc := ⟨.hbm, 926, rfl⟩
abbrev main_call1_call5_v129 : Ref sig .tc := ⟨.hbm, 927, rfl⟩
abbrev main_call1_call5_c_33 : Ref sig .tc := ⟨.hbm, 928, rfl⟩
abbrev main_call1_call5_v130 : Ref sig .tc := ⟨.hbm, 929, rfl⟩
abbrev main_call1_call5_v131 : Ref sig .tc := ⟨.hbm, 930, rfl⟩
abbrev main_call1_call5_c_34 : Ref sig .tc := ⟨.hbm, 931, rfl⟩
abbrev main_call1_call5_v132 : Ref sig .tc := ⟨.hbm, 932, rfl⟩
abbrev main_call1_call5_v133 : Ref sig .tc := ⟨.hbm, 933, rfl⟩
abbrev main_call1_call5_v134 : Ref sig .tc := ⟨.hbm, 934, rfl⟩
abbrev main_call1_call5_v135 : Ref sig .tc := ⟨.hbm, 935, rfl⟩
abbrev main_call1_call5_v136 : Ref sig .tc := ⟨.hbm, 936, rfl⟩
abbrev main_call1_call5_v137 : Ref sig .tc := ⟨.hbm, 937, rfl⟩
abbrev main_call1_call5_v138 : Ref sig .tc := ⟨.hbm, 938, rfl⟩
abbrev main_call1_call5_v139 : Ref sig .tc := ⟨.hbm, 939, rfl⟩
abbrev main_call1_call5_c_35 : Ref sig .tc := ⟨.hbm, 940, rfl⟩
abbrev main_call1_call5_v140 : Ref sig .tc := ⟨.hbm, 941, rfl⟩
abbrev main_call1_call5_v141 : Ref sig .tc := ⟨.hbm, 942, rfl⟩
abbrev main_call1_call5_v142 : Ref sig .tc := ⟨.hbm, 943, rfl⟩
abbrev main_call1_call5_c_36 : Ref sig .tc := ⟨.hbm, 944, rfl⟩
abbrev main_call1_call5_v143 : Ref sig .tc := ⟨.hbm, 945, rfl⟩
abbrev main_call1_call5_v144 : Ref sig .tc := ⟨.hbm, 946, rfl⟩
abbrev main_call1_call5_c_37 : Ref sig .tc := ⟨.hbm, 947, rfl⟩
abbrev main_call1_call5_v145 : Ref sig .tc := ⟨.hbm, 948, rfl⟩
abbrev main_call1_call5_v146 : Ref sig .tc := ⟨.hbm, 949, rfl⟩
abbrev main_call1_call5_v147 : Ref sig .tc := ⟨.hbm, 950, rfl⟩
abbrev main_call1_call5_v148 : Ref sig .tc := ⟨.hbm, 951, rfl⟩
abbrev main_call1_call5_v149 : Ref sig .tc := ⟨.hbm, 952, rfl⟩
abbrev main_call1_call5_c_38 : Ref sig .tc := ⟨.hbm, 953, rfl⟩
abbrev main_call1_call5_v150 : Ref sig .tc := ⟨.hbm, 954, rfl⟩
abbrev main_call1_call5_v151 : Ref sig .tc := ⟨.hbm, 955, rfl⟩
abbrev main_call1_call5_c_39 : Ref sig .tc := ⟨.hbm, 956, rfl⟩
abbrev main_call1_call5_v152 : Ref sig .tc := ⟨.hbm, 957, rfl⟩
abbrev main_call1_call5_v153 : Ref sig .tc := ⟨.hbm, 958, rfl⟩
abbrev main_call1_call5_v154 : Ref sig .tc := ⟨.hbm, 959, rfl⟩
abbrev main_call1_call5_v155 : Ref sig .tc := ⟨.hbm, 960, rfl⟩
abbrev main_call1_call5_v156 : Ref sig .tc := ⟨.hbm, 961, rfl⟩
abbrev main_call1_call5_c_40 : Ref sig .tc := ⟨.hbm, 962, rfl⟩
abbrev main_call1_call5_v157 : Ref sig .tc := ⟨.hbm, 963, rfl⟩
abbrev main_call1_call5_v158 : Ref sig .tc := ⟨.hbm, 964, rfl⟩
abbrev main_call1_call5_c_41 : Ref sig .tc := ⟨.hbm, 965, rfl⟩
abbrev main_call1_call5_v159 : Ref sig .tc := ⟨.hbm, 966, rfl⟩
abbrev main_call1_call5_v160 : Ref sig .tc := ⟨.hbm, 967, rfl⟩
abbrev main_call1_call5_v161 : Ref sig .tc := ⟨.hbm, 968, rfl⟩
abbrev main_call1_call5_v162 : Ref sig .tc := ⟨.hbm, 969, rfl⟩
abbrev main_call1_call5_v163 : Ref sig .tc := ⟨.hbm, 970, rfl⟩
abbrev main_call1_call5_c_42 : Ref sig .tc := ⟨.hbm, 971, rfl⟩
abbrev main_call1_call5_v164 : Ref sig .tc := ⟨.hbm, 972, rfl⟩
abbrev main_call1_call5_v165 : Ref sig .tc := ⟨.hbm, 973, rfl⟩
abbrev main_call1_call5_c_43 : Ref sig .tc := ⟨.hbm, 974, rfl⟩
abbrev main_call1_call5_v166 : Ref sig .tc := ⟨.hbm, 975, rfl⟩
abbrev main_call1_call5_v167 : Ref sig .tc := ⟨.hbm, 976, rfl⟩
abbrev main_call1_call5_v168 : Ref sig .tc := ⟨.hbm, 977, rfl⟩
abbrev main_call1_call5_v169 : Ref sig .tc := ⟨.hbm, 978, rfl⟩
abbrev main_call1_call5_v170 : Ref sig .tc := ⟨.hbm, 979, rfl⟩
abbrev main_call1_v37_0 : Ref sig .tc := ⟨.hbm, 980, rfl⟩
abbrev main_call1_call5_v172 : Ref sig .tc := ⟨.hbm, 981, rfl⟩
abbrev main_call1_call5_v173 : Ref sig .tc := ⟨.hbm, 982, rfl⟩
abbrev main_call1_call5_c_44 : Ref sig .tc := ⟨.hbm, 983, rfl⟩
abbrev main_call1_call5_v174 : Ref sig .tc := ⟨.hbm, 984, rfl⟩
abbrev main_call1_v37_1 : Ref sig .tc := ⟨.hbm, 985, rfl⟩
abbrev main_call1_v38 : Ref sig .tc := ⟨.hbm, 986, rfl⟩
abbrev main_call1_v39 : Ref sig .tc := ⟨.hbm, 987, rfl⟩
abbrev main_call1_v40 : Ref sig .tc := ⟨.hbm, 988, rfl⟩
abbrev main_call1_v41 : Ref sig .tc := ⟨.hbm, 989, rfl⟩
abbrev main_call1_c_10 : Ref sig .tc := ⟨.hbm, 990, rfl⟩
abbrev main_call1_v42 : Ref sig .tc := ⟨.hbm, 991, rfl⟩
abbrev main_call1_v43 : Ref sig .tc := ⟨.hbm, 992, rfl⟩
abbrev main_call1_v44 : Ref sig .tc := ⟨.hbm, 993, rfl⟩
abbrev main_call1_v45 : Ref sig .tc := ⟨.hbm, 994, rfl⟩
abbrev main_call1_v46 : Ref sig .tc := ⟨.hbm, 995, rfl⟩
abbrev main_call1_c_11 : Ref sig .tc := ⟨.hbm, 996, rfl⟩
abbrev main_call1_v47 : Ref sig .tc := ⟨.hbm, 997, rfl⟩
abbrev main_call1_v48 : Ref sig .tc := ⟨.hbm, 998, rfl⟩
abbrev main_call1_v49 : Ref sig .tc := ⟨.hbm, 999, rfl⟩
abbrev main_call1_c_12 : Ref sig .tc := ⟨.hbm, 1000, rfl⟩
abbrev main_call1_v50 : Ref sig .tc := ⟨.hbm, 1001, rfl⟩
abbrev main_call1_v51 : Ref sig .tc := ⟨.hbm, 1002, rfl⟩
abbrev main_call1_v52 : Ref sig .tc := ⟨.hbm, 1003, rfl⟩
abbrev main_call1_v53 : Ref sig .tc := ⟨.hbm, 1004, rfl⟩
abbrev main_call1_v54 : Ref sig .tc := ⟨.hbm, 1005, rfl⟩
abbrev main_call1_v55 : Ref sig .tc := ⟨.hbm, 1006, rfl⟩
abbrev main_call1_v56 : Ref sig .tc := ⟨.hbm, 1007, rfl⟩
abbrev main_call1_v57 : Ref sig .tc := ⟨.hbm, 1008, rfl⟩
abbrev main_call1_v58 : Ref sig .tc := ⟨.hbm, 1009, rfl⟩
abbrev main_call1_v59 : Ref sig .tc := ⟨.hbm, 1010, rfl⟩
abbrev main_call1_v60 : Ref sig .tc := ⟨.hbm, 1011, rfl⟩
abbrev main_call1_v61 : Ref sig .tc := ⟨.hbm, 1012, rfl⟩
abbrev main_call1_v62 : Ref sig .tc := ⟨.hbm, 1013, rfl⟩
abbrev main_call1_v63 : Ref sig .tc := ⟨.hbm, 1014, rfl⟩
abbrev main_call1_v64 : Ref sig .tc := ⟨.hbm, 1015, rfl⟩
abbrev main_v12 : Ref sig .tc := ⟨.hbm, 1016, rfl⟩
abbrev main_v13 : Ref sig .tc := ⟨.hbm, 1017, rfl⟩
abbrev main_v14 : Ref sig .tc := ⟨.hbm, 1018, rfl⟩
abbrev main_v15 : Ref sig .tc := ⟨.hbm, 1019, rfl⟩
abbrev main_v16 : Ref sig .tc := ⟨.hbm, 1020, rfl⟩
abbrev main_v17 : Ref sig .tc := ⟨.hbm, 1021, rfl⟩
abbrev main_v18 : Ref sig .tc := ⟨.hbm, 1022, rfl⟩
abbrev main_cst : Ref sig .tc := ⟨.hbm, 1023, rfl⟩
abbrev main_cst_4 : Ref sig .tc := ⟨.hbm, 1024, rfl⟩
abbrev main_call2_v0 : Ref sig .tc := ⟨.hbm, 1025, rfl⟩
abbrev main_call2_v1 : Ref sig .tc := ⟨.hbm, 1026, rfl⟩
abbrev main_call2_v2 : Ref sig .tc := ⟨.hbm, 1027, rfl⟩
abbrev main_call2_v3 : Ref sig .tc := ⟨.hbm, 1028, rfl⟩
abbrev main_call2_v4 : Ref sig .tc := ⟨.hbm, 1029, rfl⟩
abbrev main_call2_v5 : Ref sig .tc := ⟨.hbm, 1030, rfl⟩
abbrev main_call2_v6 : Ref sig .tc := ⟨.hbm, 1031, rfl⟩
abbrev main_call2_v7 : Ref sig .tc := ⟨.hbm, 1032, rfl⟩
abbrev main_call2_v8 : Ref sig .tc := ⟨.hbm, 1033, rfl⟩
abbrev main_call2_v9 : Ref sig .tc := ⟨.hbm, 1034, rfl⟩
abbrev main_call2_c : Ref sig .tc := ⟨.hbm, 1035, rfl⟩
abbrev main_call2_v10 : Ref sig .tc := ⟨.hbm, 1036, rfl⟩
abbrev main_call2_v11 : Ref sig .tc := ⟨.hbm, 1037, rfl⟩
abbrev main_call2_c_0 : Ref sig .tc := ⟨.hbm, 1038, rfl⟩
abbrev main_call2_v12 : Ref sig .tc := ⟨.hbm, 1039, rfl⟩
abbrev main_call2_v13 : Ref sig .tc := ⟨.hbm, 1040, rfl⟩
abbrev main_call2_v14 : Ref sig .tc := ⟨.hbm, 1041, rfl⟩
abbrev main_call2_c_1 : Ref sig .tc := ⟨.hbm, 1042, rfl⟩
abbrev main_call2_v15 : Ref sig .tc := ⟨.hbm, 1043, rfl⟩
abbrev main_call2_v16 : Ref sig .tc := ⟨.hbm, 1044, rfl⟩
abbrev main_call2_v17 : Ref sig .tc := ⟨.hbm, 1045, rfl⟩
abbrev main_call2_v18 : Ref sig .tc := ⟨.hbm, 1046, rfl⟩
abbrev main_call2_call0_v0 : Ref sig .tc := ⟨.hbm, 1047, rfl⟩
abbrev main_call2_call0_c : Ref sig .tc := ⟨.hbm, 1048, rfl⟩
abbrev main_call2_call0_v1 : Ref sig .tc := ⟨.hbm, 1049, rfl⟩
abbrev main_call2_call0_v2 : Ref sig .tc := ⟨.hbm, 1050, rfl⟩
abbrev main_call2_call0_v3 : Ref sig .tc := ⟨.hbm, 1051, rfl⟩
abbrev main_call2_call0_v4 : Ref sig .tc := ⟨.hbm, 1052, rfl⟩
abbrev main_call2_call0_v5 : Ref sig .tc := ⟨.hbm, 1053, rfl⟩
abbrev main_call2_call0_v6 : Ref sig .tc := ⟨.hbm, 1054, rfl⟩
abbrev main_call2_call0_c_0 : Ref sig .tc := ⟨.hbm, 1055, rfl⟩
abbrev main_call2_call0_v7 : Ref sig .tc := ⟨.hbm, 1056, rfl⟩
abbrev main_call2_call0_v8 : Ref sig .tc := ⟨.hbm, 1057, rfl⟩
abbrev main_call2_call0_c_1 : Ref sig .tc := ⟨.hbm, 1058, rfl⟩
abbrev main_call2_call0_v9 : Ref sig .tc := ⟨.hbm, 1059, rfl⟩
abbrev main_call2_call0_v10 : Ref sig .tc := ⟨.hbm, 1060, rfl⟩
abbrev main_call2_call0_v11 : Ref sig .tc := ⟨.hbm, 1061, rfl⟩
abbrev main_call2_call0_v12 : Ref sig .tc := ⟨.hbm, 1062, rfl⟩
abbrev main_call2_call0_v13 : Ref sig .tc := ⟨.hbm, 1063, rfl⟩
abbrev main_call2_call0_c_2 : Ref sig .tc := ⟨.hbm, 1064, rfl⟩
abbrev main_call2_call0_v14 : Ref sig .tc := ⟨.hbm, 1065, rfl⟩
abbrev main_call2_call0_v15 : Ref sig .tc := ⟨.hbm, 1066, rfl⟩
abbrev main_call2_call0_c_3 : Ref sig .tc := ⟨.hbm, 1067, rfl⟩
abbrev main_call2_call0_v16 : Ref sig .tc := ⟨.hbm, 1068, rfl⟩
abbrev main_call2_call0_v17 : Ref sig .tc := ⟨.hbm, 1069, rfl⟩
abbrev main_call2_call0_v18 : Ref sig .tc := ⟨.hbm, 1070, rfl⟩
abbrev main_call2_call0_v19 : Ref sig .tc := ⟨.hbm, 1071, rfl⟩
abbrev main_call2_call0_v20 : Ref sig .tc := ⟨.hbm, 1072, rfl⟩
abbrev main_call2_call0_c_4 : Ref sig .tc := ⟨.hbm, 1073, rfl⟩
abbrev main_call2_call0_v21 : Ref sig .tc := ⟨.hbm, 1074, rfl⟩
abbrev main_call2_call0_v22 : Ref sig .tc := ⟨.hbm, 1075, rfl⟩
abbrev main_call2_call0_c_5 : Ref sig .tc := ⟨.hbm, 1076, rfl⟩
abbrev main_call2_call0_v23 : Ref sig .tc := ⟨.hbm, 1077, rfl⟩
abbrev main_call2_call0_v24 : Ref sig .tc := ⟨.hbm, 1078, rfl⟩
abbrev main_call2_call0_v25 : Ref sig .tc := ⟨.hbm, 1079, rfl⟩
abbrev main_call2_call0_v26 : Ref sig .tc := ⟨.hbm, 1080, rfl⟩
abbrev main_call2_call0_v27 : Ref sig .tc := ⟨.hbm, 1081, rfl⟩
abbrev main_call2_call0_c_6 : Ref sig .tc := ⟨.hbm, 1082, rfl⟩
abbrev main_call2_call0_v28 : Ref sig .tc := ⟨.hbm, 1083, rfl⟩
abbrev main_call2_call0_v29 : Ref sig .tc := ⟨.hbm, 1084, rfl⟩
abbrev main_call2_call0_c_7 : Ref sig .tc := ⟨.hbm, 1085, rfl⟩
abbrev main_call2_call0_v30 : Ref sig .tc := ⟨.hbm, 1086, rfl⟩
abbrev main_call2_call0_v31 : Ref sig .tc := ⟨.hbm, 1087, rfl⟩
abbrev main_call2_call0_v32 : Ref sig .tc := ⟨.hbm, 1088, rfl⟩
abbrev main_call2_call0_v33 : Ref sig .tc := ⟨.hbm, 1089, rfl⟩
abbrev main_call2_call0_v34 : Ref sig .tc := ⟨.hbm, 1090, rfl⟩
abbrev main_call2_call0_v35 : Ref sig .tc := ⟨.hbm, 1091, rfl⟩
abbrev main_call2_call0_v36 : Ref sig .tc := ⟨.hbm, 1092, rfl⟩
abbrev main_call2_call0_v37 : Ref sig .tc := ⟨.hbm, 1093, rfl⟩
abbrev main_call2_call0_c_8 : Ref sig .tc := ⟨.hbm, 1094, rfl⟩
abbrev main_call2_call0_v38 : Ref sig .tc := ⟨.hbm, 1095, rfl⟩
abbrev main_call2_call0_v39 : Ref sig .tc := ⟨.hbm, 1096, rfl⟩
abbrev main_call2_call0_v40 : Ref sig .tc := ⟨.hbm, 1097, rfl⟩
abbrev main_call2_call0_c_9 : Ref sig .tc := ⟨.hbm, 1098, rfl⟩
abbrev main_call2_call0_v41 : Ref sig .tc := ⟨.hbm, 1099, rfl⟩
abbrev main_call2_call0_v42 : Ref sig .tc := ⟨.hbm, 1100, rfl⟩
abbrev main_call2_call0_c_10 : Ref sig .tc := ⟨.hbm, 1101, rfl⟩
abbrev main_call2_call0_v43 : Ref sig .tc := ⟨.hbm, 1102, rfl⟩
abbrev main_call2_call0_v44 : Ref sig .tc := ⟨.hbm, 1103, rfl⟩
abbrev main_call2_call0_v45 : Ref sig .tc := ⟨.hbm, 1104, rfl⟩
abbrev main_call2_call0_v46 : Ref sig .tc := ⟨.hbm, 1105, rfl⟩
abbrev main_call2_call0_v47 : Ref sig .tc := ⟨.hbm, 1106, rfl⟩
abbrev main_call2_call0_c_11 : Ref sig .tc := ⟨.hbm, 1107, rfl⟩
abbrev main_call2_call0_v48 : Ref sig .tc := ⟨.hbm, 1108, rfl⟩
abbrev main_call2_call0_v49 : Ref sig .tc := ⟨.hbm, 1109, rfl⟩
abbrev main_call2_call0_c_12 : Ref sig .tc := ⟨.hbm, 1110, rfl⟩
abbrev main_call2_call0_v50 : Ref sig .tc := ⟨.hbm, 1111, rfl⟩
abbrev main_call2_call0_v51 : Ref sig .tc := ⟨.hbm, 1112, rfl⟩
abbrev main_call2_call0_v52 : Ref sig .tc := ⟨.hbm, 1113, rfl⟩
abbrev main_call2_call0_v53 : Ref sig .tc := ⟨.hbm, 1114, rfl⟩
abbrev main_call2_call0_v54 : Ref sig .tc := ⟨.hbm, 1115, rfl⟩
abbrev main_call2_call0_c_13 : Ref sig .tc := ⟨.hbm, 1116, rfl⟩
abbrev main_call2_call0_v55 : Ref sig .tc := ⟨.hbm, 1117, rfl⟩
abbrev main_call2_call0_v56 : Ref sig .tc := ⟨.hbm, 1118, rfl⟩
abbrev main_call2_call0_c_14 : Ref sig .tc := ⟨.hbm, 1119, rfl⟩
abbrev main_call2_call0_v57 : Ref sig .tc := ⟨.hbm, 1120, rfl⟩
abbrev main_call2_call0_v58 : Ref sig .tc := ⟨.hbm, 1121, rfl⟩
abbrev main_call2_call0_v59 : Ref sig .tc := ⟨.hbm, 1122, rfl⟩
abbrev main_call2_call0_v60 : Ref sig .tc := ⟨.hbm, 1123, rfl⟩
abbrev main_call2_call0_v61 : Ref sig .tc := ⟨.hbm, 1124, rfl⟩
abbrev main_call2_call0_c_15 : Ref sig .tc := ⟨.hbm, 1125, rfl⟩
abbrev main_call2_call0_v62 : Ref sig .tc := ⟨.hbm, 1126, rfl⟩
abbrev main_call2_call0_v63 : Ref sig .tc := ⟨.hbm, 1127, rfl⟩
abbrev main_call2_call0_c_16 : Ref sig .tc := ⟨.hbm, 1128, rfl⟩
abbrev main_call2_call0_v64 : Ref sig .tc := ⟨.hbm, 1129, rfl⟩
abbrev main_call2_call0_v65 : Ref sig .tc := ⟨.hbm, 1130, rfl⟩
abbrev main_call2_call0_v66 : Ref sig .tc := ⟨.hbm, 1131, rfl⟩
abbrev main_call2_call0_v67 : Ref sig .tc := ⟨.hbm, 1132, rfl⟩
abbrev main_call2_call0_v68 : Ref sig .tc := ⟨.hbm, 1133, rfl⟩
abbrev main_call2_call0_v69 : Ref sig .tc := ⟨.hbm, 1134, rfl⟩
abbrev main_call2_call0_v70 : Ref sig .tc := ⟨.hbm, 1135, rfl⟩
abbrev main_call2_call0_v71 : Ref sig .tc := ⟨.hbm, 1136, rfl⟩
abbrev main_call2_call0_c_17 : Ref sig .tc := ⟨.hbm, 1137, rfl⟩
abbrev main_call2_call0_v72 : Ref sig .tc := ⟨.hbm, 1138, rfl⟩
abbrev main_call2_call0_v73 : Ref sig .tc := ⟨.hbm, 1139, rfl⟩
abbrev main_call2_call0_v74 : Ref sig .tc := ⟨.hbm, 1140, rfl⟩
abbrev main_call2_call0_c_18 : Ref sig .tc := ⟨.hbm, 1141, rfl⟩
abbrev main_call2_call0_v75 : Ref sig .tc := ⟨.hbm, 1142, rfl⟩
abbrev main_call2_call0_v76 : Ref sig .tc := ⟨.hbm, 1143, rfl⟩
abbrev main_call2_call0_c_19 : Ref sig .tc := ⟨.hbm, 1144, rfl⟩
abbrev main_call2_call0_v77 : Ref sig .tc := ⟨.hbm, 1145, rfl⟩
abbrev main_call2_call0_v78 : Ref sig .tc := ⟨.hbm, 1146, rfl⟩
abbrev main_call2_call0_v79 : Ref sig .tc := ⟨.hbm, 1147, rfl⟩
abbrev main_call2_call0_v80 : Ref sig .tc := ⟨.hbm, 1148, rfl⟩
abbrev main_call2_call0_v81 : Ref sig .tc := ⟨.hbm, 1149, rfl⟩
abbrev main_call2_call0_c_20 : Ref sig .tc := ⟨.hbm, 1150, rfl⟩
abbrev main_call2_call0_v82 : Ref sig .tc := ⟨.hbm, 1151, rfl⟩
abbrev main_call2_call0_v83 : Ref sig .tc := ⟨.hbm, 1152, rfl⟩
abbrev main_call2_call0_c_21 : Ref sig .tc := ⟨.hbm, 1153, rfl⟩
abbrev main_call2_call0_v84 : Ref sig .tc := ⟨.hbm, 1154, rfl⟩
abbrev main_call2_call0_v85 : Ref sig .tc := ⟨.hbm, 1155, rfl⟩
abbrev main_call2_call0_v86 : Ref sig .tc := ⟨.hbm, 1156, rfl⟩
abbrev main_call2_call0_v87 : Ref sig .tc := ⟨.hbm, 1157, rfl⟩
abbrev main_call2_call0_v88 : Ref sig .tc := ⟨.hbm, 1158, rfl⟩
abbrev main_call2_call0_c_22 : Ref sig .tc := ⟨.hbm, 1159, rfl⟩
abbrev main_call2_call0_v89 : Ref sig .tc := ⟨.hbm, 1160, rfl⟩
abbrev main_call2_call0_v90 : Ref sig .tc := ⟨.hbm, 1161, rfl⟩
abbrev main_call2_call0_c_23 : Ref sig .tc := ⟨.hbm, 1162, rfl⟩
abbrev main_call2_call0_v91 : Ref sig .tc := ⟨.hbm, 1163, rfl⟩
abbrev main_call2_call0_v92 : Ref sig .tc := ⟨.hbm, 1164, rfl⟩
abbrev main_call2_call0_v93 : Ref sig .tc := ⟨.hbm, 1165, rfl⟩
abbrev main_call2_call0_v94 : Ref sig .tc := ⟨.hbm, 1166, rfl⟩
abbrev main_call2_call0_v95 : Ref sig .tc := ⟨.hbm, 1167, rfl⟩
abbrev main_call2_call0_c_24 : Ref sig .tc := ⟨.hbm, 1168, rfl⟩
abbrev main_call2_call0_v96 : Ref sig .tc := ⟨.hbm, 1169, rfl⟩
abbrev main_call2_call0_v97 : Ref sig .tc := ⟨.hbm, 1170, rfl⟩
abbrev main_call2_call0_c_25 : Ref sig .tc := ⟨.hbm, 1171, rfl⟩
abbrev main_call2_call0_v98 : Ref sig .tc := ⟨.hbm, 1172, rfl⟩
abbrev main_call2_call0_v99 : Ref sig .tc := ⟨.hbm, 1173, rfl⟩
abbrev main_call2_call0_v100 : Ref sig .tc := ⟨.hbm, 1174, rfl⟩
abbrev main_call2_call0_v101 : Ref sig .tc := ⟨.hbm, 1175, rfl⟩
abbrev main_call2_call0_v102 : Ref sig .tc := ⟨.hbm, 1176, rfl⟩
abbrev main_call2_call0_v103 : Ref sig .tc := ⟨.hbm, 1177, rfl⟩
abbrev main_call2_call0_v104 : Ref sig .tc := ⟨.hbm, 1178, rfl⟩
abbrev main_call2_call0_v105 : Ref sig .tc := ⟨.hbm, 1179, rfl⟩
abbrev main_call2_call0_c_26 : Ref sig .tc := ⟨.hbm, 1180, rfl⟩
abbrev main_call2_call0_v106 : Ref sig .tc := ⟨.hbm, 1181, rfl⟩
abbrev main_call2_call0_v107 : Ref sig .tc := ⟨.hbm, 1182, rfl⟩
abbrev main_call2_call0_v108 : Ref sig .tc := ⟨.hbm, 1183, rfl⟩
abbrev main_call2_call0_c_27 : Ref sig .tc := ⟨.hbm, 1184, rfl⟩
abbrev main_call2_call0_v109 : Ref sig .tc := ⟨.hbm, 1185, rfl⟩
abbrev main_call2_call0_v110 : Ref sig .tc := ⟨.hbm, 1186, rfl⟩
abbrev main_call2_call0_c_28 : Ref sig .tc := ⟨.hbm, 1187, rfl⟩
abbrev main_call2_call0_v111 : Ref sig .tc := ⟨.hbm, 1188, rfl⟩
abbrev main_call2_call0_v112 : Ref sig .tc := ⟨.hbm, 1189, rfl⟩
abbrev main_call2_call0_v113 : Ref sig .tc := ⟨.hbm, 1190, rfl⟩
abbrev main_call2_call0_v114 : Ref sig .tc := ⟨.hbm, 1191, rfl⟩
abbrev main_call2_call0_v115 : Ref sig .tc := ⟨.hbm, 1192, rfl⟩
abbrev main_call2_call0_c_29 : Ref sig .tc := ⟨.hbm, 1193, rfl⟩
abbrev main_call2_call0_v116 : Ref sig .tc := ⟨.hbm, 1194, rfl⟩
abbrev main_call2_call0_v117 : Ref sig .tc := ⟨.hbm, 1195, rfl⟩
abbrev main_call2_call0_c_30 : Ref sig .tc := ⟨.hbm, 1196, rfl⟩
abbrev main_call2_call0_v118 : Ref sig .tc := ⟨.hbm, 1197, rfl⟩
abbrev main_call2_call0_v119 : Ref sig .tc := ⟨.hbm, 1198, rfl⟩
abbrev main_call2_call0_v120 : Ref sig .tc := ⟨.hbm, 1199, rfl⟩
abbrev main_call2_call0_v121 : Ref sig .tc := ⟨.hbm, 1200, rfl⟩
abbrev main_call2_call0_v122 : Ref sig .tc := ⟨.hbm, 1201, rfl⟩
abbrev main_call2_call0_c_31 : Ref sig .tc := ⟨.hbm, 1202, rfl⟩
abbrev main_call2_call0_v123 : Ref sig .tc := ⟨.hbm, 1203, rfl⟩
abbrev main_call2_call0_v124 : Ref sig .tc := ⟨.hbm, 1204, rfl⟩
abbrev main_call2_call0_c_32 : Ref sig .tc := ⟨.hbm, 1205, rfl⟩
abbrev main_call2_call0_v125 : Ref sig .tc := ⟨.hbm, 1206, rfl⟩
abbrev main_call2_call0_v126 : Ref sig .tc := ⟨.hbm, 1207, rfl⟩
abbrev main_call2_call0_v127 : Ref sig .tc := ⟨.hbm, 1208, rfl⟩
abbrev main_call2_call0_v128 : Ref sig .tc := ⟨.hbm, 1209, rfl⟩
abbrev main_call2_call0_v129 : Ref sig .tc := ⟨.hbm, 1210, rfl⟩
abbrev main_call2_call0_c_33 : Ref sig .tc := ⟨.hbm, 1211, rfl⟩
abbrev main_call2_call0_v130 : Ref sig .tc := ⟨.hbm, 1212, rfl⟩
abbrev main_call2_call0_v131 : Ref sig .tc := ⟨.hbm, 1213, rfl⟩
abbrev main_call2_call0_c_34 : Ref sig .tc := ⟨.hbm, 1214, rfl⟩
abbrev main_call2_call0_v132 : Ref sig .tc := ⟨.hbm, 1215, rfl⟩
abbrev main_call2_call0_v133 : Ref sig .tc := ⟨.hbm, 1216, rfl⟩
abbrev main_call2_call0_v134 : Ref sig .tc := ⟨.hbm, 1217, rfl⟩
abbrev main_call2_call0_v135 : Ref sig .tc := ⟨.hbm, 1218, rfl⟩
abbrev main_call2_call0_v136 : Ref sig .tc := ⟨.hbm, 1219, rfl⟩
abbrev main_call2_call0_v137 : Ref sig .tc := ⟨.hbm, 1220, rfl⟩
abbrev main_call2_call0_v138 : Ref sig .tc := ⟨.hbm, 1221, rfl⟩
abbrev main_call2_call0_v139 : Ref sig .tc := ⟨.hbm, 1222, rfl⟩
abbrev main_call2_call0_c_35 : Ref sig .tc := ⟨.hbm, 1223, rfl⟩
abbrev main_call2_call0_v140 : Ref sig .tc := ⟨.hbm, 1224, rfl⟩
abbrev main_call2_call0_v141 : Ref sig .tc := ⟨.hbm, 1225, rfl⟩
abbrev main_call2_call0_v142 : Ref sig .tc := ⟨.hbm, 1226, rfl⟩
abbrev main_call2_call0_c_36 : Ref sig .tc := ⟨.hbm, 1227, rfl⟩
abbrev main_call2_call0_v143 : Ref sig .tc := ⟨.hbm, 1228, rfl⟩
abbrev main_call2_call0_v144 : Ref sig .tc := ⟨.hbm, 1229, rfl⟩
abbrev main_call2_call0_c_37 : Ref sig .tc := ⟨.hbm, 1230, rfl⟩
abbrev main_call2_call0_v145 : Ref sig .tc := ⟨.hbm, 1231, rfl⟩
abbrev main_call2_call0_v146 : Ref sig .tc := ⟨.hbm, 1232, rfl⟩
abbrev main_call2_call0_v147 : Ref sig .tc := ⟨.hbm, 1233, rfl⟩
abbrev main_call2_call0_v148 : Ref sig .tc := ⟨.hbm, 1234, rfl⟩
abbrev main_call2_call0_v149 : Ref sig .tc := ⟨.hbm, 1235, rfl⟩
abbrev main_call2_call0_c_38 : Ref sig .tc := ⟨.hbm, 1236, rfl⟩
abbrev main_call2_call0_v150 : Ref sig .tc := ⟨.hbm, 1237, rfl⟩
abbrev main_call2_call0_v151 : Ref sig .tc := ⟨.hbm, 1238, rfl⟩
abbrev main_call2_call0_c_39 : Ref sig .tc := ⟨.hbm, 1239, rfl⟩
abbrev main_call2_call0_v152 : Ref sig .tc := ⟨.hbm, 1240, rfl⟩
abbrev main_call2_call0_v153 : Ref sig .tc := ⟨.hbm, 1241, rfl⟩
abbrev main_call2_call0_v154 : Ref sig .tc := ⟨.hbm, 1242, rfl⟩
abbrev main_call2_call0_v155 : Ref sig .tc := ⟨.hbm, 1243, rfl⟩
abbrev main_call2_call0_v156 : Ref sig .tc := ⟨.hbm, 1244, rfl⟩
abbrev main_call2_call0_c_40 : Ref sig .tc := ⟨.hbm, 1245, rfl⟩
abbrev main_call2_call0_v157 : Ref sig .tc := ⟨.hbm, 1246, rfl⟩
abbrev main_call2_call0_v158 : Ref sig .tc := ⟨.hbm, 1247, rfl⟩
abbrev main_call2_call0_c_41 : Ref sig .tc := ⟨.hbm, 1248, rfl⟩
abbrev main_call2_call0_v159 : Ref sig .tc := ⟨.hbm, 1249, rfl⟩
abbrev main_call2_call0_v160 : Ref sig .tc := ⟨.hbm, 1250, rfl⟩
abbrev main_call2_call0_v161 : Ref sig .tc := ⟨.hbm, 1251, rfl⟩
abbrev main_call2_call0_v162 : Ref sig .tc := ⟨.hbm, 1252, rfl⟩
abbrev main_call2_call0_v163 : Ref sig .tc := ⟨.hbm, 1253, rfl⟩
abbrev main_call2_call0_c_42 : Ref sig .tc := ⟨.hbm, 1254, rfl⟩
abbrev main_call2_call0_v164 : Ref sig .tc := ⟨.hbm, 1255, rfl⟩
abbrev main_call2_call0_v165 : Ref sig .tc := ⟨.hbm, 1256, rfl⟩
abbrev main_call2_call0_c_43 : Ref sig .tc := ⟨.hbm, 1257, rfl⟩
abbrev main_call2_call0_v166 : Ref sig .tc := ⟨.hbm, 1258, rfl⟩
abbrev main_call2_call0_v167 : Ref sig .tc := ⟨.hbm, 1259, rfl⟩
abbrev main_call2_call0_v168 : Ref sig .tc := ⟨.hbm, 1260, rfl⟩
abbrev main_call2_call0_v169 : Ref sig .tc := ⟨.hbm, 1261, rfl⟩
abbrev main_call2_call0_v170 : Ref sig .tc := ⟨.hbm, 1262, rfl⟩
abbrev main_call2_v19_0 : Ref sig .tc := ⟨.hbm, 1263, rfl⟩
abbrev main_call2_call0_v172 : Ref sig .tc := ⟨.hbm, 1264, rfl⟩
abbrev main_call2_call0_v173 : Ref sig .tc := ⟨.hbm, 1265, rfl⟩
abbrev main_call2_call0_c_44 : Ref sig .tc := ⟨.hbm, 1266, rfl⟩
abbrev main_call2_call0_v174 : Ref sig .tc := ⟨.hbm, 1267, rfl⟩
abbrev main_call2_v19_1 : Ref sig .tc := ⟨.hbm, 1268, rfl⟩
abbrev main_call2_v20 : Ref sig .tc := ⟨.hbm, 1269, rfl⟩
abbrev main_call2_c_2 : Ref sig .tc := ⟨.hbm, 1270, rfl⟩
abbrev main_call2_v21 : Ref sig .tc := ⟨.hbm, 1271, rfl⟩
abbrev main_call2_v22 : Ref sig .tc := ⟨.hbm, 1272, rfl⟩
abbrev main_call2_c_3 : Ref sig .tc := ⟨.hbm, 1273, rfl⟩
abbrev main_call2_v23 : Ref sig .tc := ⟨.hbm, 1274, rfl⟩
abbrev main_call2_v24 : Ref sig .tc := ⟨.hbm, 1275, rfl⟩
abbrev main_call2_v25 : Ref sig .tc := ⟨.hbm, 1276, rfl⟩
abbrev main_call2_cst : Ref sig .tc := ⟨.hbm, 1277, rfl⟩
abbrev main_call2_v26 : Ref sig .tc := ⟨.hbm, 1278, rfl⟩
abbrev main_call2_v27 : Ref sig .tc := ⟨.hbm, 1279, rfl⟩
abbrev main_call2_v28 : Ref sig .tc := ⟨.hbm, 1280, rfl⟩
abbrev main_call2_v29 : Ref sig .tc := ⟨.hbm, 1281, rfl⟩
abbrev main_call2_v30 : Ref sig .tc := ⟨.hbm, 1282, rfl⟩
abbrev main_call2_v31 : Ref sig .tc := ⟨.hbm, 1283, rfl⟩
abbrev main_call2_v32 : Ref sig .tc := ⟨.hbm, 1284, rfl⟩
abbrev main_call2_v33 : Ref sig .tc := ⟨.hbm, 1285, rfl⟩
abbrev main_v19 : Ref sig .tc := ⟨.hbm, 1286, rfl⟩
abbrev main_call3_v0 : Ref sig .tc := ⟨.hbm, 1287, rfl⟩
abbrev main_call3_v1_0 : Ref sig .tc := ⟨.hbm, 1288, rfl⟩
abbrev main_v20 : Ref sig .tc := ⟨.hbm, 1289, rfl⟩
abbrev main_call4_c : Ref sig .tc := ⟨.hbm, 1290, rfl⟩
abbrev main_call4_v0 : Ref sig .tc := ⟨.hbm, 1291, rfl⟩
abbrev main_call4_v1 : Ref sig .tc := ⟨.hbm, 1292, rfl⟩
abbrev main_call4_c_0 : Ref sig .tc := ⟨.hbm, 1293, rfl⟩
abbrev main_call4_v2 : Ref sig .tc := ⟨.hbm, 1294, rfl⟩
abbrev main_call4_v3 : Ref sig .tc := ⟨.hbm, 1295, rfl⟩
abbrev main_call4_v4 : Ref sig .tc := ⟨.hbm, 1296, rfl⟩
abbrev main_call4_v5 : Ref sig .tc := ⟨.hbm, 1297, rfl⟩
abbrev main_call4_c_1 : Ref sig .tc := ⟨.hbm, 1298, rfl⟩
abbrev main_call4_c_2 : Ref sig .tc := ⟨.hbm, 1299, rfl⟩
abbrev main_call4_v6 : Ref sig .tc := ⟨.hbm, 1300, rfl⟩
abbrev main_call4_v7 : Ref sig .tc := ⟨.hbm, 1301, rfl⟩
abbrev main_call4_v8 : Ref sig .tc := ⟨.hbm, 1302, rfl⟩
abbrev main_call4_v9 : Ref sig .tc := ⟨.hbm, 1303, rfl⟩
abbrev main_call4_v10 : Ref sig .tc := ⟨.hbm, 1304, rfl⟩
abbrev main_call4_v11 : Ref sig .tc := ⟨.hbm, 1305, rfl⟩
abbrev main_call4_c_3 : Ref sig .tc := ⟨.hbm, 1306, rfl⟩
abbrev main_call4_v12 : Ref sig .tc := ⟨.hbm, 1307, rfl⟩
abbrev main_call4_v13 : Ref sig .tc := ⟨.hbm, 1308, rfl⟩
abbrev main_call4_c_4 : Ref sig .tc := ⟨.hbm, 1309, rfl⟩
abbrev main_call4_v14 : Ref sig .tc := ⟨.hbm, 1310, rfl⟩
abbrev main_v21 : Ref sig .tc := ⟨.hbm, 1311, rfl⟩
abbrev main_v22 : Ref sig .tc := ⟨.hbm, 1312, rfl⟩
abbrev main_v23 : Ref sig .tc := ⟨.hbm, 1313, rfl⟩
abbrev main_v24 : Ref sig .tc := ⟨.hbm, 1314, rfl⟩

abbrev nD : Nat := 1
abbrev τ : Topo := Topo.v7x

variable {F : FTy → Type} [FloatOps F]
-- ==== Proof.Line.lean ====
/- Straight lines of host operations in which every tensor value has a buffer of its own, written once and
   read only later. After such a line every operation's equation holds of the final contents, which is how
   the reference's result is read here: one equation per operation, all about one valuation. -/
module

public import Idealize.ShloMosaic.Lib.StableHlo.Run
public import Idealize.ShloMosaic.Lib.StableHlo.RunHlo
public import Idealize.ShloMosaic.Lib.Tactic

@[expose] public section

noncomputable section

namespace Cert.Line

open Idealize.ShloMosaic Idealize.ShloMosaic.StableHlo Idealize.SL.Sem

variable {nD : Nat} {τ : Topo} {sig : RefSig} {Val : EltTy → Type} {Λ : Labels}

/-- The place of a reference in its memory space: its index there. -/
def rk (r : Ref sig .tc) : Nat := r.idx.val

/-- The contents of the buffer behind a typed reference, at the type of the reference. -/
def val (W : Valuation τ sig Val) {T : BufTy} (x : TRef sig T) : T.Contents Val :=
  x.ofBuf (W (Proc.devRef .tc x.ref))

/-- What is asked of one operation, with `k.1` the ranks it reads and `k.2` the rank it writes: it touches
    only buffers of those ranks, it determines what it writes, and running it twice is running it once. -/
structure OpOk (op : HloOp τ sig Val) (k : List Nat × Nat) : Prop where
  sub : op.bufs ⊆ tcRefs τ sig
  fresh : op.fresh = ∅
  reads : ∀ b ∈ op.bufs, ∃ r : Ref sig .tc, b = Proc.devRef .tc r ∧ (rk r = k.2 ∨ rk r ∈ k.1)
  writes : ∀ b ∈ op.writes, ∃ r : Ref sig .tc, b = Proc.devRef .tc r ∧ rk r = k.2
  idem : (∀ n ∈ k.1, n < k.2) → ∀ V : Valuation τ sig Val, op.result (op.result V) = op.result V

/-- The check over a line's ranks: every rank read is below the rank written, and the ranks written rise. -/
def chain : Nat → List (List Nat × Nat) → Bool
  | _, [] => true
  | n, k :: ks => k.1.all (· < k.2) && decide (n ≤ k.2) && chain (k.2 + 1) ks

theorem not_written {op : HloOp τ sig Val} {k : List Nat × Nat} (h : OpOk op k) (r : Ref sig .tc)
    (hr : rk r < k.2) : Proc.devRef .tc r ∉ op.writes := by
  intro hb
  obtain ⟨r', e, h'⟩ := h.writes _ hb
  have := Proc.devRef_injective _ e
  subst this
  omega

/-- A buffer of rank below all the ranks a line writes keeps its contents. -/
theorem after_low {ops : List (HloOp τ sig Val)} {ks : List (List Nat × Nat)}
    (h : List.Forall₂ OpOk ops ks) : ∀ (n : Nat), chain n ks = true → ∀ (V : Valuation τ sig Val) (r : Ref sig .tc),
    rk r < n → after ops V (Proc.devRef .tc r) = V (Proc.devRef .tc r) := by
  induction h with
  | nil => intros; rfl
  | cons h1 _ ih =>
    intro n hc V r hr
    simp only [chain, Bool.and_eq_true, decide_eq_true_eq] at hc
    rw [after_cons, ih _ hc.2 _ _ (by omega), HloOp.result_of_not_mem _ _ (not_written h1 r (by omega))]

/-- After a line whose ranks pass the check, running any of its operations again changes nothing. -/
theorem after_fixed {ops : List (HloOp τ sig Val)} {ks : List (List Nat × Nat)}
    (h : List.Forall₂ OpOk ops ks) : ∀ (n : Nat), chain n ks = true → ∀ (V : Valuation τ sig Val),
    ∀ op ∈ ops, op.result (after ops V) = after ops V := by
  induction h with
  | nil => intro _ _ _ op ho; cases ho
  | @cons op k ops ks h1 h2 ih =>
    intro n hc V o ho
    simp only [chain, Bool.and_eq_true, decide_eq_true_eq, List.all_eq_true] at hc
    rw [after_cons]
    rcases List.mem_cons.mp ho with rfl | ho
    · have agree : ∀ b ∈ o.bufs, after ops (o.result V) b = o.result V b := by
        intro b hb
        obtain ⟨r, rfl, hr⟩ := h1.reads b hb
        refine after_low h2 _ hc.2 _ _ ?_
        rcases hr with hr | hr
        · omega
        · have := hc.1.1 _ hr; omega
      funext b
      by_cases hb : b ∈ o.writes
      · have hb' := o.writes_sub hb
        rw [o.result_congr agree b hb', h1.idem hc.1.1 V, agree b hb']
      · rw [o.result_of_not_mem _ hb]
    · exact ih _ hc.2 _ o ho

theorem forall_sub {ops : List (HloOp τ sig Val)} {ks : List (List Nat × Nat)}
    (h : List.Forall₂ OpOk ops ks) : ops.Forall fun op => op.bufs ⊆ tcRefs τ sig := by
  rw [List.forall_iff_forall_mem]
  induction h with
  | nil => intro _ h; cases h
  | cons h1 _ ih =>
    intro o ho
    rcases List.mem_cons.mp ho with rfl | ho
    · exact h1.sub
    · exact ih o ho

theorem forall_fresh {ops : List (HloOp τ sig Val)} {ks : List (List Nat × Nat)}
    (h : List.Forall₂ OpOk ops ks) : ∀ op ∈ ops, op.fresh = ∅ := by
  induction h with
  | nil => intro _ h; cases h
  | cons h1 _ ih =>
    intro o ho
    rcases List.mem_cons.mp ho with rfl | ho
    · exact h1.fresh
    · exact ih o ho

/-- A program read as a line: its operations, their ranks, and the equations they leave. -/
structure Line (p : Prog (TpuEff nD τ sig Val Λ .tc) PUnit) where
  ops : List (HloOp τ sig Val)
  ks : List (List Nat × Nat)
  eqs : Valuation τ sig Val → Prop
  hp : p = seq ops
  hok : List.Forall₂ OpOk ops ks
  heq : ∀ W : Valuation τ sig Val, (∀ op ∈ ops, op.result W = W) → eqs W

/-- The program that only returns. -/
def Line.nil : Line (nD := nD) (τ := τ) (sig := sig) (Val := Val) (Λ := Λ) (pure ⟨⟩) :=
  ⟨[], [], fun _ => True, rfl, .nil, fun _ _ => trivial⟩

/-- One line after another. -/
def Line.bind {p q : Prog (TpuEff nD τ sig Val Λ .tc) PUnit} (a : Line p) (b : Line q) : Line (p >>= fun _ => q) :=
  ⟨a.ops ++ b.ops, a.ks ++ b.ks, fun W => a.eqs W ∧ b.eqs W, (congrArg₂ (fun x y => x >>= fun _ => y) a.hp b.hp).trans (seq_append _ _).symm,
    List.rel_append a.hok b.hok,
    fun W h => ⟨a.heq W fun o ho => h o (List.mem_append_left _ ho), b.heq W fun o ho => h o (List.mem_append_right _ ho)⟩⟩

/-- One operation before a line. -/
def Line.cons {q : Prog (TpuEff nD τ sig Val Λ .tc) PUnit} (op : HloOp τ sig Val) (k : List Nat × Nat) (hop : OpOk op k)
    (e : Valuation τ sig Val → Prop) (he : ∀ W, op.result W = W → e W) (b : Line q) :
    Line ((hlo rfl op fun _ => .ret (⟨⟩ : PUnit)) >>= fun _ => q) :=
  ⟨op :: b.ops, k :: b.ks, fun W => e W ∧ b.eqs W, congrArg (fun y => (hlo rfl op fun _ => .ret (⟨⟩ : PUnit)) >>= fun _ => y) b.hp, .cons hop b.hok,
    fun W h => ⟨he W (h op List.mem_cons_self), b.heq W fun o ho => h o (List.mem_cons_of_mem _ ho)⟩⟩

/-! ## The builders of operations -/

/-- An operation that writes the one buffer `y`, a function of the buffers `rs` (none of them `y` when the
    ranks are told apart), is of the kind asked. -/
theorem opOk_of {op : HloOp τ sig Val} {y : Ref sig .tc} {rs : List (Ref sig .tc)}
    (hs : op.bufs ⊆ tcRefs τ sig) (hf : op.fresh = ∅) (hw : op.writes = {Proc.devRef .tc y})
    (hb : ∀ b ∈ op.bufs, ∃ r : Ref sig .tc, b = Proc.devRef .tc r ∧ (r = y ∨ r ∈ rs))
    (hy : ∀ V V' : Valuation τ sig Val, (∀ r ∈ rs, V (Proc.devRef .tc r) = V' (Proc.devRef .tc r)) →
      op.result V (Proc.devRef .tc y) = op.result V' (Proc.devRef .tc y)) :
    OpOk op (rs.map rk, rk y) where
  sub := hs
  fresh := hf
  reads b h := by
    obtain ⟨r, e, h⟩ := hb b h
    refine ⟨r, e, h.imp (fun e => by rw [e]) fun h => List.mem_map_of_mem h⟩
  writes b h := by
    rw [hw, Finset.mem_singleton] at h
    exact ⟨y, h, rfl⟩
  idem h V := by
    have hne : ∀ r ∈ rs, Proc.devRef (τ := τ) .tc r ∉ op.writes := by
      intro r hr hm
      rw [hw, Finset.mem_singleton] at hm
      have := Proc.devRef_injective _ hm
      subst this
      exact absurd (h _ (List.mem_map_of_mem hr)) (lt_irrefl _)
    funext b
    by_cases hm : b ∈ op.writes
    · have hm' := hm
      rw [hw, Finset.mem_singleton] at hm'
      subst hm'
      exact hy _ _ fun r hr => op.result_of_not_mem V (hne r hr)
    · rw [op.result_of_not_mem _ hm]

section Refs

variable (x a b c y : Ref sig .tc)

theorem ok_nullary (v : y.ty.Contents Val) (hy) : OpOk (nullary (τ := τ) y v hy) ([], rk y) :=
  opOk_of (rs := []) (nullary_bufs_sub y v hy) rfl rfl
    (fun b h => ⟨y, by rw [nullary_bufs, Finset.mem_singleton] at h; exact h, .inl rfl⟩)
    (fun V V' _ => by rw [nullary_result, nullary_result])

theorem ok_unary (f : x.ty.Contents Val → y.ty.Contents Val) (hx hy) :
    OpOk (unary (τ := τ) x y f hx hy) ([rk x], rk y) :=
  opOk_of (rs := [x]) (unary_bufs_sub x y f hx hy) rfl rfl
    (fun b h => by
      rw [unary_bufs, Finset.mem_insert, Finset.mem_singleton] at h
      rcases h with h | h
      · exact ⟨x, h, .inr (by simp)⟩
      · exact ⟨y, h, .inl rfl⟩)
    (fun V V' h => by rw [unary_result, unary_result, h x (by simp)])

theorem ok_binary (f : a.ty.Contents Val → b.ty.Contents Val → y.ty.Contents Val) (ha hb hy) :
    OpOk (binary (τ := τ) a b y f ha hb hy) ([rk a, rk b], rk y) :=
  opOk_of (rs := [a, b]) (binary_bufs_sub a b y f ha hb hy) rfl rfl
    (fun r h => by
      rw [binary_bufs, Finset.mem_insert, Finset.mem_insert, Finset.mem_singleton] at h
      rcases h with h | h | h
      · exact ⟨a, h, .inr (by simp)⟩
      · exact ⟨b, h, .inr (by simp)⟩
      · exact ⟨y, h, .inl rfl⟩)
    (fun V V' h => by rw [binary_result, binary_result, h a (by simp), h b (by simp)])

theorem ok_ternary (f : c.ty.Contents Val → a.ty.Contents Val → b.ty.Contents Val → y.ty.Contents Val) (hc ha hb hy) :
    OpOk (ternary (τ := τ) c a b y f hc ha hb hy) ([rk c, rk a, rk b], rk y) :=
  opOk_of (rs := [c, a, b]) (ternary_bufs_sub a b c y f hc ha hb hy) rfl rfl
    (fun r h => by
      rw [ternary_bufs, Finset.mem_insert, Finset.mem_insert, Finset.mem_insert, Finset.mem_singleton] at h
      rcases h with h | h | h | h
      · exact ⟨c, h, .inr (by simp)⟩
      · exact ⟨a, h, .inr (by simp)⟩
      · exact ⟨b, h, .inr (by simp)⟩
      · exact ⟨y, h, .inl rfl⟩)
    (fun V V' h => by rw [ternary_result, ternary_result, h c (by simp), h a (by simp), h b (by simp)])

theorem ok_reshape (he hn hx hy) : OpOk (reshape (τ := τ) (Val := Val) x y he hn hx hy) ([rk x], rk y) :=
  opOk_of (rs := [x]) (reshape_bufs_sub x y he hn hx hy) rfl rfl
    (fun b h => by
      rw [reshape_bufs, Finset.mem_insert, Finset.mem_singleton] at h
      rcases h with h | h
      · exact ⟨x, h, .inr (by simp)⟩
      · exact ⟨y, h, .inl rfl⟩)
    (fun V V' h => by rw [reshape_result, reshape_result, h x (by simp)])

end Refs

/-! ## One operation before a line, by builder -/

section Steps

variable {q : Prog (TpuEff nD τ sig Val Λ .tc) PUnit} {T Tx Ta Tb Tc Ty : BufTy}

def Line.nullary (y : Ref sig .tc) (v : y.ty.Contents Val) (hy) (k : Line q) :
    Line ((hlo rfl (StableHlo.nullary y v hy) fun _ => .ret (⟨⟩ : PUnit)) >>= fun _ => q) :=
  .cons _ _ (ok_nullary y v hy) (fun W => W (Proc.devRef .tc y) = v)
    (fun W h => by rw [← h, nullary_result]) k

def Line.unary (x y : Ref sig .tc) (f : x.ty.Contents Val → y.ty.Contents Val) (hx hy) (k : Line q) :
    Line ((hlo rfl (StableHlo.unary x y f hx hy) fun _ => .ret (⟨⟩ : PUnit)) >>= fun _ => q) :=
  .cons _ _ (ok_unary x y f hx hy) (fun W => W (Proc.devRef .tc y) = f (W (Proc.devRef .tc x)))
    (fun W h => by conv_lhs => rw [← h, unary_result]) k

def Line.binary (a b y : Ref sig .tc) (f : a.ty.Contents Val → b.ty.Contents Val → y.ty.Contents Val) (ha hb hy)
    (k : Line q) : Line ((hlo rfl (StableHlo.binary a b y f ha hb hy) fun _ => .ret (⟨⟩ : PUnit)) >>= fun _ => q) :=
  .cons _ _ (ok_binary a b y f ha hb hy)
    (fun W => W (Proc.devRef .tc y) = f (W (Proc.devRef .tc a)) (W (Proc.devRef .tc b)))
    (fun W h => by conv_lhs => rw [← h, binary_result]) k

def Line.reshape (x y : Ref sig .tc) (he hn hx hy) (k : Line q) :
    Line ((hlo rfl (StableHlo.reshape (Val := Val) x y he hn hx hy) fun _ => .ret (⟨⟩ : PUnit)) >>= fun _ => q) :=
  .cons _ _ (ok_reshape x y he hn hx hy)
    (fun W => W (Proc.devRef .tc y) = fun i => he ▸ shapeCast y.ty.shape (W (Proc.devRef .tc x)) hn i)
    (fun W h => by conv_lhs => rw [← h, reshape_result]) k

def Line.tnullary (y : TRef sig Ty) (v : Ty.Contents Val) (k : Line q) :
    Line ((hlo rfl (TRef.nullary y v) fun _ => .ret (⟨⟩ : PUnit)) >>= fun _ => q) :=
  .cons _ _ (ok_nullary _ _ _) (fun W => val W y = v)
    (fun W h => by rw [val, ← h, nullary_result, TRef.ofBuf_toBuf]) k

def Line.tunary (x : TRef sig Tx) (y : TRef sig Ty) (f : Tx.Contents Val → Ty.Contents Val) (k : Line q) :
    Line ((hlo rfl (TRef.unary x y f) fun _ => .ret (⟨⟩ : PUnit)) >>= fun _ => q) :=
  .cons _ _ (ok_unary _ _ _ _ _) (fun W => val W y = f (val W x))
    (fun W h => by conv_lhs => rw [val, ← h, unary_result, TRef.ofBuf_toBuf]
                   rfl) k

def Line.tbinary (a : TRef sig Ta) (b : TRef sig Tb) (y : TRef sig Ty)
    (f : Ta.Contents Val → Tb.Contents Val → Ty.Contents Val) (k : Line q) :
    Line ((hlo rfl (TRef.binary a b y f) fun _ => .ret (⟨⟩ : PUnit)) >>= fun _ => q) :=
  .cons _ _ (ok_binary _ _ _ _ _ _ _) (fun W => val W y = f (val W a) (val W b))
    (fun W h => by conv_lhs => rw [val, ← h, binary_result, TRef.ofBuf_toBuf]
                   rfl) k

def Line.tternary (c : TRef sig Tc) (a : TRef sig Ta) (b : TRef sig Tb) (y : TRef sig Ty)
    (f : Tc.Contents Val → Ta.Contents Val → Tb.Contents Val → Ty.Contents Val) (k : Line q) :
    Line ((hlo rfl (TRef.ternary c a b y f) fun _ => .ret (⟨⟩ : PUnit)) >>= fun _ => q) :=
  .cons _ _ (ok_ternary _ _ _ _ _ _ _ _ _) (fun W => val W y = f (val W c) (val W a) (val W b))
    (fun W h => by conv_lhs => rw [val, ← h, ternary_result, TRef.ofBuf_toBuf]
                   rfl) k

/-- The value a reshape leaves: the same elements at the new shape. -/
theorem val_reshape {s t : Shape} {e : EltTy} (x : TRef sig ⟨s, e⟩) (y : TRef sig ⟨t, e⟩) (hn : s.ShapeCasts t)
    (W : Valuation τ sig Val) (h : (TRef.reshape x y (rfl : e = e) hn : HloOp τ sig Val).result W = W) :
    val W y = shapeCast t (val W x) hn := by
  have h' := congrFun h (Proc.devRef .tc y.ref)
  rw [TRef.reshape, reshape_result] at h'
  rw [val, ← h']
  obtain ⟨x, hx, _, _⟩ := x
  obtain ⟨y, hy, _, _⟩ := y
  dsimp only [val, TRef.ofBuf] at *
  have key : ∀ (A B : BufTy) (hA : A = ⟨s, e⟩) (hB : B = ⟨t, e⟩) (v : A.Contents Val) (he : A.elt = B.elt)
      (hc : A.shape.ShapeCasts B.shape),
      cast (congrArg (fun U : BufTy => U.Contents Val) hB) (fun i => he ▸ shapeCast B.shape v hc i)
        = shapeCast t (cast (congrArg (fun U : BufTy => U.Contents Val) hA) v) hn := by
    intro A B hA hB; subst hA; subst hB; intro v he hc; rfl
  exact key _ _ hx hy _ _ _

def Line.treshape {s t : Shape} {e : EltTy} (x : TRef sig ⟨s, e⟩) (y : TRef sig ⟨t, e⟩) (hn : s.ShapeCasts t)
    (k : Line q) : Line ((hlo rfl (TRef.reshape x y (rfl : e = e) hn) fun _ => .ret (⟨⟩ : PUnit)) >>= fun _ => q) :=
  .cons _ _ (ok_reshape _ _ _ _ _ _) (fun W => val W y = shapeCast t (val W x) hn)
    (fun W h => val_reshape x y hn W h) k

end Steps

/-- A program read as a line whose ranks pass the check runs, on a signature that scopes nothing, from any memory:
    a final state's buffers are one valuation of which every equation of the line holds, a buffer of rank
    below `n` being what it was. -/
theorem run {defs : Defs nD τ sig Val Λ} {main : Dev nD → Prog (TpuEff nD τ sig Val Λ .tc) PUnit}
    (L : ∀ d, Line (main d)) (n : Nat) (hc : ∀ d, chain n (L d).ks = true)
    (hR : (Finset.univ.filter fun b : Ref sig .tc => b.isScoped) = ∅)
    (hC : (Finset.univ.filter fun sm : SemLoc sig => sm.isScoped .tc) = ∅)
    (m : (ℓ : Loc nD τ sig) → Buf Val ℓ) (ρ : Dev nD → PrngReg) :
    θ_run defs (onTc (τ := τ) main) ⟨m, fun _ => 0, ρ⟩ fun r => ∀ d : Dev nD, ∃ W : Valuation τ sig Val,
      (∀ b : Ref sig .tc, r.2.mem ((d.tc : Thread nD τ).loc b) = W (Proc.devRef .tc b)) ∧ (L d).eqs W
      ∧ ∀ b : Ref sig .tc, rk b < n → W (Proc.devRef .tc b) = m ((d.tc : Thread nD τ).loc b) := by
  refine θ_run_mono (run_seq hR hC defs main (fun d => (L d).ops) (fun d => (L d).hp)
    (fun d => forall_sub (L d).hok) m ρ (fun d => forall_fresh (L d).hok)) ?_
  intro r h d
  refine ⟨after (L d).ops (launchContents m d), h d, (L d).heq _ (after_fixed (L d).hok n (hc d) _), ?_⟩
  intro b hb
  rw [after_low (L d).hok n (hc d) _ _ hb]

end Cert.Line

end
-- ==== Proof.RefLine.lean ====
/- The reference's program read as one line of host operations (Proof/Line.lean): each of its functions at
   any arguments and any call's buffers, then @main; the line's ranks pass the check, so the program runs. -/
module

public import proofs.«01_k».proof.Defs
public import proofs.«01_k».proof.Proof.Line
public import proofs.«01_k».proof.Proof.Gen.ReferenceIdeal

@[expose] public section

noncomputable section

namespace Cert.RefLine

open Idealize.ShloMosaic Idealize.ShloMosaic.StableHlo Idealize.SL.Sem Cert.ReferenceIdeal Cert.Line

variable {F : FTy → Type} [FloatOps F] [Facts]

def tfA0 (a0 a1 : TRef sig ⟨S_, .i32⟩) (a2 a3 : TRef sig ⟨S2, .i32⟩) (φ : fn_threefry2x32.Bufs) :
    Line (fn_threefry2x32.body_part0 (F := F) a0 a1 a2 a3 φ) := by
  delta fn_threefry2x32.body_part0
  repeat
    first
      | with_reducible exact Line.nil
      | with_reducible apply Line.tbinary
      | with_reducible apply Line.tunary
      | with_reducible apply Line.tnullary
      | exact Line.nil
      | apply Line.tbinary
      | apply Line.tnullary

def tfA1 (a0 a1 : TRef sig ⟨S_, .i32⟩) (a2 a3 : TRef sig ⟨S2, .i32⟩) (φ : fn_threefry2x32.Bufs) :
    Line (fn_threefry2x32.body_part1 (F := F) a0 a1 a2 a3 φ) := by
  delta fn_threefry2x32.body_part1
  repeat
    first
      | with_reducible exact Line.nil
      | with_reducible apply Line.tbinary
      | with_reducible apply Line.tunary
      | with_reducible apply Line.tnullary
      | exact Line.nil
      | apply Line.tbinary
      | apply Line.tnullary

def tfA2 (a0 a1 : TRef sig ⟨S_, .i32⟩) (a2 a3 : TRef sig ⟨S2, .i32⟩) (φ : fn_threefry2x32.Bufs) :
    Line (fn_threefry2x32.body_part2 (F := F) a0 a1 a2 a3 φ) := by
  delta fn_threefry2x32.body_part2
  repeat
    first
      | with_reducible exact Line.nil
      | with_reducible apply Line.tbinary
      | with_reducible apply Line.tunary
      | with_reducible apply Line.tnullary
      | exact Line.nil
      | apply Line.tbinary
      | apply Line.tnullary

def tfA3 (a0 a1 : TRef sig ⟨S_, .i32⟩) (a2 a3 : TRef sig ⟨S2, .i32⟩) (φ : fn_threefry2x32.Bufs) :
    Line (fn_threefry2x32.body_part3 (F := F) a0 a1 a2 a3 φ) := by
  delta fn_threefry2x32.body_part3
  repeat
    first
      | with_reducible exact Line.nil
      | with_reducible apply Line.tbinary
      | with_reducible apply Line.tunary
      | with_reducible apply Line.tnullary
      | exact Line.nil
      | apply Line.tbinary
      | apply Line.tnullary

/-- The block function on two counters, as a line. -/
def tfA (a0 a1 : TRef sig ⟨S_, .i32⟩) (a2 a3 : TRef sig ⟨S2, .i32⟩) (φ : fn_threefry2x32.Bufs) :
    Line (fn_threefry2x32.body (F := F) a0 a1 a2 a3 φ) :=
  .bind (tfA0 a0 a1 a2 a3 φ) (.bind (tfA1 a0 a1 a2 a3 φ) (.bind (tfA2 a0 a1 a2 a3 φ) (tfA3 a0 a1 a2 a3 φ)))

def tfB0 (a0 a1 : TRef sig ⟨S_, .i32⟩) (a2 a3 : TRef sig ⟨S16384, .i32⟩) (φ : fn_threefry2x32_2.Bufs) :
    Line (fn_threefry2x32_2.body_part0 (F := F) a0 a1 a2 a3 φ) := by
  delta fn_threefry2x32_2.body_part0
  repeat
    first
      | with_reducible exact Line.nil
      | with_reducible apply Line.tbinary
      | with_reducible apply Line.tunary
      | with_reducible apply Line.tnullary
      | exact Line.nil
      | apply Line.tbinary
      | apply Line.tnullary

def tfB1 (a0 a1 : TRef sig ⟨S_, .i32⟩) (a2 a3 : TRef sig ⟨S16384, .i32⟩) (φ : fn_threefry2x32_2.Bufs) :
    Line (fn_threefry2x32_2.body_part1 (F := F) a0 a1 a2 a3 φ) := by
  delta fn_threefry2x32_2.body_part1
  repeat
    first
      | with_reducible exact Line.nil
      | with_reducible apply Line.tbinary
      | with_reducible apply Line.tunary
      | with_reducible apply Line.tnullary
      | exact Line.nil
      | apply Line.tbinary
      | apply Line.tnullary

def tfB2 (a0 a1 : TRef sig ⟨S_, .i32⟩) (a2 a3 : TRef sig ⟨S16384, .i32⟩) (φ : fn_threefry2x32_2.Bufs) :
    Line (fn_threefry2x32_2.body_part2 (F := F) a0 a1 a2 a3 φ) := by
  delta fn_threefry2x32_2.body_part2
  repeat
    first
      | with_reducible exact Line.nil
      | with_reducible apply Line.tbinary
      | with_reducible apply Line.tunary
      | with_reducible apply Line.tnullary
      | exact Line.nil
      | apply Line.tbinary
      | apply Line.tnullary

def tfB3 (a0 a1 : TRef sig ⟨S_, .i32⟩) (a2 a3 : TRef sig ⟨S16384, .i32⟩) (φ : fn_threefry2x32_2.Bufs) :
    Line (fn_threefry2x32_2.body_part3 (F := F) a0 a1 a2 a3 φ) := by
  delta fn_threefry2x32_2.body_part3
  repeat
    first
      | with_reducible exact Line.nil
      | with_reducible apply Line.tbinary
      | with_reducible apply Line.tunary
      | with_reducible apply Line.tnullary
      | exact Line.nil
      | apply Line.tbinary
      | apply Line.tnullary

/-- The block function on 16384 counters, as a line. -/
def tfB (a0 a1 : TRef sig ⟨S_, .i32⟩) (a2 a3 : TRef sig ⟨S16384, .i32⟩) (φ : fn_threefry2x32_2.Bufs) :
    Line (fn_threefry2x32_2.body (F := F) a0 a1 a2 a3 φ) :=
  .bind (tfB0 a0 a1 a2 a3 φ) (.bind (tfB1 a0 a1 a2 a3 φ) (.bind (tfB2 a0 a1 a2 a3 φ) (tfB3 a0 a1 a2 a3 φ)))

def tfC0 (a0 a1 : TRef sig ⟨S_, .i32⟩) (a2 a3 : TRef sig ⟨S16384x1024, .i32⟩) (φ : fn_threefry2x32_3.Bufs) :
    Line (fn_threefry2x32_3.body_part0 (F := F) a0 a1 a2 a3 φ) := by
  delta fn_threefry2x32_3.body_part0
  repeat
    first
      | with_reducible exact Line.nil
      | with_reducible apply Line.tbinary
      | with_reducible apply Line.tunary
      | with_reducible apply Line.tnullary
      | exact Line.nil
      | apply Line.tbinary
      | apply Line.tnullary

def tfC1 (a0 a1 : TRef sig ⟨S_, .i32⟩) (a2 a3 : TRef sig ⟨S16384x1024, .i32⟩) (φ : fn_threefry2x32_3.Bufs) :
    Line (fn_threefry2x32_3.body_part1 (F := F) a0 a1 a2 a3 φ) := by
  delta fn_threefry2x32_3.body_part1
  repeat
    first
      | with_reducible exact Line.nil
      | with_reducible apply Line.tbinary
      | with_reducible apply Line.tunary
      | with_reducible apply Line.tnullary
      | exact Line.nil
      | apply Line.tbinary
      | apply Line.tnullary

def tfC2 (a0 a1 : TRef sig ⟨S_, .i32⟩) (a2 a3 : TRef sig ⟨S16384x1024, .i32⟩) (φ : fn_threefry2x32_3.Bufs) :
    Line (fn_threefry2x32_3.body_part2 (F := F) a0 a1 a2 a3 φ) := by
  delta fn_threefry2x32_3.body_part2
  repeat
    first
      | with_reducible exact Line.nil
      | with_reducible apply Line.tbinary
      | with_reducible apply Line.tunary
      | with_reducible apply Line.tnullary
      | exact Line.nil
      | apply Line.tbinary
      | apply Line.tnullary

def tfC3 (a0 a1 : TRef sig ⟨S_, .i32⟩) (a2 a3 : TRef sig ⟨S16384x1024, .i32⟩) (φ : fn_threefry2x32_3.Bufs) :
    Line (fn_threefry2x32_3.body_part3 (F := F) a0 a1 a2 a3 φ) := by
  delta fn_threefry2x32_3.body_part3
  repeat
    first
      | with_reducible exact Line.nil
      | with_reducible apply Line.tbinary
      | with_reducible apply Line.tunary
      | with_reducible apply Line.tnullary
      | exact Line.nil
      | apply Line.tbinary
      | apply Line.tnullary

/-- The block function on 16384 × 1024 counters, as a line. -/
def tfC (a0 a1 : TRef sig ⟨S_, .i32⟩) (a2 a3 : TRef sig ⟨S16384x1024, .i32⟩) (φ : fn_threefry2x32_3.Bufs) :
    Line (fn_threefry2x32_3.body (F := F) a0 a1 a2 a3 φ) :=
  .bind (tfC0 a0 a1 a2 a3 φ) (.bind (tfC1 a0 a1 a2 a3 φ) (.bind (tfC2 a0 a1 a2 a3 φ) (tfC3 a0 a1 a2 a3 φ)))

/-- A key split in two, as a line. -/
def splitA (a0 : TRef sig ⟨S2, .i32⟩) (φ : fn_threefry_split.Bufs) :
    Line (fn_threefry_split.body (F := F) a0 φ) := by
  delta fn_threefry_split.body
  repeat
    first
      | with_reducible exact Line.nil
      | with_reducible apply Line.tbinary
      | with_reducible apply Line.tunary
      | with_reducible apply Line.tnullary
      | with_reducible apply Line.tternary
      | with_reducible apply Line.treshape
      | with_reducible apply Line.bind (tfA _ _ _ _ _)
      | exact Line.nil
      | apply Line.tbinary
      | apply Line.tnullary

/-- The second key's split, as a line. -/
def splitB (a0 : TRef sig ⟨S2, .i32⟩) (φ : fn_threefry_split_1.Bufs) :
    Line (fn_threefry_split_1.body (F := F) a0 φ) := by
  delta fn_threefry_split_1.body
  repeat
    first
      | with_reducible exact Line.nil
      | with_reducible apply Line.tbinary
      | with_reducible apply Line.tunary
      | with_reducible apply Line.tnullary
      | with_reducible apply Line.tternary
      | with_reducible apply Line.treshape
      | with_reducible apply Line.bind (tfA _ _ _ _ _)
      | exact Line.nil
      | apply Line.tbinary
      | apply Line.tnullary

/-- A clamp, as a line. -/
def clipA (a0 a1 a2 : TRef sig ⟨S_, .i32⟩) (φ : fn_clip.Bufs) :
    Line (fn_clip.body (F := F) a0 a1 a2 φ) := by
  delta fn_clip.body
  repeat
    first
      | with_reducible exact Line.nil
      | with_reducible apply Line.tbinary
      | with_reducible apply Line.tunary
      | with_reducible apply Line.tnullary
      | with_reducible apply Line.tternary
      | with_reducible apply Line.treshape
      | exact Line.nil
      | apply Line.tbinary
      | apply Line.tnullary

/-- The other clamp, as a line. -/
def clipB (a0 a1 a2 : TRef sig ⟨S_, .i32⟩) (φ : fn_clip_0.Bufs) :
    Line (fn_clip_0.body (F := F) a0 a1 a2 φ) := by
  delta fn_clip_0.body
  repeat
    first
      | with_reducible exact Line.nil
      | with_reducible apply Line.tbinary
      | with_reducible apply Line.tunary
      | with_reducible apply Line.tnullary
      | with_reducible apply Line.tternary
      | with_reducible apply Line.treshape
      | exact Line.nil
      | apply Line.tbinary
      | apply Line.tnullary

def randA (a0 : TRef sig ⟨S2, .i32⟩) (a1 a2 : TRef sig ⟨S_, .i32⟩) (φ : fn_randint.Bufs) :
    Line (fn_randint.body_part0 (F := F) a0 a1 a2 φ) := by
  delta fn_randint.body_part0
  repeat
    first
      | with_reducible exact Line.nil
      | with_reducible apply Line.tbinary
      | with_reducible apply Line.tunary
      | with_reducible apply Line.tnullary
      | with_reducible apply Line.tternary
      | with_reducible apply Line.treshape
      | with_reducible apply Line.bind (tfB _ _ _ _ _)
      | with_reducible apply Line.bind (splitB _ _)
      | with_reducible apply Line.bind (clipA _ _ _ _)
      | with_reducible apply Line.bind (clipB _ _ _ _)
      | exact Line.nil
      | apply Line.tbinary
      | apply Line.tnullary

def randB (a0 : TRef sig ⟨S2, .i32⟩) (a1 a2 : TRef sig ⟨S_, .i32⟩) (φ : fn_randint.Bufs) :
    Line (fn_randint.body_part1 (F := F) a0 a1 a2 φ) := by
  delta fn_randint.body_part1
  repeat
    first
      | with_reducible exact Line.nil
      | with_reducible apply Line.tbinary
      | with_reducible apply Line.tunary
      | with_reducible apply Line.tnullary
      | with_reducible apply Line.tternary
      | with_reducible apply Line.treshape
      | exact Line.nil
      | apply Line.tbinary
      | apply Line.tnullary

/-- The bounded integers, as a line. -/
def rand (a0 : TRef sig ⟨S2, .i32⟩) (a1 a2 : TRef sig ⟨S_, .i32⟩) (φ : fn_randint.Bufs) :
    Line (fn_randint.body (F := F) a0 a1 a2 φ) := .bind (randA a0 a1 a2 φ) (randB a0 a1 a2 φ)

/-- The uniform draws, as a line. -/
def unif (a0 : TRef sig ⟨S2, .i32⟩) (a1 a2 : TRef sig ⟨S_, .f32⟩) (φ : fn_uniform.Bufs) :
    Line (fn_uniform.body (F := F) a0 a1 a2 φ) := by
  delta fn_uniform.body
  repeat
    first
      | with_reducible exact Line.nil
      | with_reducible apply Line.tbinary
      | with_reducible apply Line.tunary
      | with_reducible apply Line.tnullary
      | with_reducible apply Line.tternary
      | with_reducible apply Line.treshape
      | with_reducible apply Line.bind (tfC _ _ _ _ _)
      | exact Line.nil
      | apply Line.tbinary
      | apply Line.tnullary

/-- The stable argsort, as a line. -/
def asort (a0 : TRef sig ⟨S16384x1024, .f32⟩) (φ : fn_argsort.Bufs) :
    Line (fn_argsort.body (F := F) a0 φ) := by
  delta fn_argsort.body
  repeat
    first
      | with_reducible exact Line.nil
      | with_reducible apply Line.tbinary
      | with_reducible apply Line.tunary
      | with_reducible apply Line.tnullary
      | with_reducible apply Line.tternary
      | with_reducible apply Line.treshape
      | exact Line.nil
      | apply Line.tbinary
      | apply Line.tnullary

/-- The read along the sorted indices, as a line. -/
def take (a0 : TRef sig ⟨S16384x1024, .i1⟩) (a1 : TRef sig ⟨S16384x1024, .i32⟩) (φ : fn_take_along_axis.Bufs) :
    Line (fn_take_along_axis.body (F := F) a0 a1 φ) := by
  delta fn_take_along_axis.body
  repeat
    first
      | with_reducible exact Line.nil
      | with_reducible apply Line.tbinary
      | with_reducible apply Line.tunary
      | with_reducible apply Line.tnullary
      | with_reducible apply Line.tternary
      | with_reducible apply Line.treshape
      | exact Line.nil
      | apply Line.tbinary
      | apply Line.tnullary

/-- @main as a line. -/
def mainL (d : Dev nD) : Line (main (F := F) d) := by
  delta main
  repeat
    first
      | with_reducible exact Line.nil
      | with_reducible apply Line.binary
      | with_reducible apply Line.unary
      | with_reducible apply Line.nullary
      | with_reducible apply Line.reshape
      | with_reducible apply Line.bind (splitA _ _)
      | with_reducible apply Line.bind (rand _ _ _ _)
      | with_reducible apply Line.bind (unif _ _ _ _)
      | with_reducible apply Line.bind (asort _ _)
      | with_reducible apply Line.bind (take _ _ _)
      | exact Line.nil
      | apply Line.tbinary
      | apply Line.tnullary

/-- The reference's ranks pass the check: every buffer is written once, and read only after that. -/
theorem chain_main (d : Dev nD) : chain 1 (mainL (F := F) d).ks = true := by
  sl_kernel_rfl

end Cert.RefLine

end
-- ==== Proof.RefRun.lean ====
/- The reference's run: from any memory @main ends with its argument as it was, every counter at zero, and its
   buffers one valuation of which every operation's equation holds. -/
module

public import proofs.«01_k».proof.Proof.RefLine
public import Idealize.ShloMosaic.Lib.Quiescent

@[expose] public section

noncomputable section

namespace Cert.RefLine

open Idealize.ShloMosaic Idealize.ShloMosaic.StableHlo Idealize.SL.Sem Cert.ReferenceIdeal Cert.Line

variable {F : FTy → Type} [FloatOps F] [Facts]

/-- The reference runs: its result buffer is read off a valuation of which every equation of @main holds and
    whose argument buffer is the launch's. -/
theorem run (m : (ℓ : Loc nD τ sig) → Buf (Elt F) ℓ) (g : Dev nD → PrngReg) :
    θ_run (defs (F := F)) (onTc (τ := τ) (main (F := F))) ⟨m, fun _ => 0, g⟩ fun r =>
      (∀ d : Dev nD, ∃ W : Valuation τ sig (Elt F),
        (∀ b : Ref sig .tc, r.2.mem ((d.tc : Thread nD τ).loc b) = W (Proc.devRef .tc b)) ∧ (mainL d).eqs W
        ∧ W (Proc.devRef .tc main_arg0) = m ((d.tc : Thread nD τ).loc main_arg0))
      ∧ r.2.sem = fun _ => 0 := by
  refine θ_run_mono (Line.run mainL 1 chain_main (by decide) (by decide) m g) fun r h => ⟨fun d => ?_, ?_⟩
  · obtain ⟨W, h1, h2, h3⟩ := h d
    exact ⟨W, h1, h2, h3 main_arg0 (by decide)⟩
  · exact sem_eq_zero_of_no_sems (by decide) _

/-- The reference runs with its argument unchanged and every counter at zero. -/
theorem frame (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_arg0) = m ((c.tc : Thread nD τ).loc main_arg0))
      ∧ r.2.sem = fun _ => 0 := by
  refine θ_run_mono (run m g) fun r h => ⟨fun c => ?_, h.2⟩
  obtain ⟨W, h1, _, h3⟩ := h.1 c
  rw [h1, h3]

end Cert.RefLine

end
-- ==== Proof.Tf.lean ====
/- The generator of both programs on one pair of words, and the kernel's two draws of it: the bits of a row's
   columns and the row's keep count. -/
module

public import proofs.«01_k».proof.Proof.Gen.KernelIdeal.Frame
public import Idealize.ShloMosaic.Lib.Tactic

@[expose] public section

noncomputable section

namespace Cert.Tf

open Idealize.ShloMosaic

/-- One mixing round on a pair of words: the sum, and the second word turned left by `r` (right by `l`)
    xor'd with the sum. -/
def rnd (r l : BitVec 32) (p : BitVec 32 × BitVec 32) : BitVec 32 × BitVec 32 :=
  (p.1 + p.2, (p.2 <<< r ||| p.2 >>> l) ^^^ (p.1 + p.2))

/-- Adding a pair of key words. -/
def inj (a b : BitVec 32) (p : BitVec 32 × BitVec 32) : BitVec 32 × BitVec 32 := (p.1 + a, p.2 + b)

/-- The four rounds of the odd groups. -/
def quadA (p : BitVec 32 × BitVec 32) : BitVec 32 × BitVec 32 :=
  rnd 6#32 26#32 (rnd 26#32 6#32 (rnd 15#32 17#32 (rnd 13#32 19#32 p)))

/-- The four rounds of the even groups. -/
def quadB (p : BitVec 32 × BitVec 32) : BitVec 32 × BitVec 32 :=
  rnd 24#32 8#32 (rnd 16#32 16#32 (rnd 29#32 3#32 (rnd 17#32 15#32 p)))

/-- The third key word. -/
def k2 (a b : BitVec 32) : BitVec 32 := a ^^^ b ^^^ 466688986#32

/-- The generator: key `(a, b)`, counter `(c, d)`. -/
def tf (a b c d : BitVec 32) : BitVec 32 × BitVec 32 :=
  inj (k2 a b) (a + 5#32) (quadA (inj b (k2 a b + 4#32) (quadB (inj a (b + 3#32)
    (quadA (inj (k2 a b) (a + 2#32) (quadB (inj b (k2 a b + 1#32) (quadA (inj a b (c, d)))))))))))

/-- The two words of the generator xor'd. -/
def draw (a b c d : BitVec 32) : BitVec 32 := (tf a b c d).1 ^^^ (tf a b c d).2

variable {s : Shape}

/-- A round on two vectors of words, in the kernel's operations. -/
def vrnd (r l : BitVec 32) (p : IVec s 32 × IVec s 32) : IVec s 32 × IVec s 32 :=
  (addi p.1 p.2, xori (ori (shli p.2 (broadcast s r)) (shrui p.2 (broadcast s l))) (addi p.1 p.2))

/-- Adding key words, in the kernel's operations. -/
def vinj (a b : BitVec 32) (p : IVec s 32 × IVec s 32) : IVec s 32 × IVec s 32 :=
  (addi p.1 (broadcast s a), addi p.2 (broadcast s b))

/-- The odd groups' rounds on vectors. -/
def vquadA (p : IVec s 32 × IVec s 32) : IVec s 32 × IVec s 32 :=
  vrnd 6#32 26#32 (vrnd 26#32 6#32 (vrnd 15#32 17#32 (vrnd 13#32 19#32 p)))

/-- The even groups' rounds on vectors. -/
def vquadB (p : IVec s 32 × IVec s 32) : IVec s 32 × IVec s 32 :=
  vrnd 24#32 8#32 (vrnd 16#32 16#32 (vrnd 29#32 3#32 (vrnd 17#32 15#32 p)))

/-- The generator on vectors of counters. -/
def vtf (a b : BitVec 32) (c d : IVec s 32) : IVec s 32 × IVec s 32 :=
  vinj (k2 a b) (a + 5#32) (vquadA (vinj b (k2 a b + 4#32) (vquadB (vinj a (b + 3#32)
    (vquadA (vinj (k2 a b) (a + 2#32) (vquadB (vinj b (k2 a b + 1#32) (vquadA (vinj a b (c, d)))))))))))

/-- A pair of vectors at one index. -/
def at_ (p : IVec s 32 × IVec s 32) (j : s.Idx) : BitVec 32 × BitVec 32 := (p.1 j, p.2 j)

theorem at_vrnd (r l : BitVec 32) (hr : r.toNat < 32) (hl : l.toNat < 32) (p : IVec s 32 × IVec s 32) (j : s.Idx) :
    at_ (vrnd r l p) j = rnd r l (at_ p j) := by
  show (_, ((if r.toNat < 32 then _ else _) ||| (if l.toNat < 32 then _ else _)) ^^^ _) = _
  rw [if_pos hr, if_pos hl]; rfl

theorem at_vinj (a b : BitVec 32) (p : IVec s 32 × IVec s 32) (j : s.Idx) :
    at_ (vinj a b p) j = inj a b (at_ p j) := rfl

theorem at_vquadA (p : IVec s 32 × IVec s 32) (j : s.Idx) : at_ (vquadA p) j = quadA (at_ p j) := by
  unfold vquadA quadA
  simp only [at_vrnd _ _ (by decide : (6#32 : BitVec 32).toNat < 32) (by decide : (26#32 : BitVec 32).toNat < 32),
    at_vrnd _ _ (by decide : (26#32 : BitVec 32).toNat < 32) (by decide : (6#32 : BitVec 32).toNat < 32),
    at_vrnd _ _ (by decide : (15#32 : BitVec 32).toNat < 32) (by decide : (17#32 : BitVec 32).toNat < 32),
    at_vrnd _ _ (by decide : (13#32 : BitVec 32).toNat < 32) (by decide : (19#32 : BitVec 32).toNat < 32)]

theorem at_vquadB (p : IVec s 32 × IVec s 32) (j : s.Idx) : at_ (vquadB p) j = quadB (at_ p j) := by
  unfold vquadB quadB
  simp only [at_vrnd _ _ (by decide : (24#32 : BitVec 32).toNat < 32) (by decide : (8#32 : BitVec 32).toNat < 32),
    at_vrnd _ _ (by decide : (16#32 : BitVec 32).toNat < 32) (by decide : (16#32 : BitVec 32).toNat < 32),
    at_vrnd _ _ (by decide : (29#32 : BitVec 32).toNat < 32) (by decide : (3#32 : BitVec 32).toNat < 32),
    at_vrnd _ _ (by decide : (17#32 : BitVec 32).toNat < 32) (by decide : (15#32 : BitVec 32).toNat < 32)]

/-- The vector generator is the word generator at each index. -/
theorem at_vtf (a b : BitVec 32) (c d : IVec s 32) (j : s.Idx) : at_ (vtf a b c d) j = tf a b (c j) (d j) := by
  unfold vtf tf
  simp only [at_vinj, at_vquadA, at_vquadB]
  rfl

end Cert.Tf

end
-- ==== Proof.TfK.lean ====
/- The kernel's two draws: the bits of a block's columns and the keep counts of its rows, as the generator. -/
module

public import proofs.«01_k».proof.Proof.Tf

@[expose] public section

noncomputable section

namespace Cert.TfK

open Idealize.ShloMosaic Cert.KernelIdeal Cert.KernelIdeal.Gen Cert.Tf

variable {F : FTy → Type} [FloatOps F] [Facts]

/-- The key of the columns' bits. -/
def kS0 : BitVec 32 := 2877103387#32
def kS1 : BitVec 32 := 1697627890#32
/-- The key of the rows' counts. -/
def kR0 : BitVec 32 := 2352926074#32
def kR1 : BitVec 32 := 781486348#32

/-- The counter of a block's element: its row in the array times 1024 plus the logical column. -/
def ctrS (i : grid0.Coords) : IVec S256x1024 32 :=
  addi (muli (addi (iota .tc S256x1024 32 [0] iota_S256x1024_d0_w32)
    (broadcast S256x1024 (Scalar.muli (BitVec.ofNat 32 (i 0).val) 256#32))) (broadcast S256x1024 1024#32)) k0_pay3

/-- The counter of a block's row: its row in the array. -/
def ctrR (i : grid0.Coords) : IVec S256x1 32 :=
  addi (iota .tc S256x1 32 [0] iota_S256x1_d0_w32)
    (broadcast S256x1 (Scalar.muli (BitVec.ofNat 32 (i 0).val) 256#32))

theorem bits_eq (i : grid0.Coords) (x0 : Vec F S256x1024 .f32) :
    k0_pay140 i x0 = xori (vtf kS0 kS1 (broadcast S256x1024 0#32) (ctrS i)).1
      (vtf kS0 kS1 (broadcast S256x1024 0#32) (ctrS i)).2 := by sl_kernel_rfl

theorem ints_eq (i : grid0.Coords) (x0 : Vec F S256x1024 .f32) :
    k0_pay150 i x0 = andi (xori (vtf kR0 kR1 (broadcast S256x1 0#32) (ctrR i)).1
      (vtf kR0 kR1 (broadcast S256x1 0#32) (ctrR i)).2) (broadcast S256x1 1023#32) := by sl_kernel_rfl

end Cert.TfK

end
-- ==== Proof.SortK.lean ====
/- The kernel's sort of a block's rows, as one function of the logical columns and the keys. -/
module

public import proofs.«01_k».proof.Proof.Gen.KernelIdeal.Frame
public import Idealize.ShloMosaic.Lib.Tactic

@[expose] public section

noncomputable section

namespace Cert.SortK

open Idealize.ShloMosaic Cert.KernelIdeal Cert.KernelIdeal.Gen

variable {F : FTy → Type} [FloatOps F] [Facts]

/-- How far apart in a row two elements stand whose logical columns differ in bit `t`. -/
def pdist (t : Nat) : Nat := if t < 3 then 128 * 2 ^ t else 2 ^ (t - 3)

/-- One exchange at logical distance `2 ^ t`. -/
def sub (J : IVec S256x1024 32) (K : IVec S256x1024 32) (t : Nat) : IVec S256x1024 32 :=
  select (cmpi .eq (andi J (broadcast S256x1024 (BitVec.ofNat 32 (2 ^ t)))) (broadcast S256x1024 0#32))
    (minsi K (dynamicRotate 1 (BitVec.ofNat 32 (1024 - pdist t)) none K rotates_S256x1024_d1))
    (dynamicRotate 1 (BitVec.ofNat 32 (pdist t)) none
      (maxsi K (dynamicRotate 1 (BitVec.ofNat 32 (1024 - pdist t)) none K rotates_S256x1024_d1)) rotates_S256x1024_d1)

/-- The words a level flips the keys by: all ones where bit `s` of the logical column is set; none at the last. -/
def neg (J : IVec S256x1024 32) (s : Nat) : IVec S256x1024 32 :=
  if s = 0 ∨ s = 10 then broadcast S256x1024 0#32 else
    subi (broadcast S256x1024 0#32)
      (andi (shrsi J (broadcast S256x1024 (BitVec.ofNat 32 s))) (broadcast S256x1024 1#32))

/-- One level: the flip, then the exchanges at distances `2 ^ l … 1`. -/
def level (J : IVec S256x1024 32) (K : IVec S256x1024 32) (l : Nat) : IVec S256x1024 32 :=
  (List.range (l + 1)).reverse.foldl (sub J) (xori K (xori (neg J (l + 1)) (neg J l)))

/-- The sort: ten levels. -/
def sortV (J : IVec S256x1024 32) (K : IVec S256x1024 32) : IVec S256x1024 32 :=
  (List.range 10).foldl (level J) K

theorem sort_eq (i : grid0.Coords) (x0 : Vec F S256x1024 .f32) :
    k0_pay170 i x0 = sortV (k0_pay133 i x0) (k0_pay151 i x0) := by sl_kernel_rfl

end Cert.SortK

end
-- ==== Proof.SortRow.lean ====
/- The kernel's sort read in one row, in the logical order of its columns: it sorts the row's keys as signed
   words. -/
module

public import proofs.«01_k».proof.Proof.SortK
public import Idealize.ShloMosaic.Lib.SortNet.Sorts

@[expose] public section

noncomputable section

namespace Cert.SortRow

open Idealize.ShloMosaic Idealize.ShloMosaic.SortNet Cert.KernelIdeal Cert.KernelIdeal.Gen Cert.SortK

variable {F : FTy → Type} [FloatOps F] [Facts]

/-- The column a logical position is held in. -/
def phys (j : Fin (2 ^ 10)) : Fin 1024 := ⟨j.val % 8 * 128 + j.val / 8, by have := j.isLt; omega⟩

/-- The element of a block at a row and a column. -/
def ij (r : Fin 256) (p : Fin 1024) : S256x1024.Idx := Shape.pair (d := ![256, 1024]) r p

/-- A row of a block in the logical order. -/
def row {α : Type} (K : S256x1024.Idx → α) (r : Fin 256) : Fin (2 ^ 10) → α :=
  fun j => K (ij r (phys j))

theorem rot_row {α : Type} (n : Nat) (hn : n < 1024) (K : S256x1024.Idx → α) (r : Fin 256) (p : Fin 1024) :
    dynamicRotate 1 (BitVec.ofNat 32 n) none K rotates_S256x1024_d1 (ij r p)
      = K (ij r ⟨(p.val + 1024 - n) % 1024, Nat.mod_lt _ (by decide)⟩) := by
  refine congrArg K (funext fun b => Fin.ext ?_)
  have h : (BitVec.ofNat 32 n).toNat = n := by
    rw [BitVec.toNat_ofNat]; exact Nat.mod_eq_of_lt (by omega)
  rcases b with ⟨_ | _ | b, hb⟩
  · rfl
  · show (p.val + 1024 - (BitVec.ofNat 32 n).toNat % 1024) % 1024 = (p.val + 1024 - n) % 1024
    rw [h, Nat.mod_eq_of_lt hn]
  · exact absurd hb (by simp)

theorem bit_word : ∀ (t : Fin 10) (j : Fin 1024),
    (BitVec.ofNat 32 j.val &&& BitVec.ofNat 32 (2 ^ t.val) == 0#32) = decide (j.val &&& 2 ^ t.val = 0) := by
  decide +kernel

theorem phys_up : ∀ (t : Fin 10) (j : Fin (2 ^ 10)), j.val &&& 2 ^ t.val = 0 →
    ((phys j).val + 1024 - (1024 - pdist t.val)) % 1024 = (phys (partner 10 t.val j)).val := by
  decide +kernel

theorem phys_down : ∀ (t : Fin 10) (j : Fin (2 ^ 10)), j.val &&& 2 ^ t.val ≠ 0 →
    ((phys j).val + 1024 - pdist t.val) % 1024 = (phys (partner 10 t.val j)).val := by
  decide +kernel

theorem pdist_bounds : ∀ t : Fin 10, 0 < pdist t.val ∧ pdist t.val < 1024 := by decide +kernel

/-- An exchange in one row: the lesser key to the position whose bit is clear, the greater to its partner. -/
theorem row_sub (J K : IVec S256x1024 32) (r : Fin 256) (hJ : ∀ j, row J r j = BitVec.ofNat 32 j.val) (t : Nat)
    (ht : t < 10) (j : Fin (2 ^ 10)) :
    row (sub J K t) r j = if j.val &&& 2 ^ t = 0 then IntOp.minsi (row K r j) (row K r (partner 10 t j))
      else IntOp.maxsi (row K r (partner 10 t j)) (row K r j) := by
  have hb : 0 < pdist t ∧ pdist t < 1024 := pdist_bounds ⟨t, ht⟩
  have e1 : row (sub J K t) r j = Scalar.select
      (BitVec.ofBool (row J r j &&& BitVec.ofNat 32 (2 ^ t) == 0#32))
      (IntOp.minsi (row K r j) (dynamicRotate 1 (BitVec.ofNat 32 (1024 - pdist t)) none K rotates_S256x1024_d1
        (ij r (phys j))))
      (dynamicRotate 1 (BitVec.ofNat 32 (pdist t)) none
        (maxsi K (dynamicRotate 1 (BitVec.ofNat 32 (1024 - pdist t)) none K rotates_S256x1024_d1))
        rotates_S256x1024_d1 (ij r (phys j))) := rfl
  rw [e1, hJ, bit_word ⟨t, ht⟩ j, rot_row _ (by omega), rot_row _ hb.2]
  by_cases h : j.val &&& 2 ^ t = 0
  · rw [if_pos h, decide_eq_true h]
    have e2 := phys_up ⟨t, ht⟩ j h
    show IntOp.minsi (row K r j) (K _) = _
    congr 2
    exact congrArg (ij r) (Fin.ext e2)
  · rw [if_neg h, decide_eq_false h]
    have e2 := phys_down ⟨t, ht⟩ j h
    have e3 := phys_up ⟨t, ht⟩ (partner 10 t j) (partner_and_of_set ht j h)
    rw [partner_partner ht] at e3
    have e4 : (⟨((phys j).val + 1024 - pdist t) % 1024, Nat.mod_lt _ (by decide)⟩ : Fin 1024) = phys (partner 10 t j) :=
      Fin.ext e2
    rw [e4]
    show IntOp.maxsi (row K r (partner 10 t j)) (dynamicRotate 1 (BitVec.ofNat 32 (1024 - pdist t)) none K
      rotates_S256x1024_d1 (ij r (phys (partner 10 t j)))) = _
    rw [rot_row _ (by omega)]
    congr 2
    exact congrArg (ij r) (Fin.ext e3)

/-- Whether the level flips the key at a logical position: bit `s`, nowhere before the first level. -/
def flip (s : Nat) (j : Fin (2 ^ 10)) : Bool := if s = 0 then false else j.val.testBit s

theorem neg_word : ∀ (s : Fin 10) (j : Fin 1024), s.val ≠ 0 →
    0#32 - ((BitVec.ofNat 32 j.val).sshiftRight' (BitVec.ofNat 32 s.val) &&& 1#32)
      = if j.val.testBit s.val then BitVec.allOnes 32 else 0#32 := by
  decide +kernel

theorem row_neg (J : IVec S256x1024 32) (r : Fin 256) (hJ : ∀ j, row J r j = BitVec.ofNat 32 j.val) (s : Nat)
    (hs : s ≤ 10) (j : Fin (2 ^ 10)) : row (neg J s) r j = if flip s j then BitVec.allOnes 32 else 0#32 := by
  unfold neg flip
  by_cases h0 : s = 0
  · simp [h0, row, broadcast]
  · by_cases h1 : s = 10
    · subst h1
      have : j.val.testBit 10 = false := Nat.testBit_lt_two_pow j.isLt
      simp [this, row, broadcast]
    · rw [if_neg (by omega), if_neg h0]
      have hlt : (BitVec.ofNat 32 s).toNat < 32 := by
        rw [BitVec.toNat_ofNat]; omega
      have e : row (subi (broadcast S256x1024 0#32)
          (andi (shrsi J (broadcast S256x1024 (BitVec.ofNat 32 s))) (broadcast S256x1024 1#32))) r j
          = 0#32 - ((if (BitVec.ofNat 32 s).toNat < 32 then (row J r j).sshiftRight' (BitVec.ofNat 32 s) else
            IntOp.cornerWord .vector .shrsi (row J r j) (BitVec.ofNat 32 s)) &&& 1#32) := rfl
      rw [e, if_pos hlt, hJ]
      exact neg_word ⟨s, by omega⟩ j h0

/-- The keys of a row as numbers, with level `s`'s flips undone. -/
def val (s : Nat) (k : Fin (2 ^ 10) → BitVec 32) (j : Fin (2 ^ 10)) : ℤ :=
  if flip s j then -1 - (k j).toInt else (k j).toInt

theorem toInt_xor_ones (x : BitVec 32) : (x ^^^ BitVec.allOnes 32).toInt = -1 - x.toInt := by
  rw [BitVec.xor_allOnes, BitVec.toInt_eq_toNat_cond, BitVec.toInt_eq_toNat_cond, BitVec.toNat_not]
  have := x.isLt
  split <;> split <;> omega

theorem toInt_minsi (x y : BitVec 32) : (IntOp.minsi x y).toInt = min x.toInt y.toInt := by
  unfold IntOp.minsi
  rw [BitVec.slt_eq_decide]
  by_cases h : x.toInt < y.toInt
  · simp [h, min_eq_left (le_of_lt h)]
  · simp [h, min_eq_right (not_lt.mp h)]

theorem toInt_maxsi (x y : BitVec 32) : (IntOp.maxsi x y).toInt = max x.toInt y.toInt := by
  unfold IntOp.maxsi
  rw [BitVec.slt_eq_decide]
  by_cases h : y.toInt < x.toInt
  · simp [h, max_eq_left (le_of_lt h)]
  · simp [h, max_eq_right (not_lt.mp h)]

theorem flip_partner (s t : Nat) (ht : t < s) (hs : s ≤ 10) (j : Fin (2 ^ 10)) : flip s (partner 10 t j) = flip s j := by
  unfold flip
  rw [partner_val (by omega), Nat.testBit_xor, Nat.testBit_two_pow_of_ne (by omega)]
  simp

/-- An exchange below a level's bit is the network's stage, the direction the level's flip. -/
theorem val_sub (J K : IVec S256x1024 32) (r : Fin 256) (hJ : ∀ j, row J r j = BitVec.ofNat 32 j.val) (s t : Nat)
    (ht : t < s) (hs : s ≤ 10) :
    val s (row (sub J K t) r) = Network.apply (stage 10 t (flip s)) (val s (row K r)) := by
  have ht' : t < 10 := by omega
  have key : ∀ j : Fin (2 ^ 10), j.val &&& 2 ^ t = 0 →
      val s (row (sub J K t) r) j = Network.apply (stage 10 t (flip s)) (val s (row K r)) j
      ∧ val s (row (sub J K t) r) (partner 10 t j)
        = Network.apply (stage 10 t (flip s)) (val s (row K r)) (partner 10 t j) := by
    intro j hj
    obtain ⟨h1, h2⟩ := apply_stage ht' (flip s) (val s (row K r)) j hj
    have hp : (partner 10 t j).val &&& 2 ^ t ≠ 0 := by
      rw [partner_and ht' j hj]; exact (Nat.two_pow_pos t).ne'
    rw [h1, h2]
    unfold val
    rw [flip_partner s t ht hs, row_sub J K r hJ t ht', row_sub J K r hJ t ht', if_pos hj, if_neg hp,
      partner_partner ht', toInt_minsi, toInt_maxsi]
    cases flip s j
    · exact ⟨rfl, rfl⟩
    · simp only [if_true]
      omega
  funext j
  by_cases hj : j.val &&& 2 ^ t = 0
  · exact (key j hj).1
  · have h := (key (partner 10 t j) (partner_and_of_set ht' j hj)).2
    rwa [partner_partner ht'] at h

theorem val_subs (J : IVec S256x1024 32) (r : Fin 256) (hJ : ∀ j, row J r j = BitVec.ofNat 32 j.val) (s : Nat)
    (hs : s ≤ 10) (ts : List Nat) (hts : ∀ t ∈ ts, t < s) (K : IVec S256x1024 32) :
    val s (row (ts.foldl (sub J) K) r)
      = Network.apply (ts.flatMap fun t => stage 10 t (flip s)) (val s (row K r)) := by
  induction ts generalizing K with
  | nil => rfl
  | cons t ts ih =>
    rw [List.foldl_cons, ih (fun u hu => hts u (List.mem_cons_of_mem _ hu)), List.flatMap_cons, Network.apply_append,
      val_sub J K r hJ s t (hts t List.mem_cons_self) hs]

theorem val_flip (J K : IVec S256x1024 32) (r : Fin 256) (hJ : ∀ j, row J r j = BitVec.ofNat 32 j.val) (l : Nat)
    (hl : l < 10) : val (l + 1) (row (xori K (xori (neg J (l + 1)) (neg J l))) r) = val l (row K r) := by
  funext j
  have e : row (xori K (xori (neg J (l + 1)) (neg J l))) r j
      = row K r j ^^^ (row (neg J (l + 1)) r j ^^^ row (neg J l) r j) := rfl
  unfold val
  rw [e, row_neg J r hJ _ (by omega), row_neg J r hJ _ (by omega)]
  have e0 : BitVec.allOnes 32 ^^^ BitVec.allOnes 32 = 0#32 := by decide
  have e1 : BitVec.allOnes 32 ^^^ 0#32 = BitVec.allOnes 32 := by decide
  have e2 : 0#32 ^^^ BitVec.allOnes 32 = BitVec.allOnes 32 := by decide
  have e3 : (0#32 : BitVec 32) ^^^ 0#32 = 0#32 := by decide
  have e4 : row K r j ^^^ 0#32 = row K r j := BitVec.xor_zero
  cases flip (l + 1) j <;> cases flip l j <;>
    simp only [if_true, if_false, Bool.false_eq_true, e0, e1, e2, e3, e4, toInt_xor_ones] <;> omega

/-- A level of the kernel's sort is a level of the network. -/
theorem val_level (J K : IVec S256x1024 32) (r : Fin 256) (hJ : ∀ j, row J r j = BitVec.ofNat 32 j.val) (l : Nat)
    (hl : l < 10) : val (l + 1) (row (level J K l) r)
      = Network.apply ((List.range (l + 1)).reverse.flatMap fun t => stage 10 t (flip (l + 1))) (val l (row K r)) := by
  unfold level
  rw [val_subs J r hJ (l + 1) (by omega) _ (fun t ht => by simpa using ht), val_flip J K r hJ l hl]

theorem flip_eq (l : Nat) : flip (l + 1) = fun i : Fin (2 ^ 10) => (decide (i.val &&& 2 ^ (l + 1) = 0)) == false := by
  funext i
  have h := and_two_pow_eq_zero_iff_testBit i.val (l + 1)
  unfold flip
  rw [if_neg (by omega)]
  cases e : i.val.testBit (l + 1)
  · rw [decide_eq_true (h.mpr e)]; rfl
  · rw [decide_eq_false (fun c => by rw [h.mp c] at e; exact absurd e (by decide))]; rfl

theorem val_levels (J : IVec S256x1024 32) (r : Fin 256) (hJ : ∀ j, row J r j = BitVec.ofNat 32 j.val) (K : IVec S256x1024 32)
    (n : Nat) (hn : n ≤ 10) : val n (row ((List.range n).foldl (level J) K) r)
      = Network.apply ((List.range n).flatMap fun l => (List.range (l + 1)).reverse.flatMap fun t =>
          stage 10 t fun i => (decide (i.val &&& 2 ^ (l + 1) = 0)) == false) (val 0 (row K r)) := by
  induction n with
  | zero => rfl
  | succ n ih =>
    rw [List.range_succ, List.foldl_append, List.flatMap_append, Network.apply_append, ← ih (by omega), List.foldl_cons,
      List.foldl_nil, val_level J _ r hJ n (by omega), flip_eq n]
    simp only [List.flatMap_cons, List.flatMap_nil, List.append_nil]

theorem val_zero (k : Fin (2 ^ 10) → BitVec 32) : val 0 k = fun j => (k j).toInt := by
  funext j; simp [val, flip]

theorem val_ten (k : Fin (2 ^ 10) → BitVec 32) : val 10 k = fun j => (k j).toInt := by
  funext j
  have : j.val.testBit 10 = false := Nat.testBit_lt_two_pow j.isLt
  simp [val, flip, this]

/-- The kernel's sort leaves each row, in the logical order, ascending as signed words, and a rearrangement of
    what it was. -/
theorem sorted (J K : IVec S256x1024 32) (r : Fin 256) (hJ : ∀ j, row J r j = BitVec.ofNat 32 j.val) :
    Monotone (fun j => (row (sortV J K) r j).toInt)
      ∧ ∃ σ : Equiv.Perm (Fin (2 ^ 10)), row (sortV J K) r = row K r ∘ σ := by
  have h := val_levels J r hJ K 10 (le_refl _)
  rw [val_zero, val_ten] at h
  have h' : (fun j => (row (sortV J K) r j).toInt)
      = Network.apply (sortNet 10 false) (fun j => (row K r j).toInt) := h
  obtain ⟨σ, hσ⟩ := Network.exists_perm (sortNet 10 false) (fun j => (row K r j).toInt)
  refine ⟨?_, σ, funext fun j => BitVec.toInt_inj.mp ?_⟩
  · rw [h']; exact sortNet_apply_monotone 10 _
  · exact congrFun (h'.trans hσ) j

end Cert.SortRow

end
-- ==== Proof.Order.lean ====
module

public import Idealize.ShloMosaic.Lib.PlanTiles.StableSort
public import Mathlib.Data.List.Sort
public import Mathlib.Data.List.FinRange
public import Mathlib.Data.List.OfFn

/-! # Sorting a row by a coarse key, and the two ways of reading the keep mask

The reference sorts the positions of a row stably by a key `N`; the kernel sorts packed words that hold `N`
and all but the last bit of the position. Both orders carry the same packed words, and from the packed word
one can tell whether the position is below a bound. -/

@[expose] public section
noncomputable section
open Idealize.ShloMosaic
namespace Cert.Order

/-- The position a stable sort of the keys `N` puts at each place. -/
def place {n : Nat} (N : Fin n → Nat) : Fin n → Fin n := sortedFrom fun a b => decide (N a < N b)

/-- A stable sort by `N` lists the positions in lexicographic order of key and position. -/
theorem pairwise {n : Nat} (N : Fin n → Nat) (B : Nat) (hB : ∀ a, N a < B) :
    (sortPositions n fun a b => decide (N a < N b)).Pairwise fun a b => N a < N b ∨ (N a = N b ∧ a < b) := by
  have h := PlanTiles.pairwise_stableSort_lex (fun a : Fin n => B - N a) (· < ·) (List.finRange n) (List.pairwise_lt_finRange n)
  have e : (fun a b : Fin n => decide (N a < N b)) = fun x y => decide (B - N y < B - N x) := by
    funext a b
    have := hB a
    have := hB b
    exact decide_eq_decide.mpr (by omega)
  unfold sortPositions
  rw [e]
  refine h.imp fun {a b} h => ?_
  have := hB a
  have := hB b
  rcases h with h | ⟨h, h'⟩
  · replace h : B - N b < B - N a := h
    exact Or.inl (by omega)
  · replace h : B - N a = B - N b := h
    exact Or.inr ⟨by omega, h'⟩

/-- Later places hold larger keys, or the same key at a later position. -/
theorem place_lt {n : Nat} (N : Fin n → Nat) (B : Nat) (hB : ∀ a, N a < B) {i j : Fin n} (h : i < j) :
    N (place N i) < N (place N j) ∨ (N (place N i) = N (place N j) ∧ place N i < place N j) :=
  List.pairwise_iff_get.mp (pairwise N B hB) (i.cast (length_sortPositions n _).symm) (j.cast (length_sortPositions n _).symm) h

/-- No position is listed twice. -/
theorem place_injective {n : Nat} (N : Fin n → Nat) (B : Nat) (hB : ∀ a, N a < B) : Function.Injective (place N) := by
  intro i j e
  by_contra hne
  rcases lt_or_gt_of_ne hne with h | h
  · rcases place_lt N B hB h with h' | ⟨-, h'⟩
    · exact absurd h' (by rw [e]; exact lt_irrefl _)
    · exact absurd h' (by rw [e]; exact lt_irrefl _)
  · rcases place_lt N B hB h with h' | ⟨-, h'⟩
    · exact absurd h' (by rw [e]; exact lt_irrefl _)
    · exact absurd h' (by rw [e]; exact lt_irrefl _)

/-- The packed number: the key, then all but the last bit of the position. -/
def pack (N : Fin 1024 → Nat) (k : Fin 1024) : Nat := N k * 512 + k.val / 2

/-- Along the stable order the packed numbers never fall. -/
theorem pack_place_monotone (N : Fin 1024 → Nat) (B : Nat) (hB : ∀ a, N a < B) : Monotone (pack N ∘ place N) := by
  intro i j h
  rcases eq_or_lt_of_le h with h | h
  · rw [h]
  · show N (place N i) * 512 + (place N i).val / 2 ≤ N (place N j) * 512 + (place N j).val / 2
    have := (place N i).isLt
    have := (place N j).isLt
    rcases place_lt N B hB h with h' | ⟨h', h''⟩
    · omega
    · have : (place N i).val < (place N j).val := h''
      omega

/-- Two rearrangements of the same numbers that both never fall are the same list of numbers. -/
theorem sorted_unique {n : Nat} (f : Fin n → Nat) (σ τ : Equiv.Perm (Fin n)) (hσ : Monotone (f ∘ σ)) (hτ : Monotone (f ∘ τ)) :
    f ∘ σ = f ∘ τ :=
  List.ofFn_injective (List.Perm.eq_of_pairwise (le := (· ≤ ·)) (fun _ _ _ _ h h' => le_antisymm h h')
    (List.pairwise_ofFn.mpr fun _ _ h => hσ h.le) (List.pairwise_ofFn.mpr fun _ _ h => hτ h.le)
    ((σ.ofFn_comp_perm f).trans (τ.ofFn_comp_perm f).symm))

/-- The same with one of the two given as a listing without repeats. -/
theorem sorted_unique_of_injective {n : Nat} (f : Fin n → Nat) (σ : Equiv.Perm (Fin n)) (q : Fin n → Fin n)
    (hq : Function.Injective q) (hσ : Monotone (f ∘ σ)) (hf : Monotone (f ∘ q)) (j : Fin n) : f (σ j) = f (q j) :=
  congrFun (sorted_unique f σ (Equiv.ofBijective q (Finite.injective_iff_bijective.mp hq)) hσ hf) j

/-- Every rearrangement that sorts the packed numbers reads the same numbers as the stable order. -/
theorem pack_sorted (N : Fin 1024 → Nat) (B : Nat) (hB : ∀ a, N a < B) (σ : Equiv.Perm (Fin 1024))
    (hσ : Monotone (pack N ∘ σ)) (j : Fin 1024) : pack N (σ j) = pack N (place N j) :=
  sorted_unique_of_injective (pack N) σ (place N) (place_injective N B hB) hσ (pack_place_monotone N B hB) j

/-- The kernel's test on a packed number says whether the position itself is below the bound `i`, as long as
    an odd bound does not share its key with the position just before it. -/
theorem below (N : Fin 1024 → Nat) (i p : Fin 1024) (hi : ∀ a : Fin 1024, a.val + 1 = i.val → i.val % 2 = 1 → N a ≠ N i) :
    (2 * (pack N p % 512) < i.val ∧ pack N p ≠ pack N i) ↔ p.val < i.val := by
  have hp := p.isLt
  have hi' := i.isLt
  unfold pack
  constructor
  · rintro ⟨h, hne⟩
    by_contra hge
    have e : p = i := Fin.ext (by omega)
    exact hne (by rw [e])
  · intro h
    refine ⟨by omega, fun e => ?_⟩
    exact hi p (by omega) (by omega) (by omega)

/-- The kernel's mask at a place of any sorted arrangement is the reference's mask there. -/
theorem keep (N : Fin 1024 → Nat) (B : Nat) (hB : ∀ a, N a < B) (σ : Equiv.Perm (Fin 1024)) (hσ : Monotone (pack N ∘ σ))
    (i : Fin 1024) (hi : ∀ a : Fin 1024, a.val + 1 = i.val → i.val % 2 = 1 → N a ≠ N i) (j : Fin 1024) :
    (2 * (pack N (σ j) % 512) < i.val ∧ pack N (σ j) ≠ pack N i) ↔ (place N j).val < i.val := by
  rw [pack_sorted N B hB σ hσ j]
  exact below N i _ hi

end Cert.Order
-- ==== Proof.Word.lean ====
module

public import Idealize.ShloMosaic.PureOps.Ideal
public import Mathlib.Data.Nat.Bitwise

/-! # The two readings of a random word

The kernel packs the top 23 bits of a random word with a position into one sort word; the reference turns the
same 23 bits into a real number of the unit interval. -/

@[expose] public section
noncomputable section
open Idealize.ShloMosaic
namespace Cert.Word

/-- The top 23 bits of a word, as a number. -/
def top (b : BitVec 32) : Nat := b.toNat / 512

theorem top_lt (b : BitVec 32) : top b < 2 ^ 23 := by
  have := b.isLt
  unfold top
  omega

/-- The sort word of a random word `b` and a position `j`. -/
def sortWord (b j : BitVec 32) : BitVec 32 := ((b &&& 4294966784#32) ||| (j >>> 1)) ^^^ 2147483648#32

/-- Clearing the low nine bits and putting a small number there. -/
theorem packed_toNat (b j : BitVec 32) (hj : j.toNat < 1024) :
    ((b &&& 4294966784#32) ||| (j >>> 1)).toNat = top b * 512 + j.toNat / 2 := by
  have h1 : b &&& 4294966784#32 = (b >>> 9) <<< 9 := by
    rw [show (4294966784#32 : BitVec 32) = (BitVec.allOnes 32 >>> 9) <<< 9 from by decide]
    ext i hi
    rw [BitVec.getElem_and, BitVec.getElem_shiftLeft, BitVec.getElem_shiftLeft, BitVec.getElem_ushiftRight,
      BitVec.getElem_ushiftRight]
    rcases Nat.lt_or_ge i 9 with h | h
    · simp [h]
    · have e : 9 + (i - 9) = i := by omega
      rw [e]
      simp [h, hi, Nat.not_lt.mpr h]
      exact fun _ => BitVec.getElem_allOnes i hi
  have h2 : ((b >>> 9) <<< 9).toNat = (b.toNat / 512) <<< 9 := by
    have := b.isLt
    rw [BitVec.toNat_shiftLeft, BitVec.toNat_ushiftRight, Nat.shiftRight_eq_div_pow, Nat.shiftLeft_eq]
    exact Nat.mod_eq_of_lt (by omega)
  rw [BitVec.toNat_or, h1, h2, BitVec.toNat_ushiftRight, Nat.shiftRight_eq_div_pow,
    ← Nat.shiftLeft_add_eq_or_of_lt (by omega), Nat.shiftLeft_eq]
  rfl

/-- Flipping the top bit as an unsigned number. -/
theorem flip_toNat (x : BitVec 32) : (x ^^^ 2147483648#32).toNat = (x.toNat + 2 ^ 31) % 2 ^ 32 := by
  have hx := x.isLt
  rw [BitVec.toNat_xor]
  have h1 : (x.toNat ^^^ (2147483648#32).toNat) % 2 ^ 31 = x.toNat % 2 ^ 31 := by
    rw [Nat.xor_mod_two_pow]
    simp
  have h2 : (x.toNat ^^^ (2147483648#32).toNat) / 2 ^ 31 = (x.toNat / 2 ^ 31) ^^^ 1 := by
    rw [Nat.xor_div_two_pow]
    rfl
  have h3 : x.toNat / 2 ^ 31 = 0 ∨ x.toNat / 2 ^ 31 = 1 := by omega
  rcases h3 with h3 | h3
  · rw [h3, show 0 ^^^ 1 = 1 from rfl] at h2
    omega
  · rw [h3, show 1 ^^^ 1 = 0 from rfl] at h2
    omega

theorem sortWord_toNat (b j : BitVec 32) (hj : j.toNat < 1024) :
    (sortWord b j).toNat = (top b * 512 + j.toNat / 2 + 2 ^ 31) % 2 ^ 32 := by
  unfold sortWord
  rw [flip_toNat, packed_toNat b j hj]

/-- As a signed number a sort word is the packed number, shifted down. -/
theorem sortWord_toInt (b j : BitVec 32) (hj : j.toNat < 1024) :
    (sortWord b j).toInt = ((top b * 512 + j.toNat / 2 : Nat) : Int) - 2 ^ 31 := by
  have h := sortWord_toNat b j hj
  have := top_lt b
  rw [BitVec.toInt_eq_toNat_cond]
  split <;> omega

/-- The low nine bits of a sort word, doubled. -/
theorem doubled (b j : BitVec 32) (hj : j.toNat < 1024) :
    ((sortWord b j &&& 511#32) <<< 1).toNat = 2 * ((top b * 512 + j.toNat / 2) % 512) := by
  have h := sortWord_toNat b j hj
  have := top_lt b
  rw [BitVec.toNat_shiftLeft, BitVec.toNat_and, show (511#32 : BitVec 32).toNat = 2 ^ 9 - 1 from rfl,
    Nat.and_two_pow_sub_one_eq_mod, Nat.shiftLeft_eq]
  omega

/-- Signed comparison of small words is comparison of the numbers. -/
theorem slt_small (x y : BitVec 32) (hx : x.toNat < 2 ^ 31) (hy : y.toNat < 2 ^ 31) : x.slt y = decide (x.toNat < y.toNat) := by
  unfold BitVec.slt
  refine decide_eq_decide.mpr ?_
  rw [BitVec.toInt_eq_toNat_cond, BitVec.toInt_eq_toNat_cond, if_pos (by omega), if_pos (by omega)]
  omega

/-- The pattern of a number between one and two: the top 23 bits of the word are its fraction. -/
theorem pattern_toNat (b : BitVec 32) : ((b >>> 9) ||| 1065353216#32).toNat = 127 * 2 ^ 23 + top b := by
  have := top_lt b
  have hb : b.toNat >>> 9 = top b := Nat.shiftRight_eq_div_pow _ _
  rw [BitVec.toNat_or, BitVec.toNat_ushiftRight, hb, Nat.or_comm, show (1065353216#32 : BitVec 32).toNat = 127 <<< 23 from rfl,
    ← Nat.shiftLeft_add_eq_or_of_lt this, Nat.shiftLeft_eq]

/-- The pattern denotes one plus the fraction. -/
theorem pattern_real (x : BitVec 32) (n : Nat) (hn : n < 2 ^ 23) (hx : x.toNat = 127 * 2 ^ 23 + n) :
    Ideal.ofBits .f32 x = ((1 + (n : ℝ) / 2 ^ 23 : ℝ) : EReal) := by
  have h1 : (x.extractLsb' 31 1).toNat = 0 := by
    rw [BitVec.extractLsb'_toNat, Nat.shiftRight_eq_div_pow, hx]
    omega
  have h2 : (x.extractLsb' 23 8).toNat = 127 := by
    rw [BitVec.extractLsb'_toNat, Nat.shiftRight_eq_div_pow, hx]
    omega
  have h3 : (x.extractLsb' 0 23).toNat = n := by
    rw [BitVec.extractLsb'_toNat, Nat.shiftRight_eq_div_pow, hx]
    omega
  have h4 : (x.extractLsb' 31 1 == 1#1) = false := by
    rw [show x.extractLsb' 31 1 = 0#1 from BitVec.eq_of_toNat_eq h1]
    rfl
  show Ideal.ieee 8 23 x = _
  unfold Ideal.ieee
  simp only [h2, h3, show 8 + 23 = 31 from rfl, h4]
  rw [if_neg (by norm_num), if_neg (by norm_num)]
  refine congrArg (fun r : ℝ => (r : EReal)) ?_
  push_cast
  norm_num
  try ring

end Cert.Word
-- ==== Proof.Spec.lean ====
/- What both programs compute, as a function of a row and a column. -/
module

public import proofs.«01_k».proof.Proof.Tf
public import proofs.«01_k».proof.Proof.Order
public import proofs.«01_k».proof.Proof.Word

@[expose] public section

noncomputable section

namespace Cert.Spec

open Idealize.ShloMosaic Cert.Tf

/-- The random word of an entry: the shuffle key's draw of the entry's number. -/
def word (r : Fin 16384) (k : Fin 1024) : BitVec 32 :=
  draw 2877103387#32 1697627890#32 0#32 (BitVec.ofNat 32 (r.val * 1024 + k.val))

/-- The number of kept entries of a row: the count key's draw of the row's number, modulo 1024. -/
def count (r : Fin 16384) : BitVec 32 := draw 2352926074#32 781486348#32 0#32 (BitVec.ofNat 32 r.val) % 1024#32

theorem count_lt (r : Fin 16384) : (count r).toNat < 1024 := by
  unfold count
  rw [BitVec.toNat_umod]
  exact Nat.mod_lt _ (by decide)

/-- The sort key of an entry: its random word's top bits. -/
def key (r : Fin 16384) (k : Fin 1024) : Nat := Word.top (word r k)

/-- Whether an entry is kept: its place in the row's stable order holds a position below the count. -/
def kept (r : Fin 16384) (j : Fin 1024) : Bool := decide ((Order.place (key r) j).val < (count r).toNat)

/-- The gate of an entry: one where it is kept, else zero. -/
def gate (r : Fin 16384) (j : Fin 1024) : EReal := if kept r j then 1 else 0

/-- An entry times a gate. -/
def times (x g : EReal) : EReal := x * g

end Cert.Spec

end
-- ==== Proof.KRow.lean ====
/- The kernel's words of a block, read at a row and a logical position. -/
module

public import proofs.«01_k».proof.Proof.TfK
public import proofs.«01_k».proof.Proof.SortRow
public import proofs.«01_k».proof.Proof.Spec
public import Idealize.ShloMosaic.Lib.WordSum
public import Idealize.ShloMosaic.Lib.Pipeline.Value
public import Idealize.ShloMosaic.Lib.Pointwise.Index

@[expose] public section

noncomputable section

namespace Cert.KRow

open Idealize.ShloMosaic Cert.KernelIdeal Cert.KernelIdeal.Gen Cert.Tf Cert.TfK Cert.SortRow

variable {F : FTy → Type} [FloatOps F] [Facts]

/-- The logical position of a lane, as arithmetic on its number. -/
theorem logical_lane (p : Fin 1024) :
    (((BitVec.ofNat 32 p.val) &&& 127#32) <<< 3) ||| ((BitVec.ofNat 32 p.val) >>> 7) = BitVec.ofNat 32 (p.val % 128 * 8 + p.val / 128) := by
  revert p
  decide +kernel

/-- The logical position of a lane. -/
def logical (p : Fin 1024) : Fin 1024 := ⟨p.val % 128 * 8 + p.val / 128, by have := p.isLt; omega⟩

/-- The lane a logical position sits in. -/
theorem logical_phys (j : Fin (2 ^ 10)) : logical (phys j) = j := by
  have := j.isLt
  refine Fin.ext ?_
  show (j.val % 8 * 128 + j.val / 8) % 128 * 8 + (j.val % 8 * 128 + j.val / 8) / 128 = j.val
  omega

/-- A word's shifts by a splat, at an index. -/
theorem shl_at {s : Shape} (x : IVec s 32) (n : BitVec 32) (hn : n.toNat < 32) (i : s.Idx) :
    shli x (broadcast s n) i = x i <<< n := if_pos hn
theorem shr_at {s : Shape} (x : IVec s 32) (n : BitVec 32) (hn : n.toNat < 32) (i : s.Idx) :
    shrui x (broadcast s n) i = x i >>> n := if_pos hn

/-- The table of logical positions, read at a lane. -/
theorem logical_at (r : Fin 256) (p : Fin 1024) : k0_pay3 (ij r p) = BitVec.ofNat 32 (logical p).val := by
  refine Eq.trans ?_ (logical_lane p)
  have h : iota .tc S256x1024 32 [1] iota_S256x1024_d1_w32 (ij r p) = BitVec.ofNat 32 p.val := iota_single_apply _ _ _ _ _ _
  have h3 := shl_at (andi (iota .tc S256x1024 32 [1] iota_S256x1024_d1_w32) (broadcast S256x1024 127#32)) 3#32 (by decide) (ij r p)
  have h7 := shr_at (iota .tc S256x1024 32 [1] iota_S256x1024_d1_w32) 7#32 (by decide) (ij r p)
  have e : andi (iota .tc S256x1024 32 [1] iota_S256x1024_d1_w32) (broadcast S256x1024 127#32) (ij r p)
    = iota .tc S256x1024 32 [1] iota_S256x1024_d1_w32 (ij r p) &&& 127#32 := rfl
  rw [e, h] at h3
  rw [h] at h7
  exact congr (congrArg (fun a b : BitVec 32 => a ||| b) h3) h7

/-- The row of the array that a row of a block is. -/
def arow (i : grid0.Coords) (r : Fin 256) : Fin 16384 :=
  ⟨(i 0).val * 256 + r.val, by have : (i 0).val < 64 := (i 0).isLt; have := r.isLt; omega⟩

/-- A block's first row as a word, plus a row of the block. -/
theorem row_word (b : Nat) (r : Fin 256) :
    BitVec.ofNat 32 r.val + BitVec.ofNat 32 b * 256#32 = BitVec.ofNat 32 (b * 256 + r.val) := by
  rw [BitVec.add_comm, BitVec.ofNat_add, BitVec.ofNat_mul]

/-- A row's first number as a word, plus a position. -/
theorem product_word (a k : Nat) : BitVec.ofNat 32 a * 1024#32 + BitVec.ofNat 32 k = BitVec.ofNat 32 (a * 1024 + k) := by
  rw [BitVec.ofNat_add, BitVec.ofNat_mul]

/-- The counter of an element's draw: its number in the array. -/
theorem ctrS_at (i : grid0.Coords) (r : Fin 256) (p : Fin 1024) :
    ctrS i (ij r p) = BitVec.ofNat 32 ((arow i r).val * 1024 + (logical p).val) := by
  have h : iota .tc S256x1024 32 [0] iota_S256x1024_d0_w32 (ij r p) = BitVec.ofNat 32 r.val := iota_single_apply _ _ _ _ _ _
  have e : ctrS i (ij r p) = (iota .tc S256x1024 32 [0] iota_S256x1024_d0_w32 (ij r p) + BitVec.ofNat 32 (i 0).val * 256#32) * 1024#32
    + k0_pay3 (ij r p) := rfl
  rw [e, h, row_word, logical_at, product_word]
  rfl

/-- The counter of a row's draw: its number in the array. -/
theorem ctrR_at (i : grid0.Coords) (r : Fin 256) :
    ctrR i (ix2 r 0) = BitVec.ofNat 32 (arow i r).val := by
  have h : iota .tc S256x1 32 [0] iota_S256x1_d0_w32 (ix2 r 0) = BitVec.ofNat 32 r.val := iota_single_apply _ _ _ _ _ _
  have e : ctrR i (ix2 r 0) = iota .tc S256x1 32 [0] iota_S256x1_d0_w32 (ix2 r 0) + BitVec.ofNat 32 (i 0).val * 256#32 := rfl
  rw [e, h, row_word]
  rfl

/-- The two words of the vector generator xor'd, at an index. -/
theorem draw_at {s : Shape} (a b : BitVec 32) (c d : IVec s 32) (j : s.Idx) :
    xori (vtf a b c d).1 (vtf a b c d).2 j = draw a b (c j) (d j) := by
  unfold draw
  rw [← at_vtf]
  rfl

/-- The block's bits at a lane: the random word of the element. -/
theorem bits_at (i : grid0.Coords) (x0 : Vec F S256x1024 .f32) (r : Fin 256) (p : Fin 1024) :
    k0_pay140 i x0 (ij r p) = Spec.word (arow i r) (logical p) := by
  rw [bits_eq, draw_at, ctrS_at]
  rfl

theorem and_1023 (x : BitVec 32) : x &&& 1023#32 = x % 1024#32 := by
  refine BitVec.eq_of_toNat_eq ?_
  rw [BitVec.toNat_and, BitVec.toNat_umod, show (1023#32 : BitVec 32).toNat = 2 ^ 10 - 1 from rfl, Nat.and_two_pow_sub_one_eq_mod]
  rfl

/-- The block's counts. -/
theorem ints_at (i : grid0.Coords) (x0 : Vec F S256x1024 .f32) (r : Fin 256) :
    k0_pay150 i x0 (ix2 r 0) = Spec.count (arow i r) := by
  rw [ints_eq]
  have h := draw_at kR0 kR1 (broadcast S256x1 0#32) (ctrR i) (ix2 r 0)
  rw [ctrR_at] at h
  exact (congrArg (fun q : BitVec 32 => q &&& 1023#32) h).trans (and_1023 _)

/-- The block's sort words. -/
theorem packed_at (i : grid0.Coords) (x0 : Vec F S256x1024 .f32) (r : Fin 256) (p : Fin 1024) :
    k0_pay151 i x0 (ij r p) = Word.sortWord (Spec.word (arow i r) (logical p)) (BitVec.ofNat 32 (logical p).val) := by
  have h1 := shr_at k0_pay3 1#32 (by decide) (ij r p)
  rw [logical_at] at h1
  have h2 := bits_at i x0 r p
  exact congr (congrArg (fun a b : BitVec 32 => ((a &&& 4294966784#32) ||| b) ^^^ 2147483648#32) h2) h1

end Cert.KRow

end
-- ==== Proof.KBad.lean ====
/- The kernel's word of the count's entry in each row: the sort word of the entry at the count. -/
module

public import proofs.«01_k».proof.Proof.KRow

@[expose] public section

noncomputable section

namespace Cert.KBad

open Idealize.ShloMosaic Cert.KernelIdeal Cert.KernelIdeal.Gen Cert.Tf Cert.TfK Cert.SortRow Cert.KRow

variable {F : FTy → Type} [FloatOps F] [Facts]

/-- An element of a block is named by its row and lane. -/
theorem ij_self (b : S256x1024.Idx) : ij (b 0) (b 1) = b := funext fun a => by
  match a with
  | ⟨0, _⟩ => rfl
  | ⟨1, _⟩ => rfl

/-- A row's sum over the lanes, where every lane but one holds zero, is that lane's word. -/
theorem sum_single (x : IVec S256x1024 32) (h : S256x1024.Reduces [1] S256) (hacc : (0#32 : BitVec 32) = IKind.add.neutral)
    (r : Fin 256) (p : Fin 1024) (hx : ∀ q, q ≠ p → x (ij r q) = 0#32) :
    multiReductionI .add [1] S256 x 0#32 h hacc (ix1 r) = x (ij r p) := by
  have hd : ∀ b : S256x1024.Idx, h.drop b = ix1 r → b 0 = r := fun b hb => by
    have e := Shape.Reduces.drop_apply_val_of_eq h b 0 0
    rw [hb] at e
    exact Fin.ext e.symm
  have hm : ij r p ∈ Finset.univ.filter fun i => h.drop i = ix1 r := by
    refine Finset.mem_filter.mpr ⟨Finset.mem_univ _, funext fun a => ?_⟩
    match a with
    | ⟨0, _⟩ => exact Fin.ext (Shape.Reduces.drop_apply_val_of_eq h (ij r p) 0 0)
  have hs : ∑ i ∈ Finset.univ.filter (fun i => h.drop i = ix1 r), (x i).toNat = (x (ij r p)).toNat := by
    refine Finset.sum_eq_single_of_mem _ hm fun b hb hne => ?_
    have e := hd b (Finset.mem_filter.mp hb).2
    have hq : b 1 ≠ p := fun c => hne (by rw [← ij_self b, e, c])
    have := hx (b 1) hq
    rw [← e, ij_self b] at this
    rw [this]
    rfl
  refine BitVec.eq_of_toNat_eq ?_
  rw [WordSum.toNat_multiReductionI_add x h hacc (ix1 r) (by rw [hs]; exact (x (ij r p)).isLt), hs]

/-- A column spread over the lanes reads its row's entry. -/
theorem spread_at {α : Type} (x : S256x1.Idx → α) (h : S256x1.Broadcasts S256x1024) (r : Fin 256) (p : Fin 1024) :
    broadcastTo S256x1024 x h (ij r p) = x (ix2 r 0) := by
  refine broadcastTo_apply x h (ij r p) (ix2 r 0) fun a => ?_
  match a with
  | ⟨0, _⟩ => rfl
  | ⟨1, _⟩ => rfl

/-- A vector of rows as a column. -/
theorem column_at {α : Type} (x : S256.Idx → α) (h : S256.ShapeCasts S256x1) (r : Fin 256) :
    shapeCast S256x1 x h (ix2 r 0) = x (ix1 r) := by
  refine shapeCast_apply x h (ix2 r 0) (ix1 r) ?_
  rw [Shape.rowMajor_val_one, Shape.rowMajor_val_two]
  show r.val = r.val * 1 + 0
  omega

/-- The entry at a row's count. -/
def edge (R : Fin 16384) : Fin 1024 := ⟨(Spec.count R).toNat, Spec.count_lt R⟩

theorem edge_word (R : Fin 16384) : BitVec.ofNat 32 (edge R).val = Spec.count R :=
  (BitVec.ofNat_toNat 32 (Spec.count R)).trans (BitVec.setWidth_eq _)

theorem logical_inj (p q : Fin 1024) (h : logical p = logical q) : p = q := by
  have h' : p.val % 128 * 8 + p.val / 128 = q.val % 128 * 8 + q.val / 128 := congrArg Fin.val h
  have := p.isLt
  have := q.isLt
  exact Fin.ext (by omega)

/-- The kernel's choice of the lane whose logical position is the count. -/
theorem picked_at (i : grid0.Coords) (x0 : Vec F S256x1024 .f32) (r : Fin 256) (p : Fin 1024) :
    k0_pay79 (k0_pay133 i x0) (k0_pay147 i x0) (k0_pay148 i x0) (k0_pay149 i x0) (ij r p)
      = BitVec.ofBool (logical p == edge (arow i r)) := by
  have e : k0_pay79 (k0_pay133 i x0) (k0_pay147 i x0) (k0_pay148 i x0) (k0_pay149 i x0) (ij r p)
    = BitVec.ofBool (k0_pay3 (ij r p) == broadcastTo S256x1024 (k0_pay150 i x0) broadcasts_S256x1_S256x1024 (ij r p)) := rfl
  rw [e, logical_at, spread_at, ints_at, ← edge_word]
  refine congrArg BitVec.ofBool (Bool.eq_iff_iff.mpr ?_)
  rw [beq_iff_eq, beq_iff_eq]
  constructor
  · intro h
    have h' := congrArg BitVec.toNat h
    have := (logical p).isLt
    have := (edge (arow i r)).isLt
    rw [BitVec.toNat_ofNat, BitVec.toNat_ofNat, Nat.mod_eq_of_lt (by omega), Nat.mod_eq_of_lt (by omega)] at h'
    exact Fin.ext h'
  · intro h
    rw [h]

/-- The kernel's word of the count's entry. -/
theorem bad_at (i : grid0.Coords) (x0 : Vec F S256x1024 .f32) (r : Fin 256) :
    k0_pay152 i x0 (ix2 r 0)
      = Word.sortWord (Spec.word (arow i r) (edge (arow i r))) (BitVec.ofNat 32 (edge (arow i r)).val) := by
  obtain ⟨x, hx⟩ : ∃ x, x = select (k0_pay79 (k0_pay133 i x0) (k0_pay147 i x0) (k0_pay148 i x0) (k0_pay149 i x0)) (k0_pay140 i x0)
    (broadcast S256x1024 0#32) := ⟨_, rfl⟩
  have hat : ∀ p, x (ij r p) = if (logical p == edge (arow i r)) = true then Spec.word (arow i r) (logical p) else 0#32 := fun p => by
    have e : x (ij r p) = Scalar.select (k0_pay79 (k0_pay133 i x0) (k0_pay147 i x0) (k0_pay148 i x0) (k0_pay149 i x0) (ij r p))
      (k0_pay140 i x0 (ij r p)) 0#32 := by rw [hx]; rfl
    rw [e, picked_at, bits_at]
    cases logical p == edge (arow i r) <;> rfl
  have hl : logical (phys (edge (arow i r))) = edge (arow i r) := logical_phys _
  have hsum := sum_single x reduces_S256x1024_S256 rfl r (phys (edge (arow i r))) (fun q hq => by
    rw [hat, if_neg]
    rw [beq_iff_eq]
    exact fun c => hq (logical_inj _ _ (c.trans hl.symm)))
  rw [hat, hl, beq_self_eq_true, if_pos rfl] at hsum
  have h1 := shr_at (k0_pay150 i x0) 1#32 (by decide) (ix2 r 0)
  rw [ints_at, ← edge_word] at h1
  have hc := (column_at (multiReductionI .add [1] S256 x 0#32 reduces_S256x1024_S256 rfl) shapeCasts_S256_S256x1 r).trans hsum
  rw [hx] at hc
  exact congr (congrArg (fun a b : BitVec 32 => ((a &&& 4294966784#32) ||| b) ^^^ 2147483648#32) hc) h1

end Cert.KBad

end
-- ==== Proof.NatTf.lean ====
/- The generator on naturals, for a closed check: the words' values. -/
module

public import proofs.«01_k».proof.Proof.Tf

@[expose] public section

namespace Cert.NatTf

open Cert.Tf

/-- A round on the values of a pair of words. -/
def rndN (r l : Nat) (p : Nat × Nat) : Nat × Nat :=
  (Nat.mod (Nat.add p.1 p.2) 4294967296,
    Nat.xor (Nat.lor (Nat.mod (Nat.shiftLeft p.2 r) 4294967296) (Nat.shiftRight p.2 l))
      (Nat.mod (Nat.add p.1 p.2) 4294967296))

/-- Adding key words, on values. -/
def injN (a b : Nat) (p : Nat × Nat) : Nat × Nat :=
  (Nat.mod (Nat.add p.1 a) 4294967296, Nat.mod (Nat.add p.2 b) 4294967296)

/-- The odd groups' rounds on values. -/
def quadAN (p : Nat × Nat) : Nat × Nat := rndN 6 26 (rndN 26 6 (rndN 15 17 (rndN 13 19 p)))

/-- The even groups' rounds on values. -/
def quadBN (p : Nat × Nat) : Nat × Nat := rndN 24 8 (rndN 16 16 (rndN 29 3 (rndN 17 15 p)))

/-- The generator on values, from the three key words and what is added to each. -/
def tfN (a b a2 b3 k k1 k4 a5 : Nat) (d : Nat) : Nat × Nat :=
  injN k a5 (quadAN (injN b k4 (quadBN (injN a b3 (quadAN (injN k a2 (quadBN (injN b k1
    (quadAN (injN a b (0, d)))))))))))

/-- The columns' draw on values. -/
def bitsN (d : Nat) : Nat :=
  let p := tfN 2877103387 1697627890 2877103389 1697627893 3582179379 3582179380 3582179383 2877103392 d
  Nat.xor p.1 p.2

/-- The rows' draw on values, its low ten bits. -/
def intsN (d : Nat) : Nat :=
  let p := tfN 2352926074 781486348 2352926076 781486351 3111870380 3111870381 3111870384 2352926079 d
  Nat.mod (Nat.xor p.1 p.2) 1024

/-- At a row whose count is odd, the two columns that share the count's pair draw different keys. -/
def okRow (r : Nat) : Bool :=
  let k := intsN r
  (Nat.beq (Nat.mod k 2) 0) ||
    !(Nat.beq (Nat.shiftRight (bitsN (Nat.add (Nat.mul r 1024) (Nat.sub k 1))) 9)
        (Nat.shiftRight (bitsN (Nat.add (Nat.mul r 1024) k)) 9))

/-- `okRow` of the `2 ^ n` rows from `r` on. -/
def okRows (n : Nat) : Nat → Bool :=
  Nat.rec (fun r => okRow r) (fun n ih r => ih r && ih (Nat.add r (Nat.pow 2 n))) n

end Cert.NatTf

end
-- ==== Proof.Coll.lean ====
/- In every row whose count is odd, the entry at the count and the one before it draw different sort keys. -/
module

public import proofs.«01_k».proof.Proof.NatTf
public import proofs.«01_k».proof.Proof.Spec

@[expose] public section

noncomputable section

namespace Cert.Coll

open Idealize.ShloMosaic Cert.Tf Cert.NatTf

/-- The values of a pair of words. -/
def toN (p : BitVec 32 × BitVec 32) : Nat × Nat := (p.1.toNat, p.2.toNat)

theorem toN_rnd (r l : BitVec 32) (p : BitVec 32 × BitVec 32) : toN (rnd r l p) = rndN r.toNat l.toNat (toN p) := by
  have h1 : (p.1 + p.2).toNat = (p.1.toNat + p.2.toNat) % 4294967296 := BitVec.toNat_add _ _
  refine Prod.ext h1 ?_
  show ((p.2 <<< r ||| p.2 >>> l) ^^^ (p.1 + p.2)).toNat = _
  rw [BitVec.toNat_xor, BitVec.toNat_or, BitVec.shiftLeft_eq', BitVec.ushiftRight_eq', BitVec.toNat_shiftLeft, BitVec.toNat_ushiftRight, h1]
  rfl

theorem toN_inj (a b : BitVec 32) (p : BitVec 32 × BitVec 32) : toN (inj a b p) = injN a.toNat b.toNat (toN p) :=
  Prod.ext (BitVec.toNat_add _ _) (BitVec.toNat_add _ _)

theorem toN_quadA (p : BitVec 32 × BitVec 32) : toN (quadA p) = quadAN (toN p) := by
  unfold quadA quadAN
  rw [toN_rnd, toN_rnd, toN_rnd, toN_rnd]
  rfl

theorem toN_quadB (p : BitVec 32 × BitVec 32) : toN (quadB p) = quadBN (toN p) := by
  unfold quadB quadBN
  rw [toN_rnd, toN_rnd, toN_rnd, toN_rnd]
  rfl

/-- The generator's words' values, from the values of the key's words and of the counter. -/
theorem toN_tf (a b d : BitVec 32) : toN (tf a b 0#32 d) = tfN a.toNat b.toNat (a + 2#32).toNat (b + 3#32).toNat (k2 a b).toNat
    (k2 a b + 1#32).toNat (k2 a b + 4#32).toNat (a + 5#32).toNat d.toNat := by
  unfold tf tfN
  simp only [toN_inj, toN_quadA, toN_quadB]
  rfl

theorem draw_toNat (a b d : BitVec 32) : (draw a b 0#32 d).toNat = Nat.xor (toN (tf a b 0#32 d)).1 (toN (tf a b 0#32 d)).2 :=
  BitVec.toNat_xor _ _

theorem word_toNat (r : Fin 16384) (k : Fin 1024) : (Spec.word r k).toNat = bitsN (r.val * 1024 + k.val) := by
  have hr := r.isLt
  have hk := k.isLt
  have e2 : (2877103387#32 + 2#32 : BitVec 32).toNat = 2877103389 := by decide
  have e3 : (1697627890#32 + 3#32 : BitVec 32).toNat = 1697627893 := by decide
  have e4 : (k2 2877103387#32 1697627890#32).toNat = 3582179379 := by decide
  have e5 : (k2 2877103387#32 1697627890#32 + 1#32).toNat = 3582179380 := by decide
  have e6 : (k2 2877103387#32 1697627890#32 + 4#32).toNat = 3582179383 := by decide
  have e7 : (2877103387#32 + 5#32 : BitVec 32).toNat = 2877103392 := by decide
  have e8 : (BitVec.ofNat 32 (r.val * 1024 + k.val)).toNat = r.val * 1024 + k.val := by
    rw [BitVec.toNat_ofNat, Nat.mod_eq_of_lt (by omega)]
  have e0 : (2877103387#32 : BitVec 32).toNat = 2877103387 := by decide
  have e1 : (1697627890#32 : BitVec 32).toNat = 1697627890 := by decide
  unfold Spec.word bitsN
  rw [draw_toNat, toN_tf, e2, e3, e4, e5, e6, e7, e8, e0, e1]

theorem count_toNat (r : Fin 16384) : (Spec.count r).toNat = intsN r.val := by
  have hr := r.isLt
  have e2 : (2352926074#32 + 2#32 : BitVec 32).toNat = 2352926076 := by decide
  have e3 : (781486348#32 + 3#32 : BitVec 32).toNat = 781486351 := by decide
  have e4 : (k2 2352926074#32 781486348#32).toNat = 3111870380 := by decide
  have e5 : (k2 2352926074#32 781486348#32 + 1#32).toNat = 3111870381 := by decide
  have e6 : (k2 2352926074#32 781486348#32 + 4#32).toNat = 3111870384 := by decide
  have e7 : (2352926074#32 + 5#32 : BitVec 32).toNat = 2352926079 := by decide
  have e8 : (BitVec.ofNat 32 r.val).toNat = r.val := by
    rw [BitVec.toNat_ofNat, Nat.mod_eq_of_lt (by omega)]
  have e0 : (2352926074#32 : BitVec 32).toNat = 2352926074 := by decide
  have e1 : (781486348#32 : BitVec 32).toNat = 781486348 := by decide
  unfold Spec.count intsN
  rw [BitVec.toNat_umod, draw_toNat, toN_tf, e2, e3, e4, e5, e6, e7, e8, e0, e1]
  rfl

theorem okRows_row : ∀ (n r : Nat), okRows n r = true → ∀ d, d < 2 ^ n → okRow (r + d) = true
  | 0, r, h, d, hd => by
    obtain rfl : d = 0 := by omega
    exact h
  | n + 1, r, h, d, hd => by
    have h' : (okRows n r && okRows n (r + 2 ^ n)) = true := h
    rw [Bool.and_eq_true] at h'
    rw [Nat.pow_succ] at hd
    by_cases hd' : d < 2 ^ n
    · exact okRows_row n r h'.1 d hd'
    · have := okRows_row n (r + 2 ^ n) h'.2 (d - 2 ^ n) (by omega)
      rwa [show r + 2 ^ n + (d - 2 ^ n) = r + d by omega] at this

/-- The check over all the rows. -/
theorem all_rows : okRows 14 0 = true := by decide +kernel

/-- In every row whose count is odd, the entry at the count and the one before it draw different sort keys. -/
theorem distinct (r : Fin 16384) (i : Fin 1024) (hi : i.val = (Spec.count r).toNat) (a : Fin 1024) (ha : a.val + 1 = i.val)
    (ho : i.val % 2 = 1) : Spec.key r a ≠ Spec.key r i := by
  have h := okRows_row 14 0 all_rows r.val r.isLt
  rw [Nat.zero_add] at h
  have hk : intsN r.val = i.val := (count_toNat r).symm.trans hi.symm
  have h' : (Nat.beq (intsN r.val % 2) 0 || !(Nat.beq (bitsN (r.val * 1024 + (intsN r.val - 1)) >>> 9)
    (bitsN (r.val * 1024 + intsN r.val) >>> 9))) = true := h
  rw [hk, ho, show i.val - 1 = a.val by omega, ← word_toNat, ← word_toNat, Nat.shiftRight_eq_div_pow, Nat.shiftRight_eq_div_pow] at h'
  intro e
  have e' : (Spec.word r a).toNat / 2 ^ 9 = (Spec.word r i).toNat / 2 ^ 9 := e
  rw [e'] at h'
  have := Nat.beq_refl ((Spec.word r i).toNat / 2 ^ 9)
  rw [this] at h'
  exact absurd h' (by decide)

end Cert.Coll

end
-- ==== Proof.KGate.lean ====
/- The kernel's gate in a row: one at a logical position exactly where the entry is kept. -/
module

public import proofs.«01_k».proof.Proof.KBad
public import proofs.«01_k».proof.Proof.Coll

@[expose] public section

noncomputable section

namespace Cert.KGate

open Idealize.ShloMosaic Cert.KernelIdeal Cert.KernelIdeal.Gen Cert.Tf Cert.TfK Cert.SortRow Cert.KRow Cert.KBad

variable {F : FTy → Type} [FloatOps F] [Facts]

/-- A number below 1024 as a word. -/
theorem small_word (k : Fin 1024) : (BitVec.ofNat 32 k.val).toNat = k.val := by
  have := k.isLt
  rw [BitVec.toNat_ofNat, Nat.mod_eq_of_lt (by omega)]

/-- The sort word of an entry. -/
def wordOf (R : Fin 16384) (k : Fin 1024) : BitVec 32 := Word.sortWord (Spec.word R k) (BitVec.ofNat 32 k.val)

/-- The sort word of an entry, signed, is its packed key less a constant. -/
theorem wordOf_toInt (R : Fin 16384) (k : Fin 1024) : (wordOf R k).toInt = ((Order.pack (Spec.key R) k : Nat) : Int) - 2 ^ 31 := by
  have h := Word.sortWord_toInt (Spec.word R k) (BitVec.ofNat 32 k.val) (by rw [small_word]; exact k.isLt)
  rw [small_word] at h
  exact h

/-- Twice the low bits of the sort word. -/
theorem wordOf_low (R : Fin 16384) (k : Fin 1024) :
    ((wordOf R k &&& 511#32) <<< 1).toNat = 2 * (Order.pack (Spec.key R) k % 512) := by
  have h := Word.doubled (Spec.word R k) (BitVec.ofNat 32 k.val) (by rw [small_word]; exact k.isLt)
  rw [small_word] at h
  exact h

/-- Two entries' sort words agree exactly where their packed keys do. -/
theorem wordOf_eq (R : Fin 16384) (a b : Fin 1024) : wordOf R a = wordOf R b ↔ Order.pack (Spec.key R) a = Order.pack (Spec.key R) b := by
  rw [← BitVec.toInt_inj, wordOf_toInt, wordOf_toInt]
  omega

/-- A row of the block's sort words in the logical order. -/
theorem row_packed (i : grid0.Coords) (x0 : Vec F S256x1024 .f32) (r : Fin 256) (j : Fin (2 ^ 10)) :
    row (k0_pay151 i x0) r j = wordOf (arow i r) j := by
  unfold row
  rw [packed_at, logical_phys]
  rfl

/-- The sorted row: the entries' sort words, rearranged so that the packed keys ascend. -/
theorem row_final (i : grid0.Coords) (x0 : Vec F S256x1024 .f32) (r : Fin 256) :
    ∃ σ : Equiv.Perm (Fin (2 ^ 10)), Monotone (fun j => (wordOf (arow i r) (σ j)).toInt)
      ∧ ∀ j, row (k0_pay170 i x0) r j = wordOf (arow i r) (σ j) := by
  have hJ : ∀ j, row (k0_pay133 i x0) r j = BitVec.ofNat 32 j.val := fun j => by
    have h := logical_at r (phys j)
    rw [logical_phys] at h
    exact h
  obtain ⟨hm, σ, hσ⟩ := SortRow.sorted (k0_pay133 i x0) (k0_pay151 i x0) r hJ
  have hrow : ∀ j, row (k0_pay170 i x0) r j = wordOf (arow i r) (σ j) := fun j => by
    rw [SortK.sort_eq, hσ]
    exact row_packed i x0 r (σ j)
  refine ⟨σ, ?_, hrow⟩
  have e : (fun j => (wordOf (arow i r) (σ j)).toInt)
      = fun j => (row (SortK.sortV (k0_pay133 i x0) (k0_pay151 i x0)) r j).toInt := funext fun j => by
    rw [← hrow, SortK.sort_eq]
  rw [e]
  exact hm

/-- Whether the sorted word at a logical position passes the kernel's two tests: exactly where the entry is kept. -/
theorem test (R : Fin 16384) (σ : Equiv.Perm (Fin 1024)) (hσ : Monotone fun j => (wordOf R (σ j)).toInt) (j : Fin 1024) :
    (BitVec.slt ((wordOf R (σ j) &&& 511#32) <<< 1) (Spec.count R) && (wordOf R (σ j) != wordOf R (edge R))) = Spec.kept R j := by
  have hp : Monotone (Order.pack (Spec.key R) ∘ σ) := fun a b hab => by
    have h := hσ hab
    simp only [wordOf_toInt] at h
    show Order.pack (Spec.key R) (σ a) ≤ Order.pack (Spec.key R) (σ b)
    omega
  have hk := Order.keep (Spec.key R) (2 ^ 23) (fun a => Word.top_lt _) σ hp (edge R)
    (fun a ha ho => Coll.distinct R (edge R) rfl a ha ho) j
  have hl := wordOf_low R (σ j)
  have hc := Spec.count_lt R
  unfold Spec.kept
  rw [Word.slt_small _ _ (by rw [hl]; omega) (by omega), hl, Bool.eq_iff_iff, Bool.and_eq_true, bne_iff_ne, decide_eq_true_iff,
    decide_eq_true_iff, ne_eq, wordOf_eq]
  exact hk

/-- The kernel's gate before it is brought to the logical order. -/
def lanes (i : grid0.Coords) (x0 : Vec F S256x1024 .f32) : FVec F S256x1024 .f32 :=
  select (andi (cmpi .slt (shli (k0_pay171 i x0) (k0_pay172 i x0)) (broadcastTo S256x1024 (k0_pay150 i x0) broadcasts_S256x1_S256x1024))
      (cmpi .ne (k0_pay170 i x0) (broadcastTo S256x1024 (k0_pay152 i x0) broadcasts_S256x1_S256x1024)))
    (broadcast S256x1024 (Scalar.ofBits .f32 0x3F800000#32)) (broadcast S256x1024 (Scalar.ofBits .f32 0x00000000#32))

theorem low_at (i : grid0.Coords) (x0 : Vec F S256x1024 .f32) : k0_pay171 i x0 = andi (k0_pay170 i x0) (broadcast S256x1024 511#32) := by
  sl_kernel_rfl

theorem one_at (i : grid0.Coords) (x0 : Vec F S256x1024 .f32) : k0_pay172 i x0 = broadcast S256x1024 1#32 := rfl

/-- The kernel's gate at a logical position's lane: one where the entry is kept, else zero. -/
theorem lanes_at (i : grid0.Coords) (x0 : Vec F S256x1024 .f32) (r : Fin 256) (j : Fin 1024) :
    lanes i x0 (ij r (phys j)) = if Spec.kept (arow i r) j = true then (Scalar.ofBits .f32 0x3F800000#32 : F .f32) else Scalar.ofBits .f32 0x00000000#32 := by
  obtain ⟨σ, hm, hrow⟩ := row_final i x0 r
  have ht := test (arow i r) σ hm j
  have hF : k0_pay170 i x0 (ij r (phys j)) = wordOf (arow i r) (σ j) := hrow j
  have hs := shl_at (andi (k0_pay170 i x0) (broadcast S256x1024 511#32)) 1#32 (by decide) (ij r (phys j))
  have hs' : shli (k0_pay171 i x0) (k0_pay172 i x0) (ij r (phys j)) = (wordOf (arow i r) (σ j) &&& 511#32) <<< 1 := by
    rw [low_at, one_at, hs, ← hF]
    rfl
  have e : lanes i x0 (ij r (phys j)) = Scalar.select (IntOp.andi (BitVec.ofBool (BitVec.slt (shli (k0_pay171 i x0) (k0_pay172 i x0) (ij r (phys j)))
      (broadcastTo S256x1024 (k0_pay150 i x0) broadcasts_S256x1_S256x1024 (ij r (phys j)))))
    (BitVec.ofBool (k0_pay170 i x0 (ij r (phys j)) != broadcastTo S256x1024 (k0_pay152 i x0) broadcasts_S256x1_S256x1024 (ij r (phys j)))))
    (Scalar.ofBits .f32 0x3F800000#32 : F .f32) (Scalar.ofBits .f32 0x00000000#32) := rfl
  have hb := bad_at i x0 r
  rw [e, spread_at, spread_at, hs', hF, ints_at, hb]
  have ht' : IntOp.andi (BitVec.ofBool (BitVec.slt ((wordOf (arow i r) (σ j) &&& 511#32) <<< 1) (Spec.count (arow i r))))
    (BitVec.ofBool (wordOf (arow i r) (σ j) != wordOf (arow i r) (edge (arow i r)))) = BitVec.ofBool (Spec.kept (arow i r) j) := by
    rw [← ht]
    cases BitVec.slt ((wordOf (arow i r) (σ j) &&& 511#32) <<< 1) (Spec.count (arow i r)) <;>
      cases (wordOf (arow i r) (σ j) != wordOf (arow i r) (edge (arow i r))) <;> rfl
  refine (congrArg (fun c => Scalar.select c (Scalar.ofBits .f32 0x3F800000#32 : F .f32) (Scalar.ofBits .f32 0x00000000#32)) ht').trans ?_
  generalize Spec.kept (arow i r) j = b
  cases b <;> rfl

end Cert.KGate

end
-- ==== Proof.TfH.lean ====
/- The reference's generator: the equations a call of it leaves say that its two results are, at every index, the
   two words of the generator at the key and that index's counter. -/
module

public import proofs.«01_k».proof.Proof.Tf
public import proofs.«01_k».proof.Proof.RefLine

@[expose] public section

noncomputable section

namespace Cert.TfH

open Idealize.ShloMosaic Idealize.ShloMosaic.StableHlo Cert.ReferenceIdeal Cert.ReferenceIdeal.Gen Cert.Line Cert.RefLine Cert.Tf

section Steps

variable {s : Shape} {hb : S_.BroadcastsInDim s ![]}

/-- The index of a scalar. -/
def o : S_.Idx := fun a => a.elim0

theorem bc (x : IVec S_ 32) (j : s.Idx) : broadcastInDim s ![] hb x j = x o :=
  congrArg x (funext fun a => a.elim0)

/-- One round in the reference's operations. -/
theorem round {x0 x1 z sl sr lb rb ro y : IVec s 32} {cl cr : IVec S_ 32} {r l : BitVec 32}
    (e1 : y = xori z ro) (e2 : z = addi x0 x1) (e3 : ro = ori sl sr) (e4 : sl = Host.shli x1 lb)
    (e5 : sr = Host.shrui x1 rb) (e6 : lb = broadcastInDim s ![] hb cl) (e7 : rb = broadcastInDim s ![] hb cr)
    (e8 : cl = constantI S_ 32 r) (e9 : cr = constantI S_ 32 l) (hr : r.toNat < 32) (hl : l.toNat < 32)
    (j : s.Idx) {p : BitVec 32 × BitVec 32} (hp : (x0 j, x1 j) = p) : (z j, y j) = rnd r l p := by
  subst e1 e2 e3 e4 e5 e6 e7 e8 e9 hp
  show (_, _ ^^^ ((if r.toNat < 32 then _ else _) ||| (if l.toNat < 32 then _ else _))) = _
  rw [if_pos hr, if_pos hl]
  exact congrArg (Prod.mk _) (BitVec.xor_comm _ _)

/-- Adding the key words and a group's number. -/
theorem inject {x0 x1 y z t kb lb nb : IVec s 32} {k l c : IVec S_ 32} {n : BitVec 32}
    (e1 : y = addi x0 kb) (e2 : z = addi t nb) (e3 : t = addi x1 lb) (e4 : kb = broadcastInDim s ![] hb k)
    (e5 : lb = broadcastInDim s ![] hb l) (e6 : nb = broadcastInDim s ![] hb c) (e7 : c = constantI S_ 32 n)
    (j : s.Idx) {p : BitVec 32 × BitVec 32} (hp : (x0 j, x1 j) = p) : (y j, z j) = inj (k o) (l o + n) p := by
  subst e1 e2 e3 e4 e5 e6 e7 hp
  show (_ + _, _ + _ + _) = _
  rw [bc, bc, bc]
  exact congrArg (Prod.mk _) (BitVec.add_assoc _ _ _)

/-- Adding the first key words. -/
theorem start {x0 x1 y z kb lb : IVec s 32} {k l : IVec S_ 32}
    (e1 : y = addi x0 kb) (e2 : z = addi x1 lb) (e4 : kb = broadcastInDim s ![] hb k)
    (e5 : lb = broadcastInDim s ![] hb l) (j : s.Idx) : (y j, z j) = inj (k o) (l o) (x0 j, x1 j) := by
  subst e1 e2 e4 e5
  show (_ + _, _ + _) = _
  rw [bc, bc]; rfl

theorem third {k l kl c y : IVec S_ 32} (e1 : y = xori kl c) (e2 : kl = xori k l)
    (e3 : c = constantI S_ 32 466688986#32) : y o = k2 (k o) (l o) := by
  subst e1 e2 e3; rfl

end Steps

variable {F : FTy → Type} [FloatOps F] [Facts]
variable (W : Valuation τ sig (Elt F)) (a0 a1 : TRef sig ⟨S_, .i32⟩)

set_option maxHeartbeats 4000000 in
/-- The generator on two counters. -/
theorem tfA_at (a2 a3 : TRef sig ⟨S2, .i32⟩) (φ : fn_threefry2x32.Bufs) (h : (tfA a0 a1 a2 a3 φ).eqs W) (j : S2.Idx) :
    ((val W φ.v171 : IVec S2 32) j, (val W φ.v175 : IVec S2 32) j)
      = tf ((val W a0 : IVec S_ 32) o) ((val W a1 : IVec S_ 32) o) ((val W a2 : IVec S2 32) j) ((val W a3 : IVec S2 32) j) := by
  obtain ⟨h0, h1, h2, h3⟩ := h
  repeat obtain ⟨_, h0⟩ := h0
  repeat obtain ⟨_, h1⟩ := h1
  repeat obtain ⟨_, h2⟩ := h2
  repeat obtain ⟨_, h3⟩ := h3
  have hk : (val W φ.v1 : IVec S_ 32) o = k2 ((val W a0 : IVec S_ 32) o) ((val W a1 : IVec S_ 32) o) :=
    third (by assumption) (by assumption) (by assumption)
  rw [tf, ← hk, quadA, quadA, quadA, quadB, quadB]
  repeat
    first
      | exact start (by assumption) (by assumption) (by assumption) (by assumption) j
      | refine round (by assumption) (by assumption) (by assumption) (by assumption) (by assumption) (by assumption)
          (by assumption) (by assumption) (by assumption) (by decide) (by decide) j ?_
      | refine inject (by assumption) (by assumption) (by assumption) (by assumption) (by assumption) (by assumption)
          (by assumption) j ?_

set_option maxHeartbeats 4000000 in
/-- The generator on one counter per row. -/
theorem tfB_at (a2 a3 : TRef sig ⟨S16384, .i32⟩) (φ : fn_threefry2x32_2.Bufs) (h : (tfB a0 a1 a2 a3 φ).eqs W) (j : S16384.Idx) :
    ((val W φ.v171 : IVec S16384 32) j, (val W φ.v175 : IVec S16384 32) j)
      = tf ((val W a0 : IVec S_ 32) o) ((val W a1 : IVec S_ 32) o) ((val W a2 : IVec S16384 32) j) ((val W a3 : IVec S16384 32) j) := by
  obtain ⟨h0, h1, h2, h3⟩ := h
  repeat obtain ⟨_, h0⟩ := h0
  repeat obtain ⟨_, h1⟩ := h1
  repeat obtain ⟨_, h2⟩ := h2
  repeat obtain ⟨_, h3⟩ := h3
  have hk : (val W φ.v1 : IVec S_ 32) o = k2 ((val W a0 : IVec S_ 32) o) ((val W a1 : IVec S_ 32) o) :=
    third (by assumption) (by assumption) (by assumption)
  rw [tf, ← hk, quadA, quadA, quadA, quadB, quadB]
  repeat
    first
      | exact start (by assumption) (by assumption) (by assumption) (by assumption) j
      | refine round (by assumption) (by assumption) (by assumption) (by assumption) (by assumption) (by assumption)
          (by assumption) (by assumption) (by assumption) (by decide) (by decide) j ?_
      | refine inject (by assumption) (by assumption) (by assumption) (by assumption) (by assumption) (by assumption)
          (by assumption) j ?_

set_option maxHeartbeats 4000000 in
/-- The generator on one counter per row and column. -/
theorem tfC_at (a2 a3 : TRef sig ⟨S16384x1024, .i32⟩) (φ : fn_threefry2x32_3.Bufs) (h : (tfC a0 a1 a2 a3 φ).eqs W) (j : S16384x1024.Idx) :
    ((val W φ.v171 : IVec S16384x1024 32) j, (val W φ.v175 : IVec S16384x1024 32) j)
      = tf ((val W a0 : IVec S_ 32) o) ((val W a1 : IVec S_ 32) o) ((val W a2 : IVec S16384x1024 32) j) ((val W a3 : IVec S16384x1024 32) j) := by
  obtain ⟨h0, h1, h2, h3⟩ := h
  repeat obtain ⟨_, h0⟩ := h0
  repeat obtain ⟨_, h1⟩ := h1
  repeat obtain ⟨_, h2⟩ := h2
  repeat obtain ⟨_, h3⟩ := h3
  have hk : (val W φ.v1 : IVec S_ 32) o = k2 ((val W a0 : IVec S_ 32) o) ((val W a1 : IVec S_ 32) o) :=
    third (by assumption) (by assumption) (by assumption)
  rw [tf, ← hk, quadA, quadA, quadA, quadB, quadB]
  repeat
    first
      | exact start (by assumption) (by assumption) (by assumption) (by assumption) j
      | refine round (by assumption) (by assumption) (by assumption) (by assumption) (by assumption) (by assumption)
          (by assumption) (by assumption) (by assumption) (by decide) (by decide) j ?_
      | refine inject (by assumption) (by assumption) (by assumption) (by assumption) (by assumption) (by assumption)
          (by assumption) j ?_

end Cert.TfH

end
-- ==== Proof.RefInt.lean ====
/- The integer part of the reference: a key's split, the bounded integers it draws per row, and the words it
   draws per row and column, each as the generator's words. -/
module

public import proofs.«01_k».proof.Proof.TfH
public import Idealize.ShloMosaic.Lib.Pointwise.Index
public import Idealize.ShloMosaic.Lib.Pointwise.SelectCore

@[expose] public section

noncomputable section

namespace Cert.RefInt

open Idealize.ShloMosaic Idealize.ShloMosaic.StableHlo Cert.ReferenceIdeal Cert.ReferenceIdeal.Gen Cert.Line Cert.RefLine Cert.Tf
open Cert.TfH

section Facts

variable {α : Type}

theorem cast1 (x : S1.Idx → α) (h : S1.ShapeCasts S_) : shapeCast S_ x h o = x (ix1 0) :=
  congrArg x (funext fun a => by match a with | ⟨0, _⟩ => exact Subsingleton.elim (α := Fin 1) _ _)

theorem slice2 (x : S2.Idx → α) (k : Fin 2) (h : S2.Slices ![k.val] S1) :
    extractStridedSlice S1 ![k.val] x h (ix1 0) = x (ix1 k) :=
  congrArg x (funext fun a => by match a with | ⟨0, _⟩ => rfl)

/-- One word of a key. -/
theorem word {x : S2.Idx → α} {v : S1.Idx → α} {u : S_.Idx → α} (k : Fin 2) {h : S2.Slices ![k.val] S1}
    {h' : S1.ShapeCasts S_} (e1 : v = extractStridedSlice S1 ![k.val] x h) (e2 : u = shapeCast S_ v h') :
    u o = x (ix1 k) := by
  subst e1 e2; exact (cast1 _ _).trans (slice2 x k h)

/-- One key of a pair of keys. -/
theorem keyRow {x : S2x2.Idx → α} {v : S1x2.Idx → α} {u : S2.Idx → α} (i : Fin 2) {h : S2x2.Slices ![i.val, 0] S1x2}
    {h' : S1x2.ShapeCasts S2} (e1 : v = extractStridedSlice S1x2 ![i.val, 0] x h) (e2 : u = shapeCast S2 v h')
    (k : Fin 2) : u (ix1 k) = x (ix2 i k) := by
  subst e1 e2
  have : shapeCast S2 (extractStridedSlice S1x2 ![i.val, 0] x h) h' (ix1 k)
      = extractStridedSlice S1x2 ![i.val, 0] x h (ix2 0 k) := by
    refine congrArg _ (Shape.reshapeEquiv_eq_of_rowMajor h' ?_)
    rw [Shape.rowMajor_val_two, Shape.rowMajor_val_one]
    show 0 * 2 + k.val = k.val
    omega
  rw [this]
  exact congrArg x (funext fun a => by
    match a with
    | ⟨0, _⟩ => rfl
    | ⟨1, _⟩ => exact Fin.ext (Nat.zero_add _))

theorem bc64 {s : Shape} {hb : S_.BroadcastsInDim s ![]} {w : Nat} (c : BitVec w) :
    broadcastInDim s ![] hb (constantI S_ w c) = fun _ => c := rfl

theorem lo_word {n : Nat} (h : n < 2 ^ 32) : (1#64 * BitVec.ofNat 64 n).setWidth 32 = BitVec.ofNat 32 n := by
  apply BitVec.eq_of_toNat_eq
  simp only [BitVec.toNat_setWidth, BitVec.one_mul, BitVec.toNat_ofNat]
  omega

theorem hi_word {n : Nat} (h : n < 2 ^ 32) (x : BitVec 64) (hx : x.toNat = n) :
    (IntOp.shrui .host x 32#64).setWidth 32 = 0#32 := by
  apply BitVec.eq_of_toNat_eq
  show (BitVec.setWidth 32 (if (32#64 : BitVec 64).toNat < 64 then _ else _)).toNat = _
  rw [if_pos (by decide)]
  show (BitVec.setWidth 32 (x >>> 32)).toNat = _
  rw [BitVec.toNat_setWidth, BitVec.toNat_ushiftRight, hx, Nat.shiftRight_eq_div_pow, Nat.div_eq_of_lt h]
  rfl

/-- The two words of a counter that counts one axis. -/
theorem counter {n : Nat} (hn : n < 2 ^ 32) {v4 v5 v6 v7 v8 : IVec ⟨1, ![n]⟩ 64} {v9 v10 : IVec ⟨1, ![n]⟩ 32} {c c0 : IVec S_ 64}
    {hb : S_.BroadcastsInDim ⟨1, ![n]⟩ ![]} {hw : 32 < 64}
    (e4 : v4 = iotaInDim ⟨1, ![n]⟩ 64 0) (ec : c = constantI S_ 64 1#64)
    (e5 : v5 = broadcastInDim ⟨1, ![n]⟩ ![] hb c) (e6 : v6 = muli v5 v4) (ec0 : c0 = constantI S_ 64 32#64)
    (e7 : v7 = broadcastInDim ⟨1, ![n]⟩ ![] hb c0) (e8 : v8 = Host.shrui v6 v7) (e9 : v9 = trunci 32 v6 hw)
    (e10 : v10 = trunci 32 v8 hw) (i : Fin n) : v9 (ix1 i) = BitVec.ofNat 32 i.val ∧ v10 (ix1 i) = 0#32 := by
  subst e4 ec e5 e6 ec0 e7 e8 e9 e10
  have hi : i.val < 2 ^ 32 := i.isLt.trans hn
  refine ⟨lo_word hi, hi_word hi _ ?_⟩
  show (1#64 * BitVec.ofNat 64 i.val).toNat = i.val
  rw [BitVec.one_mul, BitVec.toNat_ofNat]
  exact Nat.mod_eq_of_lt (by omega)

/-- Two columns side by side. -/
theorem columns {x y : IVec S2 32} {v12 v13 : IVec S2x1 32} {v14 : IVec S2x2 32} {hb : S2.BroadcastsInDim S2x1 ![0]}
    {hc : Shape.Concatenates [S2x1, S2x1] S2x2 1}
    (e12 : v12 = broadcastInDim S2x1 ![0] hb x) (e13 : v13 = broadcastInDim S2x1 ![0] hb y)
    (e14 : v14 = concatenate S2x2 1 [⟨S2x1, v12⟩, ⟨S2x1, v13⟩] hc) (i : Fin 2) :
    v14 (ix2 i 0) = x (ix1 i) ∧ v14 (ix2 i 1) = y (ix1 i) := by
  subst e12 e13 e14
  constructor
  · rw [concatenate_pair_apply]
    refine (dif_pos (show 0 < 1 by decide)).trans ?_
    exact congrArg x (funext fun a => by match a with | ⟨0, _⟩ => rfl)
  · rw [concatenate_pair_apply]
    refine (dif_neg (show ¬ 1 < 1 by decide)).trans ?_
    exact congrArg y (funext fun a => by match a with | ⟨0, _⟩ => rfl)

end Facts

variable {F : FTy → Type} [FloatOps F] [Cert.ReferenceIdeal.Facts]
variable (W : Valuation τ sig (Elt F))

/-- A key's split: two keys, the generator's words at the counters 0 and 1. -/
theorem splitA_at (a0 : TRef sig ⟨S2, .i32⟩) (φ : fn_threefry_split.Bufs) (h : (splitA a0 φ).eqs W) (i : Fin 2) :
    ((val W φ.v14 : IVec S2x2 32) (ix2 i 0), (val W φ.v14 : IVec S2x2 32) (ix2 i 1))
      = tf ((val W a0 : IVec S2 32) (ix1 0)) ((val W a0 : IVec S2 32) (ix1 1)) 0#32 (BitVec.ofNat 32 i.val) := by
  obtain ⟨e0, e1, e2, e3, e4, ec, e5, e6, ec0, e7, e8, e9, e10, ecall, e12, e13, e14, -⟩ := h
  have hc := counter (n := 2) (by decide) e4 ec e5 e6 ec0 e7 e8 e9 e10 i
  have ht := tfA_at W φ.v1 φ.v3 φ.v10 φ.v9 φ.call0 ecall (ix1 i)
  have h14 := columns e12 e13 e14 i
  rw [h14.1, h14.2, ht, hc.1, hc.2]
  congr 1
  · exact word 0 e0 e1
  · exact word 1 e2 e3

/-- The second key's split. -/
theorem splitB_at (a0 : TRef sig ⟨S2, .i32⟩) (φ : fn_threefry_split_1.Bufs) (h : (splitB a0 φ).eqs W) (i : Fin 2) :
    ((val W φ.v14 : IVec S2x2 32) (ix2 i 0), (val W φ.v14 : IVec S2x2 32) (ix2 i 1))
      = tf ((val W a0 : IVec S2 32) (ix1 0)) ((val W a0 : IVec S2 32) (ix1 1)) 0#32 (BitVec.ofNat 32 i.val) := by
  obtain ⟨e0, e1, e2, e3, e4, ec, e5, e6, ec0, e7, e8, e9, e10, ecall, e12, e13, e14, -⟩ := h
  have hc := counter (n := 2) (by decide) e4 ec e5 e6 ec0 e7 e8 e9 e10 i
  have ht := tfA_at W φ.v1 φ.v3 φ.v10 φ.v9 φ.call0 ecall (ix1 i)
  have h14 := columns e12 e13 e14 i
  rw [h14.1, h14.2, ht, hc.1, hc.2]
  congr 1
  · exact word 0 e0 e1
  · exact word 1 e2 e3

end Cert.RefInt

end
-- ==== Proof.RefUnif.lean ====
/- The uniform draws of the reference: from random words to numbers of the unit interval. -/
module

public import proofs.«01_k».proof.Proof.RefInt
public import proofs.«01_k».proof.Proof.Word

@[expose] public section

noncomputable section

namespace Cert.RefUnif

open Idealize.ShloMosaic Idealize.ShloMosaic.StableHlo Cert.ReferenceIdeal Cert.ReferenceIdeal.Gen Cert.Line Cert.RefLine Cert.Tf
open Cert.TfH Cert.RefInt

section Words

variable {F : FTy → Type} [FloatOps F] [Cert.ReferenceIdeal.Facts]
variable (W : Valuation τ sig (Elt F))

theorem num_toNat (r : Fin 16384) (c : Fin 1024) :
    (1024#64 * BitVec.ofNat 64 r.val + 1#64 * BitVec.ofNat 64 c.val).toNat = r.val * 1024 + c.val := by
  have := r.isLt
  have := c.isLt
  simp only [BitVec.toNat_add, BitVec.toNat_mul, BitVec.toNat_ofNat]
  omega

/-- The number of an entry as two words: its own value, and zero. -/
theorem counter2 {v8 v9 v10 v11 v12 v13 v14 v15 v16 : IVec S16384x1024 64} {v17 v18 : IVec S16384x1024 32} {c c0 c1 : IVec S_ 64}
    {hb : S_.BroadcastsInDim S16384x1024 ![]} {hw : 32 < 64}
    (e8 : v8 = iotaInDim S16384x1024 64 0) (e9 : v9 = iotaInDim S16384x1024 64 1) (ec : c = constantI S_ 64 1024#64)
    (e10 : v10 = broadcastInDim S16384x1024 ![] hb c) (e11 : v11 = muli v10 v8) (ec0 : c0 = constantI S_ 64 1#64)
    (e12 : v12 = broadcastInDim S16384x1024 ![] hb c0) (e13 : v13 = muli v12 v9) (e14 : v14 = addi v11 v13)
    (ec1 : c1 = constantI S_ 64 32#64) (e15 : v15 = broadcastInDim S16384x1024 ![] hb c1) (e16 : v16 = Host.shrui v14 v15)
    (e17 : v17 = trunci 32 v14 hw) (e18 : v18 = trunci 32 v16 hw) (r : Fin 16384) (k : Fin 1024) :
    v17 (ix2 r k) = BitVec.ofNat 32 (r.val * 1024 + k.val) ∧ v18 (ix2 r k) = 0#32 := by
  subst e8 e9 ec e10 e11 ec0 e12 e13 e14 ec1 e15 e16 e17 e18
  have hn := num_toNat r k
  have h1 := r.isLt
  have h2 := k.isLt
  refine ⟨?_, hi_word (n := r.val * 1024 + k.val) (by omega) _ hn⟩
  apply BitVec.eq_of_toNat_eq
  show (BitVec.setWidth 32 (1024#64 * BitVec.ofNat 64 r.val + 1#64 * BitVec.ofNat 64 k.val)).toNat = _
  rw [BitVec.toNat_setWidth, hn, BitVec.toNat_ofNat]

/-- The random word behind an entry's uniform draw. -/
theorem word_at (a0 : TRef sig ⟨S2, .i32⟩) (a1 a2 : TRef sig ⟨S_, .f32⟩) (φ : fn_uniform.Bufs) (h : (unif a0 a1 a2 φ).eqs W)
    (r : Fin 16384) (k : Fin 1024) :
    (val W φ.v20 : IVec S16384x1024 32) (ix2 r k) =
      draw ((val W a0 : IVec S2 32) (ix1 0)) ((val W a0 : IVec S2 32) (ix1 1)) 0#32 (BitVec.ofNat 32 (r.val * 1024 + k.val)) := by
  obtain ⟨e0, e1, e2, e3, e4, e5, e6, e7, e8, e9, ec, e10, e11, ec0, e12, e13, e14, ec1, e15, e16, e17, e18, et, e20, -⟩ := h
  have hc := counter2 e8 e9 ec e10 e11 ec0 e12 e13 e14 ec1 e15 e16 e17 e18 r k
  have ht := tfC_at W φ.v5 φ.v7 φ.v18 φ.v17 φ.call0 et (ix2 r k)
  have k0 := word 0 e4 e5
  have k1 := word 1 e6 e7
  rw [hc.1, hc.2, k0, k1] at ht
  rw [e20]
  have q1 := congrArg Prod.fst ht
  have q2 := congrArg Prod.snd ht
  dsimp only at q1 q2
  show _ ^^^ _ = draw _ _ _ _
  rw [q1, q2]
  rfl

end Words

section Reals

variable [Cert.ReferenceIdeal.Facts]
variable (W : Valuation τ sig (Elt Ideal))

/-- The unit-interval number of a random word: its top 23 bits over `2 ^ 23`. -/
def unit (b : BitVec 32) : EReal := (((Word.top b : ℝ) / 2 ^ 23 : ℝ) : EReal)

theorem unit_lt (a b : BitVec 32) : unit a < unit b ↔ Word.top a < Word.top b := by
  unfold unit
  rw [EReal.coe_lt_coe_iff, div_lt_div_iff_of_pos_right (by norm_num), Nat.cast_lt]

/-- One and zero as patterns. -/
theorem one_pattern : Ideal.ofBits .f32 1065353216#32 = 1 := by
  rw [Word.pattern_real _ 0 (by norm_num) (by decide)]
  norm_num

theorem zero_pattern : Ideal.ofBits .f32 0#32 = 0 := by
  show Ideal.ieee 8 23 (0#32 : BitVec 32) = _
  unfold Ideal.ieee
  norm_num

/-- Subtracting one from the pattern's number, scaling by one less zero and clamping at zero leave the fraction. -/
theorem unit_of_pattern (b : BitVec 32) :
    max (0 : EReal) ((Ideal.ofBits .f32 ((b >>> 9) ||| 1065353216#32) - 1) * (1 - 0) + 0) = unit b := by
  rw [Word.pattern_real _ _ (Word.top_lt b) (Word.pattern_toNat b), sub_zero, mul_one, add_zero,
    show (1 : EReal) = ((1 : ℝ) : EReal) from rfl, ← EReal.coe_sub, show (1 + (Word.top b : ℝ) / 2 ^ 23 - 1 : ℝ) = (Word.top b : ℝ) / 2 ^ 23 by ring]
  exact max_eq_right (EReal.coe_nonneg.mpr (by positivity))

/-- The uniform draw at an entry is the unit-interval number of the entry's random word. -/
theorem unif_at (a0 : TRef sig ⟨S2, .i32⟩) (a1 a2 : TRef sig ⟨S_, .f32⟩) (φ : fn_uniform.Bufs) (h : (unif a0 a1 a2 φ).eqs W)
    (h1 : val W a1 = (constant S_ .f32 0#32 : FVec Ideal S_ .f32))
    (h2 : val W a2 = (constant S_ .f32 1065353216#32 : FVec Ideal S_ .f32)) (j : S16384x1024.Idx) :
    (val W φ.v34 : FVec Ideal S16384x1024 .f32) j = unit ((val W φ.v20 : IVec S16384x1024 32) j) := by
  obtain ⟨e0, e1, e2, e3, e4, e5, e6, e7, e8, e9, ec, e10, e11, ec0, e12, e13, e14, ec1, e15, e16, e17, e18, et, e20,
    ec2, e21, e22, ec3, e23, e24, e25, ecst, e26, e27, e28, e29, e30, e31, e32, e33, e34, -⟩ := h
  have g2 : ∀ i, (val W φ.v2 : FVec Ideal S1x1 .f32) i = 0 := fun i => by
    rw [e2, e0, h1]; exact zero_pattern
  have g3 : ∀ i, (val W φ.v3 : FVec Ideal S1x1 .f32) i = 1 := fun i => by
    rw [e3, e1, h2]; exact one_pattern
  have g22 : (val W φ.v22 : IVec S16384x1024 32) j = (val W φ.v20 : IVec S16384x1024 32) j >>> 9 := by
    rw [e22, e21, ec2]; rfl
  have g25 : (val W φ.v25 : FVec Ideal S16384x1024 .f32) j
      = Ideal.ofBits .f32 (((val W φ.v20 : IVec S16384x1024 32) j >>> 9) ||| 1065353216#32) := by
    rw [e25, e24, e23, ec3, ← g22]; rfl
  have g27 : (val W φ.v27 : FVec Ideal S16384x1024 .f32) j = (val W φ.v25 : FVec Ideal S16384x1024 .f32) j - 1 := by
    rw [e27, e26, ecst, ← one_pattern]; rfl
  have g29 : (val W φ.v29 : FVec Ideal S16384x1024 .f32) j = 1 - 0 := by
    rw [e29, e28]
    exact congrArg₂ (fun a b : EReal => a - b) (g3 _) (g2 _)
  have g31 : (val W φ.v31 : FVec Ideal S16384x1024 .f32) j = 0 := by
    rw [e31]; exact g2 _
  have g33 : (val W φ.v33 : FVec Ideal S16384x1024 .f32) j = 0 := by
    rw [e33]; exact g2 _
  rw [e34, e32, e30]
  refine Eq.trans (b := max ((val W φ.v33 : FVec Ideal S16384x1024 .f32) j)
    ((val W φ.v27 : FVec Ideal S16384x1024 .f32) j * (val W φ.v29 : FVec Ideal S16384x1024 .f32) j
      + (val W φ.v31 : FVec Ideal S16384x1024 .f32) j)) rfl ?_
  rw [g33, g27, g29, g31, g25]
  exact unit_of_pattern _

end Reals

end Cert.RefUnif

end
-- ==== Proof.KOut.lean ====
/- What the kernel leaves in an output block: the gated entries, then the gate. -/
module

public import proofs.«01_k».proof.Proof.KGate
public import proofs.«01_k».proof.Proof.RefUnif
public import Idealize.ShloMosaic.Lib.Pipeline.ValueKit

@[expose] public section

set_option maxRecDepth 16384

noncomputable section

namespace Cert.KOut

open Idealize.ShloMosaic Cert.KernelIdeal Cert.KernelIdeal.Gen Cert.SortRow Cert.KRow Cert.KBad Cert.KGate

variable [Cert.KernelIdeal.Facts]

/-- Undoing the lane order: the element at a logical position is the one in its lane. -/
theorem unroll_at {α : Type} (x : S256x1024.Idx → α) (h1 : S256x1024.ShapeCasts S256x8x128) (h2 : S256x8x128.Transposes [0, 2, 1] S256x128x8)
    (h3 : S256x128x8.ShapeCasts S256x1024) (r : Fin 256) (j : Fin 1024) :
    shapeCast S256x1024 (transpose S256x128x8 [0, 2, 1] (shapeCast S256x8x128 x h1) h2) h3 (ix2 r j) = x (ij r (phys j)) := by
  have hj := j.isLt
  have e3 : shapeCast S256x1024 (transpose S256x128x8 [0, 2, 1] (shapeCast S256x8x128 x h1) h2) h3 (ix2 r j)
      = transpose S256x128x8 [0, 2, 1] (shapeCast S256x8x128 x h1) h2 (ix3 r ⟨j.val / 8, by omega⟩ ⟨j.val % 8, by omega⟩) := by
    refine shapeCast_apply _ h3 _ _ ?_
    rw [Shape.rowMajor_val_three, Shape.rowMajor_val_two]
    show (r.val * 128 + j.val / 8) * 8 + j.val % 8 = r.val * 1024 + j.val
    omega
  have e2 : transpose S256x128x8 [0, 2, 1] (shapeCast S256x8x128 x h1) h2 (ix3 r ⟨j.val / 8, by omega⟩ ⟨j.val % 8, by omega⟩)
      = shapeCast S256x8x128 x h1 (ix3 r ⟨j.val % 8, by omega⟩ ⟨j.val / 8, by omega⟩) := by
    refine transpose_apply [0, 2, 1] _ h2 _ _ fun b => ?_
    match b with
    | ⟨0, _⟩ => rfl
    | ⟨1, _⟩ => rfl
    | ⟨2, _⟩ => rfl
  have e1 : shapeCast S256x8x128 x h1 (ix3 r ⟨j.val % 8, by omega⟩ ⟨j.val / 8, by omega⟩) = x (ij r (phys j)) := by
    refine shapeCast_apply _ h1 _ _ ?_
    rw [Shape.rowMajor_val_three, Shape.rowMajor_val_two]
    show r.val * 1024 + (j.val % 8 * 128 + j.val / 8) = (r.val * 8 + j.val % 8) * 128 + j.val / 8
    omega
  rw [e3, e2, e1]

/-- The kernel's gate in the logical order. -/
theorem gate_at (i : grid0.Coords) (x0 : Vec Ideal S256x1024 .f32) (r : Fin 256) (j : Fin 1024) :
    k0_pay1 (F := Ideal) (k0_pay150 i x0) (k0_pay152 i x0) (k0_pay170 i x0) (k0_pay171 i x0) (k0_pay172 i x0) (ix2 r j)
      = Spec.gate (arow i r) j := by
  have e : k0_pay1 (F := Ideal) (k0_pay150 i x0) (k0_pay152 i x0) (k0_pay170 i x0) (k0_pay171 i x0) (k0_pay172 i x0)
    = shapeCast S256x1024 (transpose S256x128x8 [0, 2, 1] (shapeCast S256x8x128 (lanes i x0) shapeCasts_S256x1024_S256x8x128)
      transposes_S256x8x128_p0_2_1_S256x128x8) shapeCasts_S256x128x8_S256x1024 := rfl
  rw [e, unroll_at, lanes_at]
  have h1 : (Scalar.ofBits .f32 0x3F800000#32 : Ideal .f32) = (1 : EReal) := RefUnif.one_pattern
  have h0 : (Scalar.ofBits .f32 0x00000000#32 : Ideal .f32) = (0 : EReal) := RefUnif.zero_pattern
  rw [h1, h0]
  rfl

/-- The gated entries. -/
theorem gated_at (i : grid0.Coords) (x0 v : Vec Ideal S256x1024 .f32) (r : Fin 256) (j : Fin 1024) :
    k0_pay2 (F := Ideal) (k0_pay150 i x0) (k0_pay152 i x0) (k0_pay170 i x0) (k0_pay171 i x0) (k0_pay172 i x0) v (ix2 r j)
      = Spec.times (v (ix2 r j)) (Spec.gate (arow i r) j) := by
  rw [← gate_at i x0 r j]
  rfl

/-- The output block, entry by entry. -/
def block (i : grid0.Coords) (x0 : Vec Ideal S256x1024 .f32) (r : Fin 256) (q : Fin 2048) : EReal :=
  if h : q.val < 1024 then Spec.times (x0 (ix2 r ⟨q.val, h⟩)) (Spec.gate (arow i r) ⟨q.val, h⟩)
    else Spec.gate (arow i r) ⟨q.val - 1024, by have := q.isLt; omega⟩

/-- The output block in its left half. -/
theorem block_left (i : grid0.Coords) (x0 : Vec Ideal S256x1024 .f32) (r : Fin 256) (j : Fin 1024) (q : Fin 2048) (hq : q.val = j.val) :
    block i x0 r q = Spec.times (x0 (ix2 r j)) (Spec.gate (arow i r) j) := by
  obtain ⟨q, hlt⟩ := q
  obtain rfl : q = j.val := hq
  exact dif_pos j.isLt

/-- The output block in its right half. -/
theorem block_right (i : grid0.Coords) (x0 : Vec Ideal S256x1024 .f32) (r : Fin 256) (j : Fin 1024) (q : Fin 2048)
    (hq : q.val = 1024 + j.val) : block i x0 r q = Spec.gate (arow i r) j := by
  obtain ⟨q, hlt⟩ := q
  obtain rfl : q = 1024 + j.val := hq
  refine (dif_neg (show ¬ 1024 + j.val < 1024 by omega)).trans ?_
  exact congrArg (Spec.gate (arow i r)) (Fin.ext (Nat.add_sub_cancel_left 1024 j.val))

/-- What the body leaves in its output block. -/
theorem out_at (i : grid0.Coords) (x0 : Vec Ideal S256x1024 .f32) (y : S256x2048.Idx) :
    out0_1 (F := Ideal) i x0 y = block i x0 (y 0) (y 1) := by
  unfold out0_1
  canon_tiles x h
  · have e0 : y 0 = x 0 := Fin.ext h0
    rw [block_right i x0 (y 0) (x 1) (y 1) h1, e0]
    exact (congrArg _ (eq_ix2 x)).trans (gate_at i x0 (x 0) (x 1))
  · have e0 : y 0 = x 0 := Fin.ext h0
    rw [block_left i x0 (y 0) (x 1) (y 1) h1, e0]
    have hl : View.ld x0 r0_0 = x0 := View.ld_unit_lit _ _ (by decide)
    rw [hl]
    exact (congrArg _ (eq_ix2 x)).trans (gated_at i x0 x0 (x 0) (x 1))

end Cert.KOut

end
-- ==== Proof.KVal.lean ====
/- The array the kernel leaves, as one function of its argument. -/
module

public import proofs.«01_k».proof.Proof.Gen.KernelIdeal.Value
public import proofs.«01_k».proof.Proof.KOut

@[expose] public section

set_option maxRecDepth 16384

noncomputable section

namespace Cert.KVal

open Idealize.ShloMosaic Idealize.ShloMosaic.TcCoe Idealize.SL.Sem Cert.KernelIdeal Cert.KernelIdeal.Gen

variable [Cert.KernelIdeal.Facts]

/-- The result of the gate on an array: the gated entries, then the gate. -/
def result (a : Vec Ideal S16384x1024 .f32) : Vec Ideal S16384x2048 .f32 := fun i =>
  if h : (i 1).val < 1024 then Spec.times (a (ix2 (i 0) ⟨(i 1).val, h⟩)) (Spec.gate (i 0) ⟨(i 1).val, h⟩)
    else Spec.gate (i 0) ⟨(i 1).val - 1024, by have : (i 1).val < 2048 := (i 1).isLt; omega⟩

/-- The result in its left half. -/
theorem result_left (a : Vec Ideal S16384x1024 .f32) (R : Fin 16384) (j : Fin 1024) (q : Fin 2048) (hq : q.val = j.val) :
    result a (ix2 R q) = Spec.times (a (ix2 R j)) (Spec.gate R j) := by
  obtain ⟨q, hlt⟩ := q
  obtain rfl : q = j.val := hq
  exact dif_pos j.isLt

/-- The result in its right half. -/
theorem result_right (a : Vec Ideal S16384x1024 .f32) (R : Fin 16384) (j : Fin 1024) (q : Fin 2048) (hq : q.val = 1024 + j.val) :
    result a (ix2 R q) = Spec.gate R j := by
  obtain ⟨q, hlt⟩ := q
  obtain rfl : q = 1024 + j.val := hq
  refine (dif_neg (show ¬ 1024 + j.val < 1024 by omega)).trans ?_
  exact congrArg (Spec.gate R) (Fin.ext (Nat.add_sub_cancel_left 1024 j.val))

/-- The windows' blocks: the grid point's rows, all the columns. -/
theorem points : ∀ t : Fin grid0.N, win0_0.index t = ![(grid0.coords t 0).val, 0] ∧ win0_1.index t = ![(grid0.coords t 0).val, 0] := by
  decide +kernel

/-- An output block is the result's, entry by entry, when the input block is the argument's. -/
theorem block_result (i : grid0.Coords) (x0 : Vec Ideal S256x1024 .f32) (a : Vec Ideal S16384x1024 .f32)
    (h : ∀ r j, x0 (ix2 r j) = a (ix2 (KRow.arow i r) j)) (r : Fin 256) (q : Fin 2048) :
    KOut.block i x0 r q = result a (ix2 (KRow.arow i r) q) := by
  have hq := q.isLt
  by_cases hl : q.val < 1024
  · rw [KOut.block_left i x0 r ⟨q.val, hl⟩ q rfl, result_left a _ ⟨q.val, hl⟩ q rfl, h]
  · rw [KOut.block_right i x0 r ⟨q.val - 1024, by omega⟩ q (show q.val = 1024 + (q.val - 1024) by omega),
      result_right a _ ⟨q.val - 1024, by omega⟩ q (show q.val = 1024 + (q.val - 1024) by omega)]

/-- The kernel's array after its run. -/
theorem array (m : (ℓ : Loc nD τ sig) → Buf (Elt Ideal) ℓ) (c : Dev nD) :
    (dats m 0 c).arrAt 1 cfg0.N = result (m ((c : Thread nD τ).loc main_arg0)) := by
  refine (dats m 0 c).arrAt_eq_of_covers 1 _ (by decide +kernel) fun t hf y => ?_
  blk_simp
  rw [after0_1, KOut.out_at]
  have hx : ∀ (r : Fin 256) (j : Fin 1024), iblk m c 0 t (ix2 r j)
      = (m ((c : Thread nD τ).loc main_arg0) : Vec Ideal S16384x1024 .f32) (ix2 (KRow.arow (grid0.coords t) r) j) := fun r j => by
    blk_ext [iblk, V, (points t).1]
    rfl
  refine (block_result (grid0.coords t) (iblk m c 0 t) (m ((c : Thread nD τ).loc main_arg0)) hx (y 0) (y 1)).trans ?_
  refine congrArg (result (m ((c : Thread nD τ).loc main_arg0))) ?_
  blk_ext [(points t).2]
  rfl

end Cert.KVal

end
-- ==== Proof.RefRand.lean ====
/- The bounded integers the reference draws per row. -/
module

public import proofs.«01_k».proof.Proof.RefInt

@[expose] public section

noncomputable section

namespace Cert.RefInt

open Idealize.ShloMosaic Idealize.ShloMosaic.StableHlo Cert.ReferenceIdeal Cert.ReferenceIdeal.Gen Cert.Line Cert.RefLine Cert.Tf
open Cert.TfH

variable {F : FTy → Type} [FloatOps F] [Cert.ReferenceIdeal.Facts]
variable (W : Valuation τ sig (Elt F))

set_option maxHeartbeats 2000000 in
/-- The bounded integers: at a row, the second half-key's draw of the row's number, its remainder by 1024. -/
theorem rand_at (a0 : TRef sig ⟨S2, .i32⟩) (a1 a2 : TRef sig ⟨S_, .i32⟩) (φ : fn_randint.Bufs)
    (h : (rand a0 a1 a2 φ).eqs W) (h1 : val W a1 = constantI S_ 32 0#32) (h2 : val W a2 = constantI S_ 32 1024#32)
    (r : Fin 16384) :
    (val W φ.v65 : IVec S16384 32) (ix1 r) =
      (let k := tf ((val W a0 : IVec S2 32) (ix1 0)) ((val W a0 : IVec S2 32) (ix1 1)) 0#32 1#32
       draw k.1 k.2 0#32 (BitVec.ofNat 32 r.val) % 1024#32) := by
  obtain ⟨⟨c, c0, c1, ⟨d0, d1, -⟩, e1, c2, c3, ⟨d2, d3, -⟩, e3, c4, c5, ⟨d4, d5, -⟩, e5, e6, e7, es, e9, e10, e11, e12,
    e13, e14, e15, e16, e17, c6, e18, e19, c7, e20, e21, e22, e23, et, e25, e26, e27, e28, e29, e30, c8, e31, e32, c9,
    e33, e34, e35, e36, et', e38, e39, e40, e41, c10, e42, e43, e44, e45, e46, c11, -⟩,
    ⟨e47, e48, e49, c12, e50, e51, e52, e53, e54, e55, e56, e57, e58, e59, e60, e61, e62, e63, e64, e65, -⟩⟩ := h
  have h6 : val W φ.v6 = constantI S1 32 0#32 := by
    rw [e6, e3, d3, d2, c3, c2, h1]; sl_kernel_rfl
  have h7 : val W φ.v7 = constantI S1 32 1024#32 := by
    rw [e7, e5, d5, d4, c5, c4, h2]; sl_kernel_rfl
  have h49 : val W φ.v49 = constantI S1 32 1024#32 := by
    rw [e49, e48, e47, c11, e46, e45, e44, e43, e42, c10, e41, e40, e39, h6, h7, e1, h2, d1, d0, c1, c0, c]; sl_kernel_rfl
  have h53 : val W φ.v53 = constantI S1 32 0#32 := by
    rw [e53, e52, e51, e50, c12, h49]; sl_kernel_rfl
  have hc := counter (n := 16384) (by decide) e30 c8 e31 e32 c9 e33 e34 e35 e36 r
  have ht := tfB_at W φ.v27 φ.v29 φ.v36 φ.v35 φ.call5 et' (ix1 r)
  have hs := splitB_at W a0 φ.call3 es 1
  have k0 := (word 0 e26 e27).trans (keyRow 1 e11 e12 0)
  have k1 := (word 1 e28 e29).trans (keyRow 1 e11 e12 1)
  have h38 : (val W φ.v38 : IVec S16384 32) (ix1 r) =
      (let k := tf ((val W a0 : IVec S2 32) (ix1 0)) ((val W a0 : IVec S2 32) (ix1 1)) 0#32 1#32
       draw k.1 k.2 0#32 (BitVec.ofNat 32 r.val)) := by
    rw [hc.1, hc.2, k0, k1] at ht
    rw [e38]
    have q1 := congrArg Prod.fst ht
    have q2 := congrArg Prod.snd ht
    have s1 := congrArg Prod.fst hs
    have s2 := congrArg Prod.snd hs
    dsimp only at q1 q2 s1 s2
    show _ ^^^ _ = draw _ _ _ _
    rw [q1, q2, s1, s2]
    rfl
  have key : ∀ x y z : BitVec 32, z + (x * 0#32 + y % 1024#32) % 1024#32 = z + y % 1024#32 := by
    intro x y z
    rw [BitVec.mul_zero, BitVec.zero_add]
    congr 1
    apply BitVec.eq_of_toNat_eq
    simp
  rw [e65, e64, e63, e62, e61, e60, e59, e58, e57, e56, e55, e54, h6, h49, h53]
  refine Eq.trans (key _ _ _) ?_
  rw [h38]
  exact BitVec.zero_add _

end Cert.RefInt

end
-- ==== Proof.RefSort.lean ====
/- The reference's stable argsort and the read along the sorted positions. -/
module

public import proofs.«01_k».proof.Proof.RefUnif
public import proofs.«01_k».proof.Proof.Order
public import Idealize.ShloMosaic.Lib.ReduceAll

@[expose] public section

noncomputable section

namespace Cert.RefSort

open Idealize.ShloMosaic Idealize.ShloMosaic.StableHlo Cert.ReferenceIdeal Cert.ReferenceIdeal.Gen Cert.Line Cert.RefLine
open Cert.RefInt Cert.RefUnif

section Argsort

variable [Cert.ReferenceIdeal.Facts]

/-- The comparison cleans signed zeros and undefined values first; on numbers that changes nothing. -/
theorem clean (x nan : Ideal .f32) :
    Scalar.select (FloatOps.cmpf (F := Ideal) (φ := .f32) .une x x) nan
      (Scalar.select (FloatOps.cmpf (F := Ideal) (φ := .f32) .oeq x (FloatOps.ofBits .f32 0#32)) (FloatOps.ofBits .f32 0#32) x) = x := by
  have h : FloatOps.cmpf (F := Ideal) (φ := .f32) .une x x = 0#1 := by
    show BitVec.ofBool (decide (x ≠ x)) = 0#1
    simp
  rw [h]
  show (if (0#1 : BitVec 1) = 1 then _ else (if BitVec.ofBool (decide (x = Ideal.ofBits .f32 0#32)) = 1 then Ideal.ofBits .f32 0#32 else x)) = x
  rw [if_neg (by decide)]
  by_cases e : x = Ideal.ofBits .f32 0#32
  · rw [decide_eq_true e]
    exact (if_pos rfl).trans e.symm
  · rw [decide_eq_false e]
    exact if_neg (by decide)

/-- The order's comparison of two draws compares the top bits of their random words. -/
theorem before (a b : BitVec 32) (i k : BitVec 32) :
    (comparator_f32_i32_d1 (F := Ideal) (unit a, i) (unit b, k) == 1#1) = decide (Word.top a < Word.top b) := by
  have h : comparator_f32_i32_d1 (F := Ideal) (unit a, i) (unit b, k) = BitVec.ofBool (decide (unit a < unit b)) := by
    show FloatOps.cmpfTotal (F := Ideal) (φ := .f32) .lt _ _ = _
    rw [clean, clean]
    rfl
  rw [h]
  by_cases e : Word.top a < Word.top b
  · rw [decide_eq_true e, decide_eq_true ((unit_lt a b).mpr e)]
    rfl
  · rw [decide_eq_false e, decide_eq_false (fun h => e ((unit_lt a b).mp h))]
    rfl

variable (W : Valuation τ sig (Elt Ideal))

/-- An index with its column replaced. -/
theorem along_eq {n m : Nat} (r : Fin n) (j k : Fin m) : Shape.Idx.along (s := ⟨2, ![n, m]⟩) (ix2 r j) (1 : Fin 2) k = ix2 r k :=
  funext fun a => by match a with
    | ⟨0, _⟩ => rfl
    | ⟨1, _⟩ => rfl

/-- The second result of sorting pairs along the columns of a rectangle, read at an entry. -/
theorem sort2_snd {n m : Nat} {α β : Type} (cmp : α × β → α × β → BitVec 1) (x : (⟨2, ![n, m]⟩ : Shape).Idx → α)
    (y : (⟨2, ![n, m]⟩ : Shape).Idx → β) (r : Fin n) (j : Fin m) :
    (Host.sort2 ⟨2, ![n, m]⟩ 1 cmp x y).2 (ix2 r j)
      = y (ix2 r (sortedFrom (fun k k' : Fin m => cmp (x (ix2 r k), y (ix2 r k)) (x (ix2 r k'), y (ix2 r k')) == 1#1) j)) := by
  unfold Host.sort2
  rw [dif_pos (show 1 < 2 by decide)]
  refine congrArg y ((along_eq r j _).trans (congrArg (ix2 r) ?_))
  refine congrArg (fun f : Fin m → Fin m → Bool => sortedFrom f j) ?_
  funext k k'
  have e := along_eq r j k
  have e' := along_eq r j k'
  exact congrArg₂ (fun a b => cmp (x a, y a) (x b, y b) == 1#1) e e'

/-- The argsort of draws lists, in each row, the positions in stable order of the top bits of the random words. -/
theorem asort_at (a0 : TRef sig ⟨S16384x1024, .f32⟩) (φ : fn_argsort.Bufs) (h : (asort a0 φ).eqs W) (b : IVec S16384x1024 32)
    (hb : ∀ i, (val W a0 : FVec Ideal S16384x1024 .f32) i = unit (b i)) (r : Fin 16384) (j : Fin 1024) :
    (val W φ.v1_1 : IVec S16384x1024 32) (ix2 r j)
      = BitVec.ofNat 32 (Order.place (fun k => Word.top (b (ix2 r k))) j).val := by
  obtain ⟨e0, e1, e2, -⟩ := h
  have hx : (val W a0 : FVec Ideal S16384x1024 .f32) = fun i => unit (b i) := funext hb
  rw [e2, e0]
  refine (sort2_snd _ _ _ r j).trans ?_
  rw [hx]
  show BitVec.ofNat 32 (Fin.val _) = _
  refine congrArg (fun f : Fin 1024 → Fin 1024 → Bool => BitVec.ofNat 32 (sortedFrom f j).val) ?_
  funext k k'
  exact before _ _ _ _

end Argsort

end Cert.RefSort

end
-- ==== Proof.RefTake.lean ====
/- The reference's read of the mask along the sorted positions. -/
module

public import proofs.«01_k».proof.Proof.RefSort

@[expose] public section

noncomputable section

namespace Cert.RefTake

open Idealize.ShloMosaic Idealize.ShloMosaic.StableHlo Cert.ReferenceIdeal Cert.ReferenceIdeal.Gen Cert.Line Cert.RefLine
open Cert.RefInt

variable {F : FTy → Type} [FloatOps F] [Cert.ReferenceIdeal.Facts]
variable (W : Valuation τ sig (Elt F))

/-- The read along columns: the entry of the same row at the position the index names. -/
theorem gather_at {α : Type} (x : S16384x1024.Idx → α) (idx : IVec S16384x1024x1 32) (r : Fin 16384) (j p : Fin 1024)
    (hp : idx (ix3 r j 0) = BitVec.ofNat 32 p.val) :
    Host.gather gather_S16384x1024_S16384x1024x1_S16384x1024_n_1_0_0_1_2_11 x idx (ix2 r j) = x (ix2 r p) := by
  unfold Host.gather
  refine congrArg x (funext fun a => Fin.ext ?_)
  generalize hd : gather_S16384x1024_S16384x1024x1_S16384x1024_n_1_0_0_1_2_11 = d
  match a with
  | ⟨0, _⟩ =>
    have h1 : d.start (ix2 r j) idx 0 = 0 := d.start_batching _ _ _ (by subst hd; decide)
    have h2 : d.offCoord (ix2 r j) 0 = 0 := d.offCoord_eq_zero _ _ (by subst hd; rw [GatherDims.mem_sKept]; decide)
    have h3 : d.batchCoord (ix2 r j) 0 = r.val := by
      subst hd
      rfl
    show d.start (ix2 r j) idx 0 + d.batchCoord (ix2 r j) 0 + d.offCoord (ix2 r j) 0 = r.val
    rw [h1, h2, h3, Nat.zero_add, Nat.add_zero]
  | ⟨1, _⟩ =>
    have h2 : d.offCoord (ix2 r j) 1 = 0 := d.offCoord_eq_zero _ _ (by subst hd; rw [GatherDims.mem_sKept]; decide)
    have h3 : d.batchCoord (ix2 r j) 1 = 0 := d.batchCoord_eq_zero _ _ (by subst hd; decide)
    have h1 : d.start (ix2 r j) idx 1 = p.val := by
      have hm : (1 : Fin 2) ∈ d.startIndexMap := by subst hd; decide
      unfold GatherDims.start
      rw [dif_pos hm]
      have e : d.siIdx (ix2 r j) ⟨d.startIndexMap.idxOf 1, List.idxOf_lt_length_iff.2 hm⟩ = ix3 r j 0 := by
        subst hd
        funext b
        match b with
        | ⟨0, _⟩ => exact Fin.ext rfl
        | ⟨1, _⟩ => exact Fin.ext rfl
        | ⟨2, _⟩ => exact Fin.ext rfl
      have hs : d.sliceSizes 1 = 1 := by subst hd; rfl
      rw [e, hp, hs]
      have := p.isLt
      have ht : (BitVec.ofNat 32 p.val).toInt = (p.val : Int) := by
        rw [BitVec.toInt_eq_toNat_cond, BitVec.toNat_ofNat, Nat.mod_eq_of_lt (by omega), if_pos (by omega)]
      rw [ht]
      show min (Int.toNat (p.val : Int)) (1024 - 1) = p.val
      omega
    show d.start (ix2 r j) idx 1 + d.batchCoord (ix2 r j) 1 + d.offCoord (ix2 r j) 1 = p.val
    rw [h1, h2, h3, Nat.add_zero]

/-- A position as a signed word. -/
theorem pos_toInt (p : Fin 1024) : (BitVec.ofNat 32 p.val).toInt = (p.val : Int) := by
  have := p.isLt
  rw [BitVec.toInt_eq_toNat_cond, BitVec.toNat_ofNat, Nat.mod_eq_of_lt (by omega), if_pos (by omega)]

/-- A rectangle as a table of one-entry index vectors, read back. -/
theorem table_at {α : Type} (x : S16384x1024.Idx → α) (h : S16384x1024.ShapeCasts S16384x1024x1) (r : Fin 16384) (j : Fin 1024)
    (k : Fin 1) : shapeCast S16384x1024x1 x h (ix3 r j k) = x (ix2 r j) := by
  refine congrArg x (Shape.reshapeEquiv_eq_of_rowMajor h ?_)
  rw [Shape.rowMajor_val_two, Shape.rowMajor_val_three]
  have := k.isLt
  show r.val * 1024 + j.val = (r.val * 1024 + j.val) * 1 + k.val
  omega

set_option maxHeartbeats 1000000 in
/-- Where every index is a position of the row, the result is the operand's entry at that position. -/
theorem take_at (a0 : TRef sig ⟨S16384x1024, .i1⟩) (a1 : TRef sig ⟨S16384x1024, .i32⟩) (φ : fn_take_along_axis.Bufs)
    (h : (take a0 a1 φ).eqs W) (p : Fin 16384 → Fin 1024 → Fin 1024)
    (hp : ∀ r j, (val W a1 : IVec S16384x1024 32) (ix2 r j) = BitVec.ofNat 32 (p r j).val) (r : Fin 16384) (j : Fin 1024) :
    (val W φ.v15 : IVec S16384x1024 1) (ix2 r j) = (val W a0 : IVec S16384x1024 1) (ix2 r (p r j)) := by
  obtain ⟨ec, e0, e1, ec0, e2, e3, e4, e5, ec1, ec2, e6, e7, e8, e9, e10, e11, ec3, e12, e13, ec4, e14, e15, -⟩ := h
  have g1 : ∀ r j, (val W φ.v1 : IVec S16384x1024 1) (ix2 r j) = 0#1 := fun r j => by
    rw [e1, e0, ec]
    show BitVec.ofBool (BitVec.slt ((val W a1 : IVec S16384x1024 32) (ix2 r j)) 0#32) = 0#1
    rw [hp]
    unfold BitVec.slt
    rw [pos_toInt]
    have := (p r j).isLt
    rw [decide_eq_false (by show ¬ ((p r j).val : Int) < 0; omega)]
    rfl
  have g4 : ∀ r j, (val W φ.v4 : IVec S16384x1024 32) (ix2 r j) = BitVec.ofNat 32 (p r j).val := fun r j => by
    rw [e4]
    refine Eq.trans ?_ (hp r j)
    show (if (val W φ.v1 : IVec S16384x1024 1) (ix2 r j) = 1 then _ else _) = _
    rw [g1]
    exact if_neg (show ¬ ((0#1 : BitVec 1) = 1#1) from fun e => absurd (congrArg BitVec.toNat e) (by decide))
  have g5 : ∀ r j k, (val W φ.v5 : IVec S16384x1024x1 32) (ix3 r j k) = BitVec.ofNat 32 (p r j).val := fun r j k => by
    rw [e5]
    exact (table_at _ _ r j k).trans (g4 r j)
  have k11 : ∀ r j k, (val W φ.v11 : IVec S16384x1024x1 1) (ix3 r j k) = 1#1 := fun r j k => by
    rw [e11, e7, e10, e6, e9, e8, ec2, ec1]
    show (BitVec.ofBool (BitVec.sle 0#32 ((val W φ.v5 : IVec S16384x1024x1 32) (ix3 r j k)))
      &&& BitVec.ofBool (BitVec.sle ((val W φ.v5 : IVec S16384x1024x1 32) (ix3 r j k)) 1023#32)) = 1#1
    rw [g5]
    unfold BitVec.sle
    rw [pos_toInt]
    have := (p r j).isLt
    rw [decide_eq_true (by show (0 : Int) ≤ ((p r j).val : Int); omega),
      decide_eq_true (by show ((p r j).val : Int) ≤ 1023; omega)]
    rfl
  have g11 : ∀ i, (val W φ.v11 : IVec S16384x1024x1 1) i = 1#1 := fun i =>
    (congrArg (val W φ.v11 : IVec S16384x1024x1 1) (eq_ix3 (n0 := 16384) (n1 := 1024) (n2 := 1) i)).trans (k11 _ _ _)
  have g12 : (val W φ.v12 : IVec S16384x1024 1) (ix2 r j) = 1#1 := by
    rw [e12, ec3]
    exact Host.reduce_andi_one _ _ _ _ _ rfl g11
  have g13 : (val W φ.v13 : IVec S16384x1024 1) (ix2 r j) = (val W a0 : IVec S16384x1024 1) (ix2 r (p r j)) := by
    rw [e13]
    exact gather_at _ _ r j (p r j) (g5 r j 0)
  rw [e15]
  show (if (val W φ.v12 : IVec S16384x1024 1) (ix2 r j) = 1 then (val W φ.v13 : IVec S16384x1024 1) (ix2 r j) else _) = _
  rw [g12]
  exact (if_pos rfl).trans g13

end Cert.RefTake

end
-- ==== Proof.RefMain.lean ====
/- The reference's result, read at an entry. -/
module

public import proofs.«01_k».proof.Proof.RefRun
public import proofs.«01_k».proof.Proof.RefRand
public import proofs.«01_k».proof.Proof.RefTake
public import proofs.«01_k».proof.Proof.Spec
public import Idealize.ShloMosaic.Lib.StableHlo.Predicate

@[expose] public section

noncomputable section

namespace Cert.RefMain

open Idealize.ShloMosaic Idealize.ShloMosaic.StableHlo Cert.ReferenceIdeal Cert.ReferenceIdeal.Gen Cert.Line Cert.RefLine Cert.Tf
open Cert.RefInt Cert.RefUnif Cert.RefSort Cert.RefTake

variable [Cert.ReferenceIdeal.Facts]
variable (W : Valuation τ sig (Elt Ideal))

/-- The seed's two half-keys, and the second half of the first. -/
theorem key_counts : tf 0#32 1234#32 0#32 0#32 = (1264997412#32, 2518116175#32) := by decide +kernel
theorem key_shuffle : tf 0#32 1234#32 0#32 1#32 = (2877103387#32, 1697627890#32) := by decide +kernel
theorem key_rows : tf 1264997412#32 2518116175#32 0#32 1#32 = (2352926074#32, 781486348#32) := by decide +kernel

/-- The mask before the shuffle: position against count. -/
theorem slt_positions (k : Fin 1024) (c : BitVec 32) (hc : c.toNat < 1024) :
    BitVec.slt (BitVec.ofNat 32 k.val) c = decide (k.val < c.toNat) := by
  have := k.isLt
  rw [Word.slt_small _ _ (by rw [BitVec.toNat_ofNat, Nat.mod_eq_of_lt (by omega)]; omega) (by omega), BitVec.toNat_ofNat,
    Nat.mod_eq_of_lt (by omega)]

section Halves
variable {α : Type}

/-- Two rectangles side by side, read in the left one. -/
theorem left_half (x y : S16384x1024.Idx → α) (h : Shape.Concatenates [S16384x1024, S16384x1024] S16384x2048 1) (r : Fin 16384)
    (j : Fin 1024) : concatenate S16384x2048 1 [⟨S16384x1024, x⟩, ⟨S16384x1024, y⟩] h (ix2 r ⟨j.val, by omega⟩) = x (ix2 r j) := by
  rw [concatenate_pair_apply]
  refine (dif_pos (show j.val < 1024 from j.isLt)).trans ?_
  exact congrArg x (funext fun a => by match a with
    | ⟨0, _⟩ => rfl
    | ⟨1, _⟩ => rfl)

/-- Two rectangles side by side, read in the right one. -/
theorem right_half (x y : S16384x1024.Idx → α) (h : Shape.Concatenates [S16384x1024, S16384x1024] S16384x2048 1) (r : Fin 16384)
    (j : Fin 1024) : concatenate S16384x2048 1 [⟨S16384x1024, x⟩, ⟨S16384x1024, y⟩] h (ix2 r ⟨1024 + j.val, by omega⟩) = y (ix2 r j) := by
  rw [concatenate_pair_apply]
  refine (dif_neg (show ¬ 1024 + j.val < 1024 by omega)).trans ?_
  exact congrArg y (funext fun a => by match a with
    | ⟨0, _⟩ => rfl
    | ⟨1, _⟩ => exact Fin.ext (Nat.add_sub_cancel_left 1024 j.val))

end Halves

/-- Each row of the position table lists the positions. -/
theorem positions {v13 : IVec S1024 32} {v14 : IVec S1x1024 32} {v16 : IVec S16384x1024 32} {h1 : S1024.BroadcastsInDim S1x1024 ![1]}
    {h2 : S1x1024.BroadcastsInDim S16384x1024 ![0, 1]} (e13 : v13 = iotaInDim S1024 32 0) (e14 : v14 = broadcastInDim S1x1024 ![1] h1 v13)
    (e16 : v16 = broadcastInDim S16384x1024 ![0, 1] h2 v14) (r : Fin 16384) (k : Fin 1024) : v16 (ix2 r k) = BitVec.ofNat 32 k.val := by
  subst e13 e14 e16
  exact Predicate.bcast_cols h1 h2 (iotaInDim S1024 32 0) r k

/-- Each column of the count table lists the counts. -/
theorem counts {v12 : IVec S16384 32} {v15 : IVec S16384x1 32} {v17 : IVec S16384x1024 32} {h1 : S16384.BroadcastsInDim S16384x1 ![0]}
    {h2 : S16384x1.BroadcastsInDim S16384x1024 ![0, 1]} (e15 : v15 = broadcastInDim S16384x1 ![0] h1 v12)
    (e17 : v17 = broadcastInDim S16384x1024 ![0, 1] h2 v15) (r : Fin 16384) (k : Fin 1024) : v17 (ix2 r k) = v12 (ix1 r) := by
  subst e15 e17
  exact (Predicate.bcast_rows h1 h2 v12 r k).trans (congrArg v12 (funext fun a => by match a with | ⟨0, _⟩ => rfl))

/-- The seed as two words: zero and 1234. -/
theorem seed {c c0 c1 v0 v1 v3 v4 : IVec S_ 32} {v2 v5 : IVec S1 32} {v6 : IVec S2 32} {hb : S_.BroadcastsInDim S1 ![]}
    {hc : Shape.Concatenates [S1, S1] S2 0} (ec : c = constantI S_ 32 1234#32) (ec0 : c0 = constantI S_ 32 32#32)
    (e0 : v0 = Host.shrui c c0) (e1 : v1 = id v0) (e2 : v2 = broadcastInDim S1 ![] hb v1) (ec1 : c1 = constantI S_ 32 4294967295#32)
    (e3 : v3 = andi c c1) (e4 : v4 = id v3) (e5 : v5 = broadcastInDim S1 ![] hb v4)
    (e6 : v6 = concatenate S2 0 [⟨S1, v2⟩, ⟨S1, v5⟩] hc) : v6 (ix1 0) = 0#32 ∧ v6 (ix1 1) = 1234#32 := by
  have h2 : ∀ i, v2 i = 0#32 := fun i => by
    subst ec ec0 e0 e1 e2
    show (if (32#32 : BitVec 32).toNat < 32 then (1234#32 : BitVec 32) >>> (32#32 : BitVec 32) else IntOp.cornerWord .host .shrui 1234#32 32#32) = 0#32
    rw [if_neg (by decide)]
    rfl
  have h5 : ∀ i, v5 i = 1234#32 := fun i => by
    subst ec ec1 e3 e4 e5
    show (1234#32 &&& 4294967295#32 : BitVec 32) = 1234#32
    decide
  subst e6
  constructor
  · rw [concatenate_pair_apply]
    exact (dif_pos (show 0 < 1 by decide)).trans (h2 _)
  · rw [concatenate_pair_apply]
    exact (dif_neg (show ¬ 1 < 1 by decide)).trans (h5 _)

/-- The two half-keys the program draws from. -/
theorem keys (d : Dev nD) (h : (mainL (F := Ideal) d).eqs W) :
    ((val W (.of main_v9) : IVec S2 32) (ix1 0) = 1264997412#32 ∧ (val W (.of main_v9) : IVec S2 32) (ix1 1) = 2518116175#32)
    ∧ (val W (.of main_v11) : IVec S2 32) (ix1 0) = 2877103387#32 ∧ (val W (.of main_v11) : IVec S2 32) (ix1 1) = 1697627890#32 := by
  obtain ⟨ec, ec0, e0, e1, e2, ec1, e3, e4, e5, e6, es, e8, e9, e10, e11, ec2, ec3, er, e13, e14, e15, e16, e17, e18,
    ecst, ecst4, eu, ea, et, e22, e23, e24, -⟩ := h
  have hseed := seed ec ec0 e0 e1 e2 ec1 e3 e4 e5 e6
  have hs0 := splitA_at W (.of main_v6) main_call0 es 0
  have hs1 := splitA_at W (.of main_v6) main_call0 es 1
  have h60 : (val W (.of main_v6) : IVec S2 32) (ix1 0) = 0#32 := hseed.1
  have h61 : (val W (.of main_v6) : IVec S2 32) (ix1 1) = 1234#32 := hseed.2
  rw [h60, h61] at hs0 hs1
  have hs0' := hs0.trans key_counts
  have hs1' := hs1.trans key_shuffle
  exact ⟨⟨(keyRow 0 e8 e9 0).trans (congrArg Prod.fst hs0'), (keyRow 0 e8 e9 1).trans (congrArg Prod.snd hs0')⟩,
    (keyRow 1 e10 e11 0).trans (congrArg Prod.fst hs1'), (keyRow 1 e10 e11 1).trans (congrArg Prod.snd hs1')⟩

/-- The counts the program draws. -/
theorem count_at (d : Dev nD) (h : (mainL (F := Ideal) d).eqs W) (r : Fin 16384) :
    (W (Proc.devRef .tc main_v12) : IVec S16384 32) (ix1 r) = Spec.count r := by
  have hk := (keys W d h).1
  obtain ⟨ec, ec0, e0, e1, e2, ec1, e3, e4, e5, e6, es, e8, e9, e10, e11, ec2, ec3, er, e13, e14, e15, e16, e17, e18,
    ecst, ecst4, eu, ea, et, e22, e23, e24, -⟩ := h
  have q := rand_at W (.of main_v9) (.of main_c_2) (.of main_c_3) main_call1 er ec2 ec3 r
  rw [hk.1, hk.2, key_rows] at q
  exact q

/-- The sorted positions. -/
theorem place_at (d : Dev nD) (h : (mainL (F := Ideal) d).eqs W) (r : Fin 16384) (j : Fin 1024) :
    (val W (.of main_v20) : IVec S16384x1024 32) (ix2 r j) = BitVec.ofNat 32 (Order.place (Spec.key r) j).val := by
  have hk := (keys W d h).2
  obtain ⟨ec, ec0, e0, e1, e2, ec1, e3, e4, e5, e6, es, e8, e9, e10, e11, ec2, ec3, er, e13, e14, e15, e16, e17, e18,
    ecst, ecst4, eu, ea, et, e22, e23, e24, -⟩ := h
  have h19 := fun i => unif_at W (.of main_v11) (.of main_cst) (.of main_cst_4) main_call2 eu ecst ecst4 i
  have hsort := asort_at W (.of main_v19) main_call3 ea _ h19 r j
  refine hsort.trans (congrArg (fun f => BitVec.ofNat 32 (Order.place f j).val) (funext fun k => ?_))
  have h20 := word_at W (.of main_v11) (.of main_cst) (.of main_cst_4) main_call2 eu r k
  rw [hk.1, hk.2] at h20
  exact congrArg Word.top h20

/-- The mask before the shuffle. -/
theorem mask_at (d : Dev nD) (h : (mainL (F := Ideal) d).eqs W) (r : Fin 16384) (k : Fin 1024) :
    (val W (.of main_v18) : IVec S16384x1024 1) (ix2 r k) = BitVec.ofBool (decide (k.val < (Spec.count r).toNat)) := by
  have h12 := count_at W d h r
  obtain ⟨ec, ec0, e0, e1, e2, ec1, e3, e4, e5, e6, es, e8, e9, e10, e11, ec2, ec3, er, e13, e14, e15, e16, e17, e18,
    ecst, ecst4, eu, ea, et, e22, e23, e24, -⟩ := h
  have a := positions e13 e14 e16 r k
  have b := (counts e15 e17 r k).trans h12
  show (W (Proc.devRef .tc main_v18) : IVec S16384x1024 1) (ix2 r k) = _
  rw [e18]
  show BitVec.ofBool (BitVec.slt ((W (Proc.devRef .tc main_v16) : IVec S16384x1024 32) (ix2 r k))
    ((W (Proc.devRef .tc main_v17) : IVec S16384x1024 32) (ix2 r k))) = _
  rw [a, b, slt_positions _ _ (Spec.count_lt r)]

/-- The mask's bit as a number. -/
theorem bit_real (b : Bool) : ((((BitVec.ofBool b).toNat : ℝ)) : EReal) = if b = true then 1 else 0 := by
  cases b
  · simp
  · simp

/-- The gate array, from any shuffle's positions and any mask. -/
theorem gate_of (d : Dev nD) (h : (mainL (F := Ideal) d).eqs W) (p : Fin 16384 → Fin 1024 → Fin 1024) (m : Fin 16384 → Fin 1024 → Bool)
    (hp : ∀ r j, (val W (.of main_v20) : IVec S16384x1024 32) (ix2 r j) = BitVec.ofNat 32 (p r j).val)
    (hm : ∀ r k, (val W (.of main_v18) : IVec S16384x1024 1) (ix2 r k) = BitVec.ofBool (m r k)) (r : Fin 16384) (j : Fin 1024) :
    (W (Proc.devRef .tc main_v22) : FVec Ideal S16384x1024 .f32) (ix2 r j) = if m r (p r j) = true then (1 : EReal) else 0 := by
  obtain ⟨ec, ec0, e0, e1, e2, ec1, e3, e4, e5, e6, es, e8, e9, e10, e11, ec2, ec3, er, e13, e14, e15, e16, e17, e18,
    ecst, ecst4, eu, ea, et, e22, e23, e24, -⟩ := h
  have h21 := (take_at W (.of main_v18) (.of main_v20) main_call4 et p hp r j).trans (hm r (p r j))
  rw [e22]
  exact (congrArg (fun b : BitVec 1 => (((b.toNat : ℝ)) : EReal)) h21).trans (bit_real _)

/-- Whether an element is kept, from its place. -/
theorem gate_eq (r : Fin 16384) (j : Fin 1024) (p : Fin 1024) (hp : p = Order.place (Spec.key r) j) (m : Fin 1024 → Bool)
    (hm : m = fun k => decide (k.val < (Spec.count r).toNat)) : (if m p = true then (1 : EReal) else 0) = Spec.gate r j := by
  unfold Spec.gate Spec.kept
  rw [← hp, hm]

/-- The gate array the reference forms. -/
theorem gate_at (d : Dev nD) (h : (mainL (F := Ideal) d).eqs W) (r : Fin 16384) (j : Fin 1024) :
    (W (Proc.devRef .tc main_v22) : FVec Ideal S16384x1024 .f32) (ix2 r j) = Spec.gate r j := by
  obtain ⟨p, hp⟩ : ∃ p : Fin 16384 → Fin 1024 → Fin 1024, ∀ r j, p r j = Order.place (Spec.key r) j :=
    ⟨_, fun _ _ => rfl⟩
  obtain ⟨m, hm⟩ : ∃ m : Fin 16384 → Fin 1024 → Bool, ∀ r k, m r k = decide (k.val < (Spec.count r).toNat) :=
    ⟨_, fun _ _ => rfl⟩
  refine (gate_of W d h p m (fun r j => ?_) (fun r k => ?_) r j).trans (gate_eq r j _ (hp r j) _ (funext (hm r)))
  · rw [hp r j]
    exact place_at W d h r j
  · rw [hm r k]
    exact mask_at W d h r k

/-- The left half of the result: the argument times the gate. -/
theorem left_at (d : Dev nD) (h : (mainL (F := Ideal) d).eqs W) (r : Fin 16384) (j : Fin 1024) :
    (W (Proc.devRef .tc main_v24) : FVec Ideal S16384x2048 .f32) (ix2 r ⟨j.val, by omega⟩)
      = Spec.times ((W (Proc.devRef .tc main_arg0) : FVec Ideal S16384x1024 .f32) (ix2 r j)) (Spec.gate r j) := by
  have hg := gate_at W d h r j
  obtain ⟨ec, ec0, e0, e1, e2, ec1, e3, e4, e5, e6, es, e8, e9, e10, e11, ec2, ec3, er, e13, e14, e15, e16, e17, e18,
    ecst, ecst4, eu, ea, et, e22, e23, e24, -⟩ := h
  rw [← hg, e24]
  refine (left_half _ _ _ r j).trans ?_
  rw [e23]
  rfl

/-- The right half of the result: the gate. -/
theorem right_at (d : Dev nD) (h : (mainL (F := Ideal) d).eqs W) (r : Fin 16384) (j : Fin 1024) :
    (W (Proc.devRef .tc main_v24) : FVec Ideal S16384x2048 .f32) (ix2 r ⟨1024 + j.val, by omega⟩) = Spec.gate r j := by
  have hg := gate_at W d h r j
  obtain ⟨ec, ec0, e0, e1, e2, ec1, e3, e4, e5, e6, es, e8, e9, e10, e11, ec2, ec3, er, e13, e14, e15, e16, e17, e18,
    ecst, ecst4, eu, ea, et, e22, e23, e24, -⟩ := h
  rw [← hg, e24]
  exact right_half _ _ _ r j

end Cert.RefMain

end
-- ==== Proof.Alg.lean ====
/- The kernel and the reference leave the same array. -/
module

public import proofs.«01_k».proof.Proof.KVal
public import proofs.«01_k».proof.Proof.RefMain
public import proofs.«01_k».proof.Defs

@[expose] public section

set_option maxRecDepth 16384

noncomputable section

namespace Cert.Alg

open Idealize.ShloMosaic Idealize.ShloMosaic.StableHlo Idealize.SL.Sem

variable [Cert.KernelIdeal.Facts] [Cert.ReferenceIdeal.Facts]

/-- The reference's result is the gate on its argument. -/
theorem reference (W : Valuation Cert.ReferenceIdeal.τ Cert.ReferenceIdeal.sig (Elt Ideal)) (d : Dev Cert.ReferenceIdeal.nD)
    (h : (RefLine.mainL (F := Ideal) d).eqs W) :
    (W (Proc.devRef .tc Cert.ReferenceIdeal.main_v24) : FVec Ideal Cert.ReferenceIdeal.S16384x2048 .f32)
      = KVal.result (W (Proc.devRef .tc Cert.ReferenceIdeal.main_arg0)) := by
  funext i
  obtain ⟨R, q, rfl⟩ : ∃ (R : Fin 16384) (q : Fin 2048), i = ix2 R q := ⟨i 0, i 1, eq_ix2 i⟩
  have hq := q.isLt
  by_cases hl : q.val < 1024
  · exact (RefMain.left_at W d h R ⟨q.val, hl⟩).trans (KVal.result_left _ R ⟨q.val, hl⟩ q rfl).symm
  · have e : q = ⟨1024 + (q.val - 1024), by omega⟩ := Fin.ext (by show q.val = 1024 + (q.val - 1024); omega)
    have hr := RefMain.right_at W d h R ⟨q.val - 1024, by omega⟩
    rw [← e] at hr
    exact hr.trans (KVal.result_right _ R ⟨q.val - 1024, by omega⟩ q (show q.val = 1024 + (q.val - 1024) by omega)).symm

/-- From memories with the same argument, the kernel and the reference end with the same result. -/
theorem algebraic : Cert.algebraic_KernelIdeal_ReferenceIdeal := by
  intro m g m' g' _ hargs
  refine ⟨fun c => (Cert.KernelIdeal.Gen.dats m 0 c).arrAt 1 Cert.KernelIdeal.cfg0.N, Cert.KernelIdeal.Value.run_blocks m g,
    θ_run_mono (RefLine.run m' g') fun r h c => ?_⟩
  obtain ⟨W, h1, h2, h3⟩ := h.1 c
  refine ⟨?_, by rw [h1, h3]⟩
  rw [h1]
  refine (reference W c h2).trans (((congrArg KVal.result (h3.trans (hargs c)))).trans (KVal.array m c).symm)

end Cert.Alg

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefRun
public import proofs.«01_k».proof.Proof.Alg

@[expose] public section

noncomputable section

namespace Cert.Proof

open Idealize.ShloMosaic Idealize.SL.Sem

/-- Every claim of the certificate. -/
theorem claim : Cert.Claim := by
  haveI := Cert.Kernel.Gen.facts
  haveI := Cert.KernelIdeal.Gen.facts
  haveI := Cert.ReferenceIdeal.Gen.facts
  exact ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.RefLine.frame m ρ, trivial, Cert.Alg.algebraic⟩

end Cert.Proof

end
